-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ple_finite [hPre_ple_finite : Cert.Pre_ple_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ple_finite [hPre_ple_finite : Cert.Pre_ple_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_ln_finite [hPre_ln_finite : Cert.Pre_ln_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ln_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ln_finite [hPre_ln_finite : Cert.Pre_ln_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ln_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_ple_finite [hKernel5Ideal : Cert.Kernel5Ideal.Facts] [hPre_ple_finite : Cert.Pre_ple_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ple_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_ple_finite [hReference5Ideal : Cert.Reference5Ideal.Facts] [hPre_ple_finite : Cert.Pre_ple_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ple_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_ln_finite [hKernel6Ideal : Cert.Kernel6Ideal.Facts] [hPre_ln_finite : Cert.Pre_ln_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_ln_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_ln_finite [hReference6Ideal : Cert.Reference6Ideal.Facts] [hPre_ln_finite : Cert.Pre_ln_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ln_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7_1)) (v1 : (c : Dev Cert.Kernel2Ideal.nD) → Buf (Elt Ideal) ((c.tc : Thread Cert.Kernel2Ideal.nD Cert.Kernel2Ideal.τ).loc Cert.Kernel2Ideal.main_v12)) (v2 : (c : Dev Cert.Kernel2Ideal.nD) → Buf (Elt Ideal) ((c.tc : Thread Cert.Kernel2Ideal.nD Cert.Kernel2Ideal.τ).loc Cert.Kernel2Ideal.main_v11)) (v3 : (c : Dev Cert.Kernel2Ideal.nD) → Buf (Elt Ideal) ((c.tc : Thread Cert.Kernel2Ideal.nD Cert.Kernel2Ideal.τ).loc Cert.Kernel2Ideal.main_v8)) (v4 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_1) = v0 c
          ∧ r.2.mem ((c.tc : Thread Cert.Kernel2Ideal.nD Cert.Kernel2Ideal.τ).loc Cert.Kernel2Ideal.main_v12) = v1 c
          ∧ r.2.mem ((c.tc : Thread Cert.Kernel2Ideal.nD Cert.Kernel2Ideal.τ).loc Cert.Kernel2Ideal.main_v11) = v2 c
          ∧ r.2.mem ((c.tc : Thread Cert.Kernel2Ideal.nD Cert.Kernel2Ideal.τ).loc Cert.Kernel2Ideal.main_v8) = v3 c
          ∧ r.2.mem ((c.tc : Thread Cert.Kernel2Ideal.nD Cert.Kernel2Ideal.τ).loc Cert.Kernel2Ideal.main_v13) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v47) = v3 c
          ∧ r.2.mem ((c.tc : Thread Cert.Reference2Ideal.nD Cert.Reference2Ideal.τ).loc Cert.Reference2Ideal.main_v41) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v6)) (v2 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v6) = v1 c
          ∧ r.2.mem ((c.tc : Thread Cert.Kernel3Ideal.nD Cert.Kernel3Ideal.τ).loc Cert.Kernel3Ideal.main_v5) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_v6) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v6_1)) (v1 : (c : Dev Cert.Kernel4Ideal.nD) → Buf (Elt Ideal) ((c.tc : Thread Cert.Kernel4Ideal.nD Cert.Kernel4Ideal.τ).loc Cert.Kernel4Ideal.main_v11)) (v2 : (c : Dev Cert.Kernel4Ideal.nD) → Buf (Elt Ideal) ((c.tc : Thread Cert.Kernel4Ideal.nD Cert.Kernel4Ideal.τ).loc Cert.Kernel4Ideal.main_v13)) (v3 : (c : Dev Cert.Kernel4Ideal.nD) → Buf (Elt Ideal) ((c.tc : Thread Cert.Kernel4Ideal.nD Cert.Kernel4Ideal.τ).loc Cert.Kernel4Ideal.main_v9_2)) (v4 : (c : Dev Cert.Kernel4Ideal.nD) → Buf (Elt Ideal) ((c.tc : Thread Cert.Kernel4Ideal.nD Cert.Kernel4Ideal.τ).loc Cert.Kernel4Ideal.main_v10)) (v5 : (c : Dev Cert.Kernel4Ideal.nD) → Buf (Elt Ideal) ((c.tc : Thread Cert.Kernel4Ideal.nD Cert.Kernel4Ideal.τ).loc Cert.Kernel4Ideal.main_v12)) (v6 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_1) = v0 c
          ∧ r.2.mem ((c.tc : Thread Cert.Kernel4Ideal.nD Cert.Kernel4Ideal.τ).loc Cert.Kernel4Ideal.main_v11) = v1 c
          ∧ r.2.mem ((c.tc : Thread Cert.Kernel4Ideal.nD Cert.Kernel4Ideal.τ).loc Cert.Kernel4Ideal.main_v13) = v2 c
          ∧ r.2.mem ((c.tc : Thread Cert.Kernel4Ideal.nD Cert.Kernel4Ideal.τ).loc Cert.Kernel4Ideal.main_v9_2) = v3 c
          ∧ r.2.mem ((c.tc : Thread Cert.Kernel4Ideal.nD Cert.Kernel4Ideal.τ).loc Cert.Kernel4Ideal.main_v10) = v4 c
          ∧ r.2.mem ((c.tc : Thread Cert.Kernel4Ideal.nD Cert.Kernel4Ideal.τ).loc Cert.Kernel4Ideal.main_v12) = v5 c
          ∧ r.2.mem ((c.tc : Thread Cert.Kernel4Ideal.nD Cert.Kernel4Ideal.τ).loc Cert.Kernel4Ideal.main_v8) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_v59) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_v86) = v4 c
          ∧ r.2.mem ((c.tc : Thread Cert.Reference4Ideal.nD Cert.Reference4Ideal.τ).loc Cert.Reference4Ideal.main_v88) = v5 c
          ∧ r.2.mem ((c.tc : Thread Cert.Reference4Ideal.nD Cert.Reference4Ideal.τ).loc Cert.Reference4Ideal.main_v42) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_ple_finite [hKernel5Ideal : Cert.Kernel5Ideal.Facts] [hReference5Ideal : Cert.Reference5Ideal.Facts] [hPre_ple_finite : Cert.Pre_ple_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ple_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_5)) (v1 : (c : Dev Cert.Kernel5Ideal.nD) → Buf (Elt Ideal) ((c.tc : Thread Cert.Kernel5Ideal.nD Cert.Kernel5Ideal.τ).loc Cert.Kernel5Ideal.main_v0_0)) (v2 : (c : Dev Cert.Kernel5Ideal.nD) → Buf (Elt Ideal) ((c.tc : Thread Cert.Kernel5Ideal.nD Cert.Kernel5Ideal.τ).loc Cert.Kernel5Ideal.main_v0_1)) (v3 : (c : Dev Cert.Kernel5Ideal.nD) → Buf (Elt Ideal) ((c.tc : Thread Cert.Kernel5Ideal.nD Cert.Kernel5Ideal.τ).loc Cert.Kernel5Ideal.main_v0_2)) (v4 : (c : Dev Cert.Kernel5Ideal.nD) → Buf (Elt Ideal) ((c.tc : Thread Cert.Kernel5Ideal.nD Cert.Kernel5Ideal.τ).loc Cert.Kernel5Ideal.main_v0_3)) (v5 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_5) = v0 c
          ∧ r.2.mem ((c.tc : Thread Cert.Kernel5Ideal.nD Cert.Kernel5Ideal.τ).loc Cert.Kernel5Ideal.main_v0_0) = v1 c
          ∧ r.2.mem ((c.tc : Thread Cert.Kernel5Ideal.nD Cert.Kernel5Ideal.τ).loc Cert.Kernel5Ideal.main_v0_1) = v2 c
          ∧ r.2.mem ((c.tc : Thread Cert.Kernel5Ideal.nD Cert.Kernel5Ideal.τ).loc Cert.Kernel5Ideal.main_v0_2) = v3 c
          ∧ r.2.mem ((c.tc : Thread Cert.Kernel5Ideal.nD Cert.Kernel5Ideal.τ).loc Cert.Kernel5Ideal.main_v0_3) = v4 c
          ∧ r.2.mem ((c.tc : Thread Cert.Kernel5Ideal.nD Cert.Kernel5Ideal.τ).loc Cert.Kernel5Ideal.main_v0_4) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v84) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_v55) = v4 c
          ∧ r.2.mem ((c.tc : Thread Cert.Reference5Ideal.nD Cert.Reference5Ideal.τ).loc Cert.Reference5Ideal.main_v52) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_ln_finite [hKernel6Ideal : Cert.Kernel6Ideal.Facts] [hReference6Ideal : Cert.Reference6Ideal.Facts] [hPre_ln_finite : Cert.Pre_ln_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_ln_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v27) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4)) (v1 : (c : Dev Cert.Kernel7Ideal.nD) → Buf (Elt Ideal) ((c.tc : Thread Cert.Kernel7Ideal.nD Cert.Kernel7Ideal.τ).loc Cert.Kernel7Ideal.main_v5)) (v2 : (c : Dev Cert.Kernel7Ideal.nD) → Buf (Elt Ideal) ((c.tc : Thread Cert.Kernel7Ideal.nD Cert.Kernel7Ideal.τ).loc Cert.Kernel7Ideal.main_v8)) (v3 : (c : Dev Cert.Kernel7Ideal.nD) → Buf (Elt Ideal) ((c.tc : Thread Cert.Kernel7Ideal.nD Cert.Kernel7Ideal.τ).loc Cert.Kernel7Ideal.main_v6)) (v4 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_v5) = v1 c
          ∧ r.2.mem ((c.tc : Thread Cert.Kernel7Ideal.nD Cert.Kernel7Ideal.τ).loc Cert.Kernel7Ideal.main_v8) = v2 c
          ∧ r.2.mem ((c.tc : Thread Cert.Kernel7Ideal.nD Cert.Kernel7Ideal.τ).loc Cert.Kernel7Ideal.main_v6) = v3 c
          ∧ r.2.mem ((c.tc : Thread Cert.Kernel7Ideal.nD Cert.Kernel7Ideal.τ).loc Cert.Kernel7Ideal.main_v7) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v1) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_v5) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v4)) (v3 : (c : Dev Cert.Kernel8Ideal.nD) → Buf (Elt Ideal) ((c.tc : Thread Cert.Kernel8Ideal.nD Cert.Kernel8Ideal.τ).loc Cert.Kernel8Ideal.main_v5)) (v4 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v4) = v2 c
          ∧ r.2.mem ((c.tc : Thread Cert.Kernel8Ideal.nD Cert.Kernel8Ideal.τ).loc Cert.Kernel8Ideal.main_v5) = v3 c
          ∧ r.2.mem ((c.tc : Thread Cert.Kernel8Ideal.nD Cert.Kernel8Ideal.τ).loc Cert.Kernel8Ideal.main_v6) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_v44) = v2 c
          ∧ r.2.mem ((c.tc : Thread Cert.Reference8Ideal.nD Cert.Reference8Ideal.τ).loc Cert.Reference8Ideal.main_v27) = v3 c
          ∧ r.2.mem ((c.tc : Thread Cert.Reference8Ideal.nD Cert.Reference8Ideal.τ).loc Cert.Reference8Ideal.main_v22) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_ffn_finite : Cert.Pre_ffn_finite.Facts) (hPre_ple_finite : Cert.Pre_ple_finite.Facts) (hPre_ln_finite : Cert.Pre_ln_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_ple_finite (hKernel5Ideal := hKernel5Ideal) (hPre_ple_finite := hPre_ple_finite)
    ∧ quiescent_Reference5Ideal (hReference5Ideal := hReference5Ideal)
    ∧ quiescent_Reference5Ideal_pre_ple_finite (hReference5Ideal := hReference5Ideal) (hPre_ple_finite := hPre_ple_finite)
    ∧ quiescent_Kernel6 (hKernel6 := hKernel6)
    ∧ quiescent_Kernel6Ideal (hKernel6Ideal := hKernel6Ideal)
    ∧ quiescent_Kernel6Ideal_pre_ln_finite (hKernel6Ideal := hKernel6Ideal) (hPre_ln_finite := hPre_ln_finite)
    ∧ quiescent_Reference6Ideal (hReference6Ideal := hReference6Ideal)
    ∧ quiescent_Reference6Ideal_pre_ln_finite (hReference6Ideal := hReference6Ideal) (hPre_ln_finite := hPre_ln_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_ple_finite (hKernel5Ideal := hKernel5Ideal) (hReference5Ideal := hReference5Ideal) (hPre_ple_finite := hPre_ple_finite)
    ∧ preserves_Kernel6_Kernel6Ideal
    ∧ algebraic_Kernel6Ideal_Reference6Ideal_pre_ln_finite (hKernel6Ideal := hKernel6Ideal) (hReference6Ideal := hReference6Ideal) (hPre_ln_finite := hPre_ln_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_ffn_finite.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bitsLt_bf16_f32 : FTy.bits .bf16 < FTy.bits .f32

variable [Facts]

def fn_part1 {F : FTy → Type} [FloatOps F] (main_v13 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v13 main_v18
  main_v19

def fn {F : FTy → Type} [FloatOps F] (main_arg0 : FVec F S2048x1024 .f32) (main_arg1 : FVec F S1024x5632 .f32) (main_arg2 : FVec F S2816x1024 .f32) (main_arg3 : FVec F S1x1024 .f32) (main_arg4 : FVec F S1x1024 .f32) (main_arg5 : FVec F S2048x1024 .bf16) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x1024 .f32 := (extf .f32 · bitsLt_bf16_f32) main_arg5
  let main_v15 : FVec F S2048x1024 .f32 := Host.absf main_v14
  let main_cst_4 : FVec F S_ .f32 := constant S_ .f32 0x7F800000#32
  let main_v16 : FVec F S2048x1024 .f32 := broadcastInDim S2048x1024 ![] bcast_S_S2048x1024 main_cst_4
  fn_part1 (F := F) main_v13 main_v15 main_v16
-- ==== Pre_ln_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S1x1024 .f32) (main_arg2 : FVec F S1x1024 .f32) (main_arg3 : FVec F S2048x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_ple_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x1024 .f32) (main_arg1 : FVec F S2048x1024 .f32) (main_arg2 : FVec F S2048x1024 .f32) (main_arg3 : FVec F S1x1024 .f32) (main_arg4 : FVec F S1x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S2048x512 : Shape := ⟨2, ![2048, 512]⟩
abbrev S2048x4096 : Shape := ⟨2, ![2048, 4096]⟩
abbrev S3x512 : Shape := ⟨2, ![3, 512]⟩
abbrev S1x512 : Shape := ⟨2, ![1, 512]⟩
abbrev S_ : Shape := ⟨0, ![]⟩
abbrev S8x512 : Shape := ⟨2, ![8, 512]⟩
abbrev S1 : Shape := ⟨1, ![1]⟩
abbrev S512x512 : Shape := ⟨2, ![512, 512]⟩
abbrev S520x512 : Shape := ⟨2, ![520, 512]⟩
abbrev S512 : Shape := ⟨1, ![512]⟩

abbrev nBuf : Space → Nat
  | .hbm => 13
  | .vmem => 27
  | .smem => 0
  | _ => 0

abbrev bufTy : (tb : Table) → Fin (tcTables nBuf tb) → BufTy
  | .hbm, ⟨0, _⟩ => ⟨S2048x512, .f32⟩
  | .hbm, ⟨1, _⟩ => ⟨S2048x4096, .f32⟩
  | .hbm, ⟨2, _⟩ => ⟨S3x512, .f32⟩
  | .hbm, ⟨3, _⟩ => ⟨S1x512, .f32⟩
  | .hbm, ⟨4, _⟩ => ⟨S_, .f32⟩
  | .hbm, ⟨5, _⟩ => ⟨S8x512, .f32⟩
  | .hbm, ⟨6, _⟩ => ⟨S_, .i32⟩
  | .hbm, ⟨7, _⟩ => ⟨S1, .i32⟩
  | .hbm, ⟨8, _⟩ => ⟨S8x512, .f32⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S8x512, .f32⟩
  | .local _ .vmem, ⟨25, _⟩ => ⟨S520x512, .f32⟩
  | .local _ .vmem, ⟨26, _⟩ => ⟨S520x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_47 : BitVec 32 := 0#32
  let v101 : BitVec 1 := Scalar.cmpi .eq arg0 c0_i32_47
  let v102 : BitVec 32 := Scalar.extui v101
  let c0_i32_48 : BitVec 32 := 0#32
  let v103 : BitVec 1 := Scalar.cmpi .ne v102 c0_i32_48
  v103

def k0_cond2 (i : grid0.Coords) : BitVec 1 :=
  let arg0 : BitVec 32 := BitVec.ofNat 32 (i 0).val
  let c0_i32_49 : BitVec 32 := 0#32
  let v104 : BitVec 1 := Scalar.cmpi .sgt arg0 c0_i32_49
  let v105 : BitVec 32 := Scalar.extui v104
  let c0_i32_50 : BitVec 32 := 0#32
  let v106 : BitVec 1 := Scalar.cmpi .ne v105 c0_i32_50
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S2048x512 : Shape := ⟨2, ![2048, 512]⟩
abbrev S2048x4096 : Shape := ⟨2, ![2048, 4096]⟩
abbrev S3x512 : Shape := ⟨2, ![3, 512]⟩
abbrev S1x512 : Shape := ⟨2, ![1, 512]⟩
abbrev S512 : Shape := ⟨1, ![512]⟩
abbrev S_ : Shape := ⟨0, ![]⟩
abbrev S2x512 : Shape := ⟨2, ![2, 512]⟩
abbrev S2046x512 : Shape := ⟨2, ![2046, 512]⟩
abbrev S2047x512 : Shape := ⟨2, ![2047, 512]⟩
abbrev S4x512 : Shape := ⟨2, ![4, 512]⟩
abbrev S8x512 : Shape := ⟨2, ![8, 512]⟩

abbrev nBuf : Space → Nat
  | .hbm => 98
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4096, .f32⟩
  | .hbm, ⟨2, _⟩ => ⟨S3x512, .f32⟩
  | .hbm, ⟨3, _⟩ => ⟨S1x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S1x512, .f32⟩
  | .hbm, ⟨9, _⟩ => ⟨S512, .f32⟩
  | .hbm, ⟨10, _⟩ => ⟨S_, .f32⟩
  | .hbm, ⟨11, _⟩ => ⟨S2x512, .f32⟩
  | .hbm, ⟨12, _⟩ => ⟨S2046x512, .f32⟩
  | .hbm, ⟨13, _⟩ => ⟨S2048x512, .f32⟩
  | .hbm, ⟨14, _⟩ => ⟨S_, .f32⟩
  | .hbm, ⟨15, _⟩ => ⟨S2x512, .f32⟩
  | .hbm, ⟨16, _⟩ => ⟨S1x512, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S512, .f32⟩
  | .hbm, ⟨21, _⟩ => ⟨S_, .f32⟩
  | .hbm, ⟨22, _⟩ => ⟨S1x512, .f32⟩
  | .hbm, ⟨23, _⟩ => ⟨S2047x512, .f32⟩
  | .hbm, ⟨24, _⟩ => ⟨S2048x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S_, .f32⟩
  | .hbm, ⟨55, _⟩ => ⟨S3x512, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S2047x512, .f32⟩
  | .hbm, ⟨66, _⟩ => ⟨S_, .f32⟩
  | .hbm, ⟨67, _⟩ => ⟨S2048x512, .f32⟩
  | .hbm, ⟨68, _⟩ => ⟨S2048x512, .f32⟩
  | .hbm, ⟨69, _⟩ => ⟨S1x512, .f32⟩
  | .hbm, ⟨70, _⟩ => ⟨S_, .f32⟩
  | .hbm, ⟨71, _⟩ => ⟨S3x512, .f32⟩
  | .hbm, ⟨72, _⟩ => ⟨S3x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S_, .f32⟩
  | .hbm, ⟨77, _⟩ => ⟨S512, .f32⟩
  | .hbm, ⟨78, _⟩ => ⟨S1x512, .f32⟩
  | .hbm, ⟨79, _⟩ => ⟨S_, .f32⟩
  | .hbm, ⟨80, _⟩ => ⟨S512, .f32⟩
  | .hbm, ⟨81, _⟩ => ⟨S2x512, .f32⟩
  | .hbm, ⟨82, _⟩ => ⟨S2046x512, .f32⟩
  | .hbm, ⟨83, _⟩ => ⟨S_, .f32⟩
  | .hbm, ⟨84, _⟩ => ⟨S2048x512, .f32⟩
  | .hbm, ⟨85, _⟩ => ⟨S2048x512, .f32⟩
  | .hbm, ⟨86, _⟩ => ⟨S1x512, .f32⟩
  | .hbm, ⟨87, _⟩ => ⟨S_, .f32⟩
  | .hbm, ⟨88, _⟩ => ⟨S3x512, .f32⟩
  | .hbm, ⟨89, _⟩ => ⟨S3x512, .f32⟩
  | .hbm, ⟨90, _⟩ => ⟨S2048x512, .f32⟩
  | .hbm, ⟨91, _⟩ => ⟨S2048x512, .f32⟩
  | .hbm, ⟨92, _⟩ => ⟨S_, .f32⟩
  | .hbm, ⟨93, _⟩ => ⟨S4x512, .f32⟩
  | .hbm, ⟨94, _⟩ => ⟨S8x512, .f32⟩
  | .hbm, ⟨95, _⟩ => ⟨S2048x512, .bf16⟩
  | .hbm, ⟨96, _⟩ => ⟨S2048x512, .bf16⟩
  | .hbm, ⟨97, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_15 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩

abbrev nD : Nat := 1
abbrev τ : Topo := Topo.v7x

variable {F : FTy → Type} [FloatOps F]
-- ==== Kernel2.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S4x2048x704 : Shape := ⟨3, ![4, 2048, 704]⟩
abbrev S2x4x2048x704 : Shape := ⟨4, ![2, 4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S1x2048x704 : Shape := ⟨3, ![1, 2048, 704]⟩
abbrev S2048x704 : Shape := ⟨2, ![2048, 704]⟩
abbrev S8x2048x704 : Shape := ⟨3, ![8, 2048, 704]⟩
abbrev S8x512x704 : Shape := ⟨3, ![8, 512, 704]⟩

abbrev nBuf : Space → Nat
  | .hbm => 24
  | .vmem => 53
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S2048x1024, .bf16⟩
  | .hbm, ⟨6, _⟩ => ⟨S2048x1024, .f32⟩
  | .hbm, ⟨7, _⟩ => ⟨S5632x1024, .f32⟩
  | .hbm, ⟨8, _⟩ => ⟨S5632x1024, .bf16⟩
  | .hbm, ⟨9, _⟩ => ⟨S8x704x1024, .bf16⟩
  | .hbm, ⟨10, _⟩ => ⟨S2816x1024, .bf16⟩
  | .hbm, ⟨11, _⟩ => ⟨S4x704x1024, .bf16⟩
  | .hbm, ⟨12, _⟩ => ⟨S2048x1024, .bf16⟩
  | .hbm, ⟨13, _⟩ => ⟨S4x2048x704, .bf16⟩
  | .hbm, ⟨14, _⟩ => ⟨S2x4x2048x704, .bf16⟩
  | .hbm, ⟨15, _⟩ => ⟨S2048x1024, .f32⟩
  | .hbm, ⟨16, _⟩ => ⟨S2048x1024, .f32⟩
  | .hbm, ⟨17, _⟩ => ⟨S2048x1024, .bf16⟩
  | .hbm, ⟨18, _⟩ => ⟨S4x704x1024, .f32⟩
  | .hbm, ⟨19, _⟩ => ⟨S2x4x2048x704, .bf16⟩
  | .hbm, ⟨20, _⟩ => ⟨S8x2048x704, .bf16⟩
  | .hbm, ⟨21, _⟩ => ⟨S8x704x1024, .f32⟩
  | .hbm, ⟨22, _⟩ => ⟨S2048x1024, .f32⟩
  | .hbm, ⟨23, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S2x1x1024x704, .bf16⟩
  | .local _ .vmem, ⟨9, _⟩ => ⟨S2x1x1024x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x704x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x2048x704, .bf16⟩
  | .local _ .vmem, ⟨24, _⟩ => ⟨S1x2048x704, .bf16⟩
  | .local _ .vmem, ⟨25, _⟩ => ⟨S2048x1024, .bf16⟩
  | .local _ .vmem, ⟨26, _⟩ => ⟨S1x704x1024, .f32⟩
  | .local _ .vmem, ⟨27, _⟩ => ⟨S1x704x1024, .f32⟩
  | .local _ .vmem, ⟨28, _⟩ => ⟨S1024x1024, .bf16⟩
  | .local _ .vmem, ⟨29, _⟩ => ⟨S1024x1024, .bf16⟩
  | .local _ .vmem, ⟨30, _⟩ => ⟨S1x704x1024, .bf16⟩
  | .local _ .vmem, ⟨31, _⟩ => ⟨S1x704x1024, .bf16⟩
  | .local _ .vmem, ⟨32, _⟩ => ⟨S2x1x1024x704, .bf16⟩
  | .local _ .vmem, ⟨33, _⟩ => ⟨S2x1x1024x704, .bf16⟩
  | .local _ .vmem, ⟨34, _⟩ => ⟨S2x1x1024x704, .bf16⟩
  | .local _ .vmem, ⟨35, _⟩ => ⟨S2x1x1024x704, .bf16⟩
  | .local _ .vmem, ⟨36, _⟩ => ⟨S1x2048x704, .bf16⟩
  | .local _ .vmem, ⟨37, _⟩ => ⟨S1x2048x704, .bf16⟩
  | .local _ .vmem, ⟨38, _⟩ => ⟨S2048x1024, .bf16⟩
  | .local _ .vmem, ⟨39, _⟩ => ⟨S1x704x1024, .f32⟩
  | .local _ .vmem, ⟨40, _⟩ => ⟨S1x704x1024, .f32⟩
  | .local _ .vmem, ⟨41, _⟩ => ⟨S8x512x704, .bf16⟩
  | .local _ .vmem, ⟨42, _⟩ => ⟨S8x512x704, .bf16⟩
  | .local _ .vmem, ⟨43, _⟩ => ⟨S8x704x1024, .bf16⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S8x512x704, .bf16⟩
  | .local _ .vmem, ⟨49, _⟩ => ⟨S8x512x704, .bf16⟩
  | .local _ .vmem, ⟨50, _⟩ => ⟨S8x704x1024, .bf16⟩
  | .local _ .vmem, ⟨51, _⟩ => ⟨S512x1024, .f32⟩
  | .local _ .vmem, ⟨52, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem2_1 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨5, ![1, 4, 1, 1, 1], ![false, false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage1_0 : Fin 2 → Memref sig .tc .vmem S4x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, false, true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, true, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, true, false, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true, false, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true, false, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true, true, false, false]

abbrev grid2 : Pipeline.Grid := ⟨5, ![4, 1, 1, 1, 1], ![false, false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage2_0 : Fin 2 → Memref sig .tc .vmem S1x2048x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true, false, true]

abbrev stage2_2 : Fin 2 → Memref sig .tc .vmem S1x704x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false, false]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x704x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2x1x1024x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2x1x1024x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨5, ![8, 1, 1, 1, 1], ![false, false, false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage4_0 : Fin 2 → Memref sig .tc .vmem S1x2048x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, true, false, true]

abbrev stage4_2 : Fin 2 → Memref sig .tc .vmem S1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false, false]

abbrev grid5 : Pipeline.Grid := ⟨5, ![1, 4, 1, 1, 1], ![false, false, false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage5_0 : Fin 2 → Memref sig .tc .vmem S8x512x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false, false, true]

abbrev stage5_1 : Fin 1 → Memref sig .tc .vmem S8x704x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, true, false, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true, false, false]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, true, false, false]

abbrev grid6 : Pipeline.Grid := ⟨5, ![1, 4, 1, 1, 1], ![false, false, false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg1.toNat, arg4.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg4.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage6_0 : Fin 2 → Memref sig .tc .vmem S8x512x704 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, false, false, true]

abbrev stage6_1 : Fin 1 → Memref sig .tc .vmem S8x704x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false, true, false, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, true, false, false]
-- ==== Reference2Ideal.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S2048x5632 : Shape := ⟨2, ![2048, 5632]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1024x2816 : Shape := ⟨2, ![1024, 2816]⟩
abbrev S5632x1024 : Shape := ⟨2, ![5632, 1024]⟩
abbrev S8x704x1024 : Shape := ⟨3, ![8, 704, 1024]⟩
abbrev S4x704x1024 : Shape := ⟨3, ![4, 704, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S2048x1024, .bf16⟩
  | .hbm, ⟨6, _⟩ => ⟨S2048x1024, .f32⟩
  | .hbm, ⟨7, _⟩ => ⟨S2048x5632, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S1024x2816, .f32⟩
  | .hbm, ⟨59, _⟩ => ⟨S2816x1024, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2048x2816, .f32⟩
  | .hbm, ⟨64, _⟩ => ⟨S2048x2816, .f32⟩
  | .hbm, ⟨65, _⟩ => ⟨S2048x2816, .f32⟩
  | .hbm, ⟨66, _⟩ => ⟨S2048x2816, .f32⟩
  | .hbm, ⟨67, _⟩ => ⟨S2048x5632, .f32⟩
  | .hbm, ⟨68, _⟩ => ⟨S5632x1024, .f32⟩
  | .hbm, ⟨69, _⟩ => ⟨S1024x5632, .f32⟩
  | .hbm, ⟨70, _⟩ => ⟨S2048x1024, .f32⟩
  | .hbm, ⟨71, _⟩ => ⟨S_, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S5632x1024, .f32⟩
  | .hbm, ⟨76, _⟩ => ⟨S8x704x1024, .f32⟩
  | .hbm, ⟨77, _⟩ => ⟨S4x704x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v3_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v3_1 : Ref sig .tc := ⟨.hbm, 21, rfl⟩
abbrev main_v3_0 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_cst_5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]
-- ==== Kernel3.lean ====
abbrev S2048x1024 : Shape := ⟨2, ![2048, 1024]⟩
abbrev S1024x4096 : Shape := ⟨2, ![1024, 4096]⟩
abbrev S2048x4096 : Shape := ⟨2, ![2048, 4096]⟩
abbrev S1024x8x512 : Shape := ⟨3, ![1024, 8, 512]⟩
abbrev S8x1024x512 : Shape := ⟨3, ![8, 1024, 512]⟩
abbrev S512x1024 : Shape := ⟨2, ![512, 1024]⟩
abbrev S1x1024x512 : Shape := ⟨3, ![1, 1024, 512]⟩
abbrev S512x512 : Shape := ⟨2, ![512, 512]⟩
abbrev S1024x512 : Shape := ⟨2, ![1024, 512]⟩
abbrev S2048x512 : Shape := ⟨2, ![2048, 512]⟩
abbrev S512x4096 : Shape := ⟨2, ![512, 4096]⟩

abbrev nBuf : Space → Nat
  | .hbm => 10
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S2048x1024, .bf16⟩
  | .hbm, ⟨7, _⟩ => ⟨S2048x4096, .f32⟩
  | .hbm, ⟨8, _⟩ => ⟨S8x1024x512, .f32⟩
  | .hbm, ⟨9, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x512, .f32⟩
  | .local _ .vmem, ⟨5, _⟩ => ⟨S512x512, .f32⟩
  | .local _ .vmem, ⟨6, _⟩ => ⟨S2048x1024, .bf16⟩
  | .local _ .vmem, ⟨7, _⟩ => ⟨S2048x512, .bf16⟩
  | .local _ .vmem, ⟨8, _⟩ => ⟨S2048x512, .bf16⟩
  | .local _ .vmem, ⟨9, _⟩ => ⟨S1x1024x512, .f32⟩
  | .local _ .vmem, ⟨10, _⟩ => ⟨S1x1024x512, .f32⟩
  | .local _ .vmem, ⟨11, _⟩ => ⟨S512x4096, .bf16⟩
  | .local _ .vmem, ⟨12, _⟩ => ⟨S512x4096, .bf16⟩
  | .local _ .vmem, ⟨13, _⟩ => ⟨S8x1024x512, .bf16⟩
  | .local _ .vmem, ⟨14, _⟩ => ⟨S512x1024, .f32⟩
  | .local _ .vmem, ⟨15, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨5, ![8, 4, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev grid1 : Pipeline.Grid := ⟨5, ![8, 1, 1, 1, 1], ![false, false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg4.toNat, v1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, false, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false, false]

abbrev grid2 : Pipeline.Grid := ⟨5, ![1, 4, 1, 1, 1], ![false, false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat, arg4.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, false, false]

abbrev stage2_1 : Fin 1 → Memref sig .tc .vmem S8x1024x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true, false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, false, false]
-- ==== Reference3Ideal.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .bf16⟩
  | .hbm, ⟨3, _⟩ => ⟨S2048x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S2048x1024, .f32⟩
  | .hbm, ⟨8, _⟩ => ⟨S1024x8x512, .f32⟩
  | .hbm, ⟨9, _⟩ => ⟨S8x1024x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x1024 : Shape := ⟨2, ![2048, 1024]⟩
abbrev S2048x512 : Shape := ⟨2, ![2048, 512]⟩
abbrev S2048x4096 : Shape := ⟨2, ![2048, 4096]⟩
abbrev S512x1024 : Shape := ⟨2, ![512, 1024]⟩
abbrev S512x2048 : Shape := ⟨2, ![512, 2048]⟩
abbrev S1024x1024 : Shape := ⟨2, ![1024, 1024]⟩
abbrev S1x1024 : Shape := ⟨2, ![1, 1024]⟩
abbrev S512x512 : Shape := ⟨2, ![512, 512]⟩
abbrev S2048x2048 : Shape := ⟨2, ![2048, 2048]⟩
abbrev S512 : Shape := ⟨1, ![512]⟩
abbrev S512x1 : Shape := ⟨2, ![512, 1]⟩
abbrev S8x512x128 : Shape := ⟨3, ![8, 512, 128]⟩
abbrev S2048x128 : Shape := ⟨2, ![2048, 128]⟩
abbrev S1x512x128 : Shape := ⟨3, ![1, 512, 128]⟩
abbrev S512x128 : Shape := ⟨2, ![512, 128]⟩
abbrev S8x512x256 : Shape := ⟨3, ![8, 512, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 28
  | .vmem => 82
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x4096, .f32⟩
  | .hbm, ⟨4, _⟩ => ⟨S512x1024, .f32⟩
  | .hbm, ⟨5, _⟩ => ⟨S512x2048, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S2048x1024, .bf16⟩
  | .hbm, ⟨10, _⟩ => ⟨S512x1024, .bf16⟩
  | .hbm, ⟨11, _⟩ => ⟨S512x2048, .bf16⟩
  | .hbm, ⟨12, _⟩ => ⟨S1024x1024, .bf16⟩
  | .hbm, ⟨13, _⟩ => ⟨S2048x1024, .f32⟩
  | .hbm, ⟨14, _⟩ => ⟨S2048x2048, .f32⟩
  | .hbm, ⟨15, _⟩ => ⟨S2048x1024, .bf16⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x1024, .f32⟩
  | .hbm, ⟨20, _⟩ => ⟨S1024x1024, .f32⟩
  | .hbm, ⟨21, _⟩ => ⟨S2048x1024, .bf16⟩
  | .hbm, ⟨22, _⟩ => ⟨S2048x2048, .bf16⟩
  | .hbm, ⟨23, _⟩ => ⟨S2048x2048, .bf16⟩
  | .hbm, ⟨24, _⟩ => ⟨S8x512x128, .f32⟩
  | .hbm, ⟨25, _⟩ => ⟨S2048x512, .f32⟩
  | .hbm, ⟨26, _⟩ => ⟨S8x512x256, .f32⟩
  | .hbm, ⟨27, _⟩ => ⟨S2048x512, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x512, .bf16⟩
  | .local _ .vmem, ⟨6, _⟩ => ⟨S512x512, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S1024x1024, .bf16⟩
  | .local _ .vmem, ⟨39, _⟩ => ⟨S512x1024, .f32⟩
  | .local _ .vmem, ⟨40, _⟩ => ⟨S512x1024, .f32⟩
  | .local _ .vmem, ⟨41, _⟩ => ⟨S2048x1024, .bf16⟩
  | .local _ .vmem, ⟨42, _⟩ => ⟨S2048x1024, .bf16⟩
  | .local _ .vmem, ⟨43, _⟩ => ⟨S1024x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S512x1024, .f32⟩
  | .local _ .vmem, ⟨53, _⟩ => ⟨S512x1024, .f32⟩
  | .local _ .vmem, ⟨54, _⟩ => ⟨S512x1024, .f32⟩
  | .local _ .vmem, ⟨55, _⟩ => ⟨S512x1024, .f32⟩
  | .local _ .vmem, ⟨56, _⟩ => ⟨S512x1024, .bf16⟩
  | .local _ .vmem, ⟨57, _⟩ => ⟨S512x1024, .bf16⟩
  | .local _ .vmem, ⟨58, _⟩ => ⟨S512x2048, .bf16⟩
  | .local _ .vmem, ⟨59, _⟩ => ⟨S512x2048, .bf16⟩
  | .local _ .vmem, ⟨60, _⟩ => ⟨S512x2048, .bf16⟩
  | .local _ .vmem, ⟨61, _⟩ => ⟨S512x2048, .bf16⟩
  | .local _ .vmem, ⟨62, _⟩ => ⟨S2048x512, .bf16⟩
  | .local _ .vmem, ⟨63, _⟩ => ⟨S2048x128, .bf16⟩
  | .local _ .vmem, ⟨64, _⟩ => ⟨S2048x128, .bf16⟩
  | .local _ .vmem, ⟨65, _⟩ => ⟨S1x512x128, .f32⟩
  | .local _ .vmem, ⟨66, _⟩ => ⟨S1x512x128, .f32⟩
  | .local _ .vmem, ⟨67, _⟩ => ⟨S512x1024, .bf16⟩
  | .local _ .vmem, ⟨68, _⟩ => ⟨S512x1024, .bf16⟩
  | .local _ .vmem, ⟨69, _⟩ => ⟨S512x1024, .bf16⟩
  | .local _ .vmem, ⟨70, _⟩ => ⟨S512x512, .f32⟩
  | .local _ .vmem, ⟨71, _⟩ => ⟨S512x512, .f32⟩
  | .local _ .vmem, ⟨72, _⟩ => ⟨S2048x512, .bf16⟩
  | .local _ .vmem, ⟨73, _⟩ => ⟨S2048x256, .bf16⟩
  | .local _ .vmem, ⟨74, _⟩ => ⟨S2048x256, .bf16⟩
  | .local _ .vmem, ⟨75, _⟩ => ⟨S1x512x256, .f32⟩
  | .local _ .vmem, ⟨76, _⟩ => ⟨S1x512x256, .f32⟩
  | .local _ .vmem, ⟨77, _⟩ => ⟨S512x2048, .bf16⟩
  | .local _ .vmem, ⟨78, _⟩ => ⟨S512x2048, .bf16⟩
  | .local _ .vmem, ⟨79, _⟩ => ⟨S512x2048, .bf16⟩
  | .local _ .vmem, ⟨80, _⟩ => ⟨S512x512, .f32⟩
  | .local _ .vmem, ⟨81, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg1_0 : Ref sig .tc := ⟨.vmem, 42, rfl⟩
abbrev cc5_stg2_0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc6_stg5_0 : Ref sig .tc := ⟨.vmem, 54, rfl⟩
abbrev cc6_stg5_1 : Ref sig .tc := ⟨.vmem, 55, rfl⟩
abbrev cc6_stg6_0 : Ref sig .tc := ⟨.vmem, 56, rfl⟩
abbrev cc6_stg6_1 : Ref sig .tc := ⟨.vmem, 57, rfl⟩
abbrev cc6_stg7_0 : Ref sig .tc := ⟨.vmem, 58, rfl⟩
abbrev cc6_stg7_1 : Ref sig .tc := ⟨.vmem, 59, rfl⟩
abbrev cc6_stg8_0 : Ref sig .tc := ⟨.vmem, 60, rfl⟩
abbrev cc6_stg8_1 : Ref sig .tc := ⟨.vmem, 61, rfl⟩
abbrev cc7_stg0_0 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg2_1 : Ref sig .tc := ⟨.vmem, 66, rfl⟩
abbrev cc8_stg0_0 : Ref sig .tc := ⟨.vmem, 67, rfl⟩
abbrev cc8_stg0_1 : Ref sig .tc := ⟨.vmem, 68, rfl⟩
abbrev cc8_stg1_0 : Ref sig .tc := ⟨.vmem, 69, rfl⟩
abbrev cc8_stg2_0 : Ref sig .tc := ⟨.vmem, 70, rfl⟩
abbrev cc8_stg2_1 : Ref sig .tc := ⟨.vmem, 71, rfl⟩
abbrev cc9_stg0_0 : Ref sig .tc := ⟨.vmem, 72, rfl⟩
abbrev cc9_stg1_0 : Ref sig .tc := ⟨.vmem, 73, rfl⟩
abbrev cc9_stg1_1 : Ref sig .tc := ⟨.vmem, 74, rfl⟩
abbrev cc9_stg2_0 : Ref sig .tc := ⟨.vmem, 75, rfl⟩
abbrev cc9_stg2_1 : Ref sig .tc := ⟨.vmem, 76, rfl⟩
abbrev cc10_stg0_0 : Ref sig .tc := ⟨.vmem, 77, rfl⟩
abbrev cc10_stg0_1 : Ref sig .tc := ⟨.vmem, 78, rfl⟩
abbrev cc10_stg1_0 : Ref sig .tc := ⟨.vmem, 79, rfl⟩
abbrev cc10_stg2_0 : Ref sig .tc := ⟨.vmem, 80, rfl⟩
abbrev cc10_stg2_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem1_0 : DmaSem sig := 42
abbrev cc5_sem2_0 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem3_1 : DmaSem sig := 51
abbrev cc6_sem4_0 : DmaSem sig := 52
abbrev cc6_sem4_1 : DmaSem sig := 53
abbrev cc6_sem5_0 : DmaSem sig := 54
abbrev cc6_sem5_1 : DmaSem sig := 55
abbrev cc6_sem6_0 : DmaSem sig := 56
abbrev cc6_sem6_1 : DmaSem sig := 57
abbrev cc6_sem7_0 : DmaSem sig := 58
abbrev cc6_sem7_1 : DmaSem sig := 59
abbrev cc6_sem8_0 : DmaSem sig := 60
abbrev cc6_sem8_1 : DmaSem sig := 61
abbrev cc7_sem0_0 : DmaSem sig := 62
abbrev cc7_sem1_0 : DmaSem sig := 63
abbrev cc7_sem1_1 : DmaSem sig := 64
abbrev cc7_sem2_0 : DmaSem sig := 65
abbrev cc7_sem2_1 : DmaSem sig := 66
abbrev cc8_sem0_0 : DmaSem sig := 67
abbrev cc8_sem0_1 : DmaSem sig := 68
abbrev cc8_sem1_0 : DmaSem sig := 69
abbrev cc8_sem2_0 : DmaSem sig := 70
abbrev cc8_sem2_1 : DmaSem sig := 71
abbrev cc9_sem0_0 : DmaSem sig := 72
abbrev cc9_sem1_0 : DmaSem sig := 73
abbrev cc9_sem1_1 : DmaSem sig := 74
abbrev cc9_sem2_0 : DmaSem sig := 75
abbrev cc9_sem2_1 : DmaSem sig := 76
abbrev cc10_sem0_0 : DmaSem sig := 77
abbrev cc10_sem0_1 : DmaSem sig := 78
abbrev cc10_sem1_0 : DmaSem sig := 79
abbrev cc10_sem2_0 : DmaSem sig := 80
abbrev cc10_sem2_1 : DmaSem sig := 81

abbrev nD : Nat := 1
abbrev τ : Topo := Topo.v7x

variable {F : FTy → Type} [FloatOps F]

abbrev grid0 : Pipeline.Grid := ⟨5, ![1, 4, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev grid1 : Pipeline.Grid := ⟨5, ![1, 4, 2, 1, 1], ![false, false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_3 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_4 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨5, ![1, 4, 1, 1, 1], ![false, false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc3_transform_7 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, true, false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true, false, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, true, false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, true, false, false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true, true, false, false]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true, true, false, false]

abbrev stage3_7 : Fin 2 → Memref sig .tc .vmem S512x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![false, true, true, false, false]

abbrev grid4 : Pipeline.Grid := ⟨5, ![1, 4, 1, 1, 1], ![false, false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, true, false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true, false, false]

abbrev grid5 : Pipeline.Grid := ⟨5, ![1, 1, 1, 1, 1], ![false, false, false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true, false, false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, true, false, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, true, false, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c1_i32 : BitVec 32 := 1#32
  let c0_i32 : BitVec 32 := 0#32
  ![arg0.toNat, c1_i32.toNat]

def cc6_transform_4 (i : grid6.Coords) : Fin 2 → Nat :=
  let arg0 : BitVec 32 := BitVec.ofNat 32 (i 0).val
  let c2_i32 : BitVec 32 := 2#32
  let c0_i32 : BitVec 32 := 0#32
  ![arg0.toNat, c2_i32.toNat]

def cc6_transform_5 (i : grid6.Coords) : Fin 2 → Nat :=
  let arg0 : BitVec 32 := BitVec.ofNat 32 (i 0).val
  let c3_i32 : BitVec 32 := 3#32
  let c0_i32 : BitVec 32 := 0#32
  ![arg0.toNat, c3_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x2048 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S512x2048 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨5, ![8, 1, 1, 1, 1], ![false, false, false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg4.toNat, v1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage7_0 : Fin 1 → Memref sig .tc .vmem S2048x512 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, true, false, false, true]

abbrev stage7_1 : Fin 2 → Memref sig .tc .vmem S2048x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true, false, true]

abbrev stage7_2 : Fin 2 → Memref sig .tc .vmem S1x512x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, true, false, false]

abbrev grid8 : Pipeline.Grid := ⟨5, ![1, 4, 1, 1, 1], ![false, false, false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage8_0 : Fin 2 → Memref sig .tc .vmem S512x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true, false, false, true]

abbrev stage8_1 : Fin 1 → Memref sig .tc .vmem S512x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false, true, false, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true, true, false, false]

abbrev grid9 : Pipeline.Grid := ⟨5, ![8, 1, 1, 1, 1], ![false, false, false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg4.toNat, v1.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage9_0 : Fin 1 → Memref sig .tc .vmem S2048x512 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, true, false, false, true]

abbrev stage9_1 : Fin 2 → Memref sig .tc .vmem S2048x256 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false, true, false, true]

abbrev stage9_2 : Fin 2 → Memref sig .tc .vmem S1x512x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, true, false, false]

abbrev grid10 : Pipeline.Grid := ⟨5, ![1, 4, 1, 1, 1], ![false, false, false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage10_0 : Fin 2 → Memref sig .tc .vmem S512x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true, false, false, true]

abbrev stage10_1 : Fin 1 → Memref sig .tc .vmem S512x2048 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, false, true, false, true]

abbrev stage10_2 : Fin 2 → Memref sig .tc .vmem S512x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true, true, false, false]
-- ==== Reference4Ideal.lean ====
abbrev S2048x1024 : Shape := ⟨2, ![2048, 1024]⟩
abbrev S2048x512 : Shape := ⟨2, ![2048, 512]⟩
abbrev S2048x4096 : Shape := ⟨2, ![2048, 4096]⟩
abbrev S512x1024 : Shape := ⟨2, ![512, 1024]⟩
abbrev S512x2048 : Shape := ⟨2, ![512, 2048]⟩
abbrev S1024x1024 : Shape := ⟨2, ![1024, 1024]⟩
abbrev S1x1024 : Shape := ⟨2, ![1, 1024]⟩
abbrev S2048x2048 : Shape := ⟨2, ![2048, 2048]⟩
abbrev S_ : Shape := ⟨0, ![]⟩
abbrev S1024x512 : Shape := ⟨2, ![1024, 512]⟩
abbrev S2048 : Shape := ⟨1, ![2048]⟩
abbrev S2048x1 : Shape := ⟨2, ![2048, 1]⟩
abbrev S512x8x128 : Shape := ⟨3, ![512, 8, 128]⟩
abbrev S8x512x128 : Shape := ⟨3, ![8, 512, 128]⟩
abbrev S512x8x256 : Shape := ⟨3, ![512, 8, 256]⟩
abbrev S8x512x256 : Shape := ⟨3, ![8, 512, 256]⟩

abbrev nBuf : Space → Nat
  | .hbm => 114
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x4096, .f32⟩
  | .hbm, ⟨4, _⟩ => ⟨S512x1024, .f32⟩
  | .hbm, ⟨5, _⟩ => ⟨S512x2048, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S2048x1024, .bf16⟩
  | .hbm, ⟨10, _⟩ => ⟨S2048x512, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x2048, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S1024x1024, .f32⟩
  | .hbm, ⟨61, _⟩ => ⟨S1024x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x2048, .f32⟩
  | .hbm, ⟨73, _⟩ => ⟨S2048x512, .f32⟩
  | .hbm, ⟨74, _⟩ => ⟨S512x2048, .f32⟩
  | .hbm, ⟨75, _⟩ => ⟨S2048x512, .f32⟩
  | .hbm, ⟨76, _⟩ => ⟨S1024x512, .f32⟩
  | .hbm, ⟨77, _⟩ => ⟨S512x1024, .f32⟩
  | .hbm, ⟨78, _⟩ => ⟨S2048x512, .f32⟩
  | .hbm, ⟨79, _⟩ => ⟨S_, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S2048x1, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x2048, .f32⟩
  | .hbm, ⟨109, _⟩ => ⟨S2048x2048, .bf16⟩
  | .hbm, ⟨110, _⟩ => ⟨S512x8x128, .f32⟩
  | .hbm, ⟨111, _⟩ => ⟨S8x512x128, .f32⟩
  | .hbm, ⟨112, _⟩ => ⟨S512x8x256, .f32⟩
  | .hbm, ⟨113, _⟩ => ⟨S8x512x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S1x1024, .f32⟩
  | .hbm, ⟨10, _⟩ => ⟨S1x1024, .f32⟩
  | .hbm, ⟨11, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_34 : BitVec 32 := 0#32
  let v79 : BitVec 1 := Scalar.cmpi .ne v78 c0_i32_34
  v79

def k0_cond2 (i : grid0.Coords) : BitVec 1 :=
  let arg0 : BitVec 32 := BitVec.ofNat 32 (i 0).val
  let c0_i32_35 : BitVec 32 := 0#32
  let v80 : BitVec 1 := Scalar.cmpi .sgt arg0 c0_i32_35
  let v81 : BitVec 32 := Scalar.extui v80
  let c0_i32_36 : BitVec 32 := 0#32
  let v82 : BitVec 1 := Scalar.cmpi .ne v81 c0_i32_36
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S_, .f32⟩
  | .hbm, ⟨103, _⟩ => ⟨S2048, .f32⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | .hbm, ⟨108, _⟩ => ⟨S_, .f32⟩
  | .hbm, ⟨109, _⟩ => ⟨S2048, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x1024, .f32⟩
  | .hbm, ⟨115, _⟩ => ⟨S1x128, .f32⟩
  | .hbm, ⟨116, _⟩ => ⟨S2048x1024, .bf16⟩
  | .hbm, ⟨117, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_cst_14 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_17 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_18 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_22 : Ref sig .tc := ⟨.hbm, 102, rfl⟩
abbrev main_v73 : Ref sig .tc := ⟨.hbm, 103, rfl⟩
abbrev main_v74 : Ref sig .tc := ⟨.hbm, 104, rfl⟩
abbrev main_cst_23 : Ref sig .tc := ⟨.hbm, 105, rfl⟩
abbrev main_v75 : Ref sig .tc := ⟨.hbm, 106, rfl⟩
abbrev main_v76 : Ref sig .tc := ⟨.hbm, 107, rfl⟩
abbrev main_cst_24 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_24 : BitVec 32 := 0#32
  let v55 : BitVec 1 := Scalar.cmpi .ne v54 c0_i32_24
  v55

def k0_cond2 (i : grid0.Coords) : BitVec 1 :=
  let arg0 : BitVec 32 := BitVec.ofNat 32 (i 0).val
  let c0_i32_25 : BitVec 32 := 0#32
  let v56 : BitVec 1 := Scalar.cmpi .sgt arg0 c0_i32_25
  let v57 : BitVec 32 := Scalar.extui v56
  let c0_i32_26 : BitVec 32 := 0#32
  let v58 : BitVec 1 := Scalar.cmpi .ne v57 c0_i32_26
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S2048x1024, .f32⟩
  | .hbm, ⟨77, _⟩ => ⟨S2048x1024, .f32⟩
  | .hbm, ⟨78, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel7.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S512x256 : Shape := ⟨2, ![512, 256]⟩
abbrev S512x1024 : Shape := ⟨2, ![512, 1024]⟩
abbrev S8x256x128 : Shape := ⟨3, ![8, 256, 128]⟩
abbrev S2048x128 : Shape := ⟨2, ![2048, 128]⟩
abbrev S1x256x128 : Shape := ⟨3, ![1, 256, 128]⟩
abbrev S256x128 : Shape := ⟨2, ![256, 128]⟩

abbrev nBuf : Space → Nat
  | .hbm => 15
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S256x1024, .f32⟩
  | .hbm, ⟨3, _⟩ => ⟨S1024x1024, .f32⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x256, .bf16⟩
  | .hbm, ⟨8, _⟩ => ⟨S256x1024, .bf16⟩
  | .hbm, ⟨9, _⟩ => ⟨S1024x1024, .bf16⟩
  | .hbm, ⟨10, _⟩ => ⟨S2048x1024, .f32⟩
  | .hbm, ⟨11, _⟩ => ⟨S2048x1024, .f32⟩
  | .hbm, ⟨12, _⟩ => ⟨S8x256x128, .f32⟩
  | .hbm, ⟨13, _⟩ => ⟨S1024x1024, .f32⟩
  | .hbm, ⟨14, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S2048x256, .bf16⟩
  | .local _ .vmem, ⟨11, _⟩ => ⟨S2048x128, .bf16⟩
  | .local _ .vmem, ⟨12, _⟩ => ⟨S2048x128, .bf16⟩
  | .local _ .vmem, ⟨13, _⟩ => ⟨S1x256x128, .f32⟩
  | .local _ .vmem, ⟨14, _⟩ => ⟨S1x256x128, .f32⟩
  | .local _ .vmem, ⟨15, _⟩ => ⟨S2048x1024, .bf16⟩
  | .local _ .vmem, ⟨16, _⟩ => ⟨S2048x1024, .bf16⟩
  | .local _ .vmem, ⟨17, _⟩ => ⟨S1024x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22

abbrev nD : Nat := 1
abbrev τ : Topo := Topo.v7x

variable {F : FTy → Type} [FloatOps F]

abbrev grid0 : Pipeline.Grid := ⟨5, ![1, 4, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev grid1 : Pipeline.Grid := ⟨5, ![1, 4, 1, 1, 1], ![false, false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false, false]

abbrev grid2 : Pipeline.Grid := ⟨5, ![8, 1, 1, 1, 1], ![false, false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg4.toNat, v1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage2_0 : Fin 1 → Memref sig .tc .vmem S2048x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true, false, false, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, false, true]

abbrev stage2_2 : Fin 2 → Memref sig .tc .vmem S1x256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false, false]

abbrev grid3 : Pipeline.Grid := ⟨5, ![1, 1, 1, 1, 1], ![false, false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true, false, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, true, false, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, true, false, false]

abbrev grid4 : Pipeline.Grid := ⟨5, ![1, 4, 1, 1, 1], ![false, false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, true, false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true, false, false]
-- ==== Reference7Ideal.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S256x1024, .f32⟩
  | .hbm, ⟨3, _⟩ => ⟨S1024x1024, .f32⟩
  | .hbm, ⟨4, _⟩ => ⟨S2048x1024, .bf16⟩
  | .hbm, ⟨5, _⟩ => ⟨S2048x1024, .bf16⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S1024x1024, .f32⟩
  | .hbm, ⟨11, _⟩ => ⟨S1024x1024, .f32⟩
  | .hbm, ⟨12, _⟩ => ⟨S2048x1024, .f32⟩
  | .hbm, ⟨13, _⟩ => ⟨S1024x256, .f32⟩
  | .hbm, ⟨14, _⟩ => ⟨S256x1024, .f32⟩
  | .hbm, ⟨15, _⟩ => ⟨S256x8x128, .f32⟩
  | .hbm, ⟨16, _⟩ => ⟨S8x256x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel8.lean ====
abbrev S2048x4096 : Shape := ⟨2, ![2048, 4096]⟩
abbrev S4x128x1024 : Shape := ⟨3, ![4, 128, 1024]⟩
abbrev S1x512 : Shape := ⟨2, ![1, 512]⟩
abbrev S2048x512 : Shape := ⟨2, ![2048, 512]⟩
abbrev S512x1024 : Shape := ⟨2, ![512, 1024]⟩
abbrev S1x128x1024 : Shape := ⟨3, ![1, 128, 1024]⟩
abbrev S512x128 : Shape := ⟨2, ![512, 128]⟩
abbrev S128x1024 : Shape := ⟨2, ![128, 1024]⟩
abbrev S512x512 : Shape := ⟨2, ![512, 512]⟩
abbrev S2048x128 : Shape := ⟨2, ![2048, 128]⟩
abbrev S2048x1024 : Shape := ⟨2, ![2048, 1024]⟩

abbrev nBuf : Space → Nat
  | .hbm => 16
  | .vmem => 42
  | .smem => 0
  | _ => 0

abbrev bufTy : (tb : Table) → Fin (tcTables nBuf tb) → BufTy
  | .hbm, ⟨0, _⟩ => ⟨S2048x4096, .f32⟩
  | .hbm, ⟨1, _⟩ => ⟨S2048x4096, .bf16⟩
  | .hbm, ⟨2, _⟩ => ⟨S4x128x1024, .bf16⟩
  | .hbm, ⟨3, _⟩ => ⟨S4x128x1024, .bf16⟩
  | .hbm, ⟨4, _⟩ => ⟨S1x512, .f32⟩
  | .hbm, ⟨5, _⟩ => ⟨S2048x512, .f32⟩
  | .hbm, ⟨6, _⟩ => ⟨S2048x4096, .bf16⟩
  | .hbm, ⟨7, _⟩ => ⟨S2048x512, .bf16⟩
  | .hbm, ⟨8, _⟩ => ⟨S2048x512, .f32⟩
  | .hbm, ⟨9, _⟩ => ⟨S2048x512, .f32⟩
  | .hbm, ⟨10, _⟩ => ⟨S2048x512, .bf16⟩
  | .hbm, ⟨11, _⟩ => ⟨S2048x512, .bf16⟩
  | .hbm, ⟨12, _⟩ => ⟨S2048x512, .f32⟩
  | .hbm, ⟨13, _⟩ => ⟨S2048x512, .bf16⟩
  | .hbm, ⟨14, _⟩ => ⟨S4x128x1024, .f32⟩
  | .hbm, ⟨15, _⟩ => ⟨S4x128x1024, .f32⟩
  | .local _ .vmem, ⟨0, _⟩ => ⟨S512x1024, .bf16⟩
  | .local _ .vmem, ⟨1, _⟩ => ⟨S512x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x1024, .bf16⟩
  | .local _ .vmem, ⟨19, _⟩ => ⟨S1x128x1024, .bf16⟩
  | .local _ .vmem, ⟨20, _⟩ => ⟨S1x128x1024, .bf16⟩
  | .local _ .vmem, ⟨21, _⟩ => ⟨S512x128, .f32⟩
  | .local _ .vmem, ⟨22, _⟩ => ⟨S512x128, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S1x512, .f32⟩
  | .local _ .vmem, ⟨28, _⟩ => ⟨S512x512, .bf16⟩
  | .local _ .vmem, ⟨29, _⟩ => ⟨S512x512, .bf16⟩
  | .local _ .vmem, ⟨30, _⟩ => ⟨S2048x128, .bf16⟩
  | .local _ .vmem, ⟨31, _⟩ => ⟨S2048x128, .bf16⟩
  | .local _ .vmem, ⟨32, _⟩ => ⟨S2048x1024, .bf16⟩
  | .local _ .vmem, ⟨33, _⟩ => ⟨S2048x1024, .bf16⟩
  | .local _ .vmem, ⟨34, _⟩ => ⟨S1x128x1024, .f32⟩
  | .local _ .vmem, ⟨35, _⟩ => ⟨S1x128x1024, .f32⟩
  | .local _ .vmem, ⟨36, _⟩ => ⟨S2048x128, .bf16⟩
  | .local _ .vmem, ⟨37, _⟩ => ⟨S2048x128, .bf16⟩
  | .local _ .vmem, ⟨38, _⟩ => ⟨S2048x1024, .bf16⟩
  | .local _ .vmem, ⟨39, _⟩ => ⟨S2048x1024, .bf16⟩
  | .local _ .vmem, ⟨40, _⟩ => ⟨S1x128x1024, .f32⟩
  | .local _ .vmem, ⟨41, _⟩ => ⟨S1x128x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨5, ![4, 4, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg4
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨5, ![4, 4, 1, 1, 1], ![false, false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg4
  let c0_i32 : BitVec 32 := 0#32
  ![arg1.toNat, v1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg2.toNat, arg4.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, false, true]

abbrev stage2_1 : Fin 2 → Memref sig .tc .vmem S1x128x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨5, ![4, 1, 1, 1, 1], ![false, false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg1
  let c0_i32 : BitVec 32 := 0#32
  ![arg4.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg4.toNat, v1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage4_0 : Fin 2 → Memref sig .tc .vmem S2048x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true, false, true]

abbrev stage4_2 : Fin 2 → Memref sig .tc .vmem S1x128x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false, false]

abbrev grid5 : Pipeline.Grid := ⟨5, ![4, 1, 1, 1, 1], ![false, false, false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg1
  let c0_i32 : BitVec 32 := 0#32
  ![arg4.toNat, v1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![arg4.toNat, v1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage5_0 : Fin 2 → Memref sig .tc .vmem S2048x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true, false, true]

abbrev stage5_2 : Fin 2 → Memref sig .tc .vmem S1x128x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true, false, false]
-- ==== Reference8Ideal.lean ====
abbrev S2048x4096 : Shape := ⟨2, ![2048, 4096]⟩
abbrev S4x128x1024 : Shape := ⟨3, ![4, 128, 1024]⟩
abbrev S1x512 : Shape := ⟨2, ![1, 512]⟩
abbrev S2048x512 : Shape := ⟨2, ![2048, 512]⟩
abbrev S2048x4x1024 : Shape := ⟨3, ![2048, 4, 1024]⟩
abbrev S2048x4x128 : Shape := ⟨3, ![2048, 4, 128]⟩
abbrev S4x1024x2048 : Shape := ⟨3, ![4, 1024, 2048]⟩
abbrev S4x128x2048 : Shape := ⟨3, ![4, 128, 2048]⟩
abbrev S4x2048x128 : Shape := ⟨3, ![4, 2048, 128]⟩
abbrev S4x1024x128 : Shape := ⟨3, ![4, 1024, 128]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .bf16⟩
  | .hbm, ⟨2, _⟩ => ⟨S4x128x1024, .bf16⟩
  | .hbm, ⟨3, _⟩ => ⟨S4x128x1024, .bf16⟩
  | .hbm, ⟨4, _⟩ => ⟨S1x512, .f32⟩
  | .hbm, ⟨5, _⟩ => ⟨S2048x512, .f32⟩
  | .hbm, ⟨6, _⟩ => ⟨S2048x4096, .bf16⟩
  | .hbm, ⟨7, _⟩ => ⟨S2048x4096, .f32⟩
  | .hbm, ⟨8, _⟩ => ⟨S2048x4x1024, .f32⟩
  | .hbm, ⟨9, _⟩ => ⟨S2048x4096, .f32⟩
  | .hbm, ⟨10, _⟩ => ⟨S2048x4x1024, .f32⟩
  | .hbm, ⟨11, _⟩ => ⟨S2048x512, .f32⟩
  | .hbm, ⟨12, _⟩ => ⟨S4x128x1024, .f32⟩
  | .hbm, ⟨13, _⟩ => ⟨S4x128x1024, .f32⟩
  | .hbm, ⟨14, _⟩ => ⟨S2048x4x128, .f32⟩
  | .hbm, ⟨15, _⟩ => ⟨S4x1024x2048, .f32⟩
  | .hbm, ⟨16, _⟩ => ⟨S2048x4x1024, .f32⟩
  | .hbm, ⟨17, _⟩ => ⟨S4x128x2048, .f32⟩
  | .hbm, ⟨18, _⟩ => ⟨S2048x4x128, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x4x128, .f32⟩
  | .hbm, ⟨28, _⟩ => ⟨S4x128x2048, .f32⟩
  | .hbm, ⟨29, _⟩ => ⟨S4x128x1024, .f32⟩
  | .hbm, ⟨30, _⟩ => ⟨S4x1024x2048, .f32⟩
  | .hbm, ⟨31, _⟩ => ⟨S4x2048x128, .f32⟩
  | .hbm, ⟨32, _⟩ => ⟨S2048x4x128, .f32⟩
  | .hbm, ⟨33, _⟩ => ⟨S4x1024x128, .f32⟩
  | .hbm, ⟨34, _⟩ => ⟨S4x128x1024, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .bf16⟩
  | .hbm, ⟨55, _⟩ => ⟨S2048x512, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_1 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel9.lean ====
abbrev S2048x4096 : Shape := ⟨2, ![2048, 4096]⟩
abbrev S3x512 : Shape := ⟨2, ![3, 512]⟩
abbrev S1x512 : Shape := ⟨2, ![1, 512]⟩
abbrev S_ : Shape := ⟨0, ![]⟩
abbrev S8x512 : Shape := ⟨2, ![8, 512]⟩
abbrev S1 : Shape := ⟨1, ![1]⟩
abbrev S2048x512 : Shape := ⟨2, ![2048, 512]⟩
abbrev S512x512 : Shape := ⟨2, ![512, 512]⟩
abbrev S520x512 : Shape := ⟨2, ![520, 512]⟩

abbrev nBuf : Space → Nat
  | .hbm => 9
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S3x512, .f32⟩
  | .hbm, ⟨2, _⟩ => ⟨S1x512, .f32⟩
  | .hbm, ⟨3, _⟩ => ⟨S_, .f32⟩
  | .hbm, ⟨4, _⟩ => ⟨S8x512, .f32⟩
  | .hbm, ⟨5, _⟩ => ⟨S_, .i32⟩
  | .hbm, ⟨6, _⟩ => ⟨S1, .i32⟩
  | .hbm, ⟨7, _⟩ => ⟨S8x512, .f32⟩
  | .hbm, ⟨8, _⟩ => ⟨S2048x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S520x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S2048x4096 : Shape := ⟨2, ![2048, 4096]⟩
abbrev S3x512 : Shape := ⟨2, ![3, 512]⟩
abbrev S1x512 : Shape := ⟨2, ![1, 512]⟩
abbrev S2048x512 : Shape := ⟨2, ![2048, 512]⟩
abbrev S_ : Shape := ⟨0, ![]⟩
abbrev S2x512 : Shape := ⟨2, ![2, 512]⟩
abbrev S2050x512 : Shape := ⟨2, ![2050, 512]⟩
abbrev S512 : Shape := ⟨1, ![512]⟩

abbrev nBuf : Space → Nat
  | .hbm => 37
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S3x512, .f32⟩
  | .hbm, ⟨2, _⟩ => ⟨S1x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2x512, .f32⟩
  | .hbm, ⟨9, _⟩ => ⟨S2050x512, .f32⟩
  | .hbm, ⟨10, _⟩ => ⟨S1x512, .f32⟩
  | .hbm, ⟨11, _⟩ => ⟨S512, .f32⟩
  | .hbm, ⟨12, _⟩ => ⟨S2048x512, .f32⟩
  | .hbm, ⟨13, _⟩ => ⟨S1x512, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S512, .f32⟩
  | .hbm, ⟨21, _⟩ => ⟨S2048x512, .f32⟩
  | .hbm, ⟨22, _⟩ => ⟨S1x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S1x512, .f32⟩
  | .hbm, ⟨27, _⟩ => ⟨S512, .f32⟩
  | .hbm, ⟨28, _⟩ => ⟨S2048x512, .f32⟩
  | .hbm, ⟨29, _⟩ => ⟨S1x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.ConvSpec.lean ====
/- The gradient of the gated short convolution, written index by index over the extended reals. -/
module

public import Idealize.ShloMosaic.Lib.Pointwise

@[expose] public section

noncomputable section

open Idealize.ShloMosaic
open scoped BigOperators

namespace Cert.Conv

/-- A matrix of extended reals. -/
abbrev Mat (a b : ℕ) : Type := (⟨2, ![a, b]⟩ : Shape).Idx → EReal

/-- The convolution's input at row `i`: the product of the second and the third group of columns. -/
def taps (p : Mat 2048 4096) (i : Fin 2048) (j : Fin 512) : EReal :=
  p (ix2 i ⟨512 + j.val, by omega⟩) * p (ix2 i ⟨1024 + j.val, by omega⟩)

/-- The same `k` rows earlier, zero before the first row. -/
def tapsBefore (k : ℕ) (p : Mat 2048 4096) (i : Fin 2048) (j : Fin 512) : EReal :=
  if k ≤ i.val then taps p ⟨i.val - k, by omega⟩ j else 0

/-- The gradient reaching the convolution's output: the gate times the incoming gradient. -/
def back (d : Mat 2048 512) (p : Mat 2048 4096) (i : Fin 2048) (j : Fin 512) : EReal :=
  d (ix2 i j) * p (ix2 i ⟨j.val, by omega⟩)

/-- The same `k` rows later, zero after the last row. -/
def backAfter (k : ℕ) (d : Mat 2048 512) (p : Mat 2048 4096) (i : Fin 2048) (j : Fin 512) : EReal :=
  if h : i.val + k < 2048 then back d p ⟨i.val + k, h⟩ j else 0

/-- The gradient of the convolution's input. -/
def inputGrad (d : Mat 2048 512) (p : Mat 2048 4096) (w : Mat 3 512) (i : Fin 2048) (j : Fin 512) : EReal :=
  w (ix2 2 j) * back d p i j + w (ix2 1 j) * backAfter 1 d p i j + w (ix2 0 j) * backAfter 2 d p i j

/-- The gradient of the gate: the incoming gradient times the convolution. -/
def gateGrad (d : Mat 2048 512) (p : Mat 2048 4096) (w : Mat 3 512) (b : Mat 1 512) : Mat 2048 512 := fun y =>
  d (ix2 (y 0) (y 1)) * (w (ix2 2 (y 1)) * taps p (y 0) (y 1) + w (ix2 1 (y 1)) * tapsBefore 1 p (y 0) (y 1)
    + w (ix2 0 (y 1)) * tapsBefore 2 p (y 0) (y 1) + b (ix2 0 (y 1)))

/-- The gradient of the input's first factor. -/
def firstGrad (d : Mat 2048 512) (p : Mat 2048 4096) (w : Mat 3 512) : Mat 2048 512 := fun y =>
  inputGrad d p w (y 0) (y 1) * p (ix2 (y 0) ⟨1024 + (y 1).val, by have := (y 1).isLt; simp at this; omega⟩)

/-- The gradient of the input's second factor. -/
def secondGrad (d : Mat 2048 512) (p : Mat 2048 4096) (w : Mat 3 512) : Mat 2048 512 := fun y =>
  inputGrad d p w (y 0) (y 1) * p (ix2 (y 0) ⟨512 + (y 1).val, by have := (y 1).isLt; simp at this; omega⟩)

/-- What one row contributes to row `r` of the weights' gradient: the three taps, then the bias, then nothing. -/
def rowTerm (d : Mat 2048 512) (p : Mat 2048 4096) (r : ℕ) (i : Fin 2048) (j : Fin 512) : EReal :=
  if r = 3 then back d p i j else if r = 2 then back d p i j * taps p i j
  else if r = 1 then back d p i j * tapsBefore 1 p i j else if r = 0 then back d p i j * tapsBefore 2 p i j else 0

/-- The gradient of the three taps and the bias, in the first four of eight rows. -/
def weightGrad (d : Mat 2048 512) (p : Mat 2048 4096) : Mat 8 512 := fun y =>
  ∑ i : Fin 2048, rowTerm d p (y 0).val i (y 1)

end Cert.Conv
-- ==== Proof.ConvKernel.lean ====
/- What the convolution's gradient kernel leaves in its four results, index by index. -/
module

public import proofs.«01_k».proof.Proof.Gen.KernelIdeal.Value
public import proofs.«01_k».proof.Proof.ConvSpec
public import Idealize.ShloMosaic.Lib.Pipeline.ValueKit
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)
open scoped BigOperators

namespace Cert.KernelIdeal.Conv

open Cert.KernelIdeal Cert.KernelIdeal.Gen Cert.Conv

variable (m : (ℓ : Loc nD τ sig) → Buf (Elt Ideal) ℓ)

/-- The block every window reads or writes at a grid point. -/
theorem idx_val : ∀ t : Fin cfg0.N, win0_0.index t = ![t.val, 0]
    ∧ win0_1.index t = ![t.val, 0]
    ∧ win0_2.index t = ![t.val, 1]
    ∧ win0_3.index t = ![t.val, 2]
    ∧ win0_4.index t = ![t.val * 64 - 1, 1]
    ∧ win0_5.index t = ![t.val * 64 - 1, 2]
    ∧ win0_6.index t = ![min ((t.val + 1) * 64) 255, 0]
    ∧ win0_7.index t = ![min ((t.val + 1) * 64) 255, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![0, 0] :=
  (by decide +kernel : ∀ t : Fin grid0.N, _)

/-- There are four grid points. -/
theorem lt4 (t : Fin cfg0.N) : t.val < 4 := lt_of_lt_of_eq t.isLt (show cfg0.N = 4 from N_0)

/-- The kernel's test for a block that is not the first. -/
theorem notFirst : ∀ t : Fin cfg0.N, Scalar.cmpi CmpIPredicate.sgt (BitVec.ofNat 32 (grid0.coords t 0).val) 0#32
    = if 1 ≤ t.val then 1#1 else 0#1 :=
  (by decide +kernel : ∀ t : Fin grid0.N, _)

/-- The kernel's test for a block that is not the last. -/
theorem notLast : ∀ t : Fin cfg0.N, Scalar.cmpi CmpIPredicate.slt (BitVec.ofNat 32 (grid0.coords t 0).val) 3#32
    = if t.val < 3 then 1#1 else 0#1 :=
  (by decide +kernel : ∀ t : Fin grid0.N, _)

/-- Eight rows stored above 512 rows, read at an index. -/
theorem canon_low (A : S8x512.Idx → EReal) (B : S512x512.Idx → EReal) (r : Fin 520) (l : Fin 512) :
    View.canon (Val := Elt Ideal) (s := S520x512) (e := .f32)
      [⟨Rect.unit ![8, 0] ![512, 512] inb_S520x512_S512x512_8_0, B⟩,
       ⟨Rect.unit ![0, 0] ![8, 512] inb_S520x512_S8x512_0_0, A⟩] (ix2 r l)
      = if h : r.val < 8 then A (ix2 ⟨r.val, h⟩ l) else B (ix2 ⟨r.val - 8, by omega⟩ l) := by
  by_cases h : r.val < 8
  · rw [dif_pos h, View.canon_cons_of_not_mem]
    · rw [← View.canon_cons_emb (Val := Elt Ideal) (s := S520x512) (e := .f32)
        (Rect.unit ![0, 0] ![8, 512] inb_S520x512_S8x512_0_0) A [] (ix2 ⟨r.val, h⟩ l)]
      congr 1
      blk_ext
    · rw [Rect.mem_set_unit]
      intro hm
      have := (hm 0).1
      simp at this
      omega
  · rw [dif_neg h, ← View.canon_cons_emb (Val := Elt Ideal) (s := S520x512) (e := .f32)
        (Rect.unit ![8, 0] ![512, 512] inb_S520x512_S512x512_8_0) B _ (ix2 ⟨r.val - 8, by omega⟩ l)]
    congr 1
    blk_ext

/-- 512 rows stored above eight rows, read at an index. -/
theorem canon_high (A : S8x512.Idx → EReal) (B : S512x512.Idx → EReal) (r : Fin 520) (l : Fin 512) :
    View.canon (Val := Elt Ideal) (s := S520x512) (e := .f32)
      [⟨Rect.unit ![512, 0] ![8, 512] inb_S520x512_S8x512_512_0, A⟩,
       ⟨Rect.unit ![0, 0] ![512, 512] inb_S520x512_S512x512_0_0, B⟩] (ix2 r l)
      = if h : r.val < 512 then B (ix2 ⟨r.val, h⟩ l) else A (ix2 ⟨r.val - 512, by omega⟩ l) := by
  by_cases h : r.val < 512
  · rw [dif_pos h, View.canon_cons_of_not_mem]
    · rw [← View.canon_cons_emb (Val := Elt Ideal) (s := S520x512) (e := .f32)
        (Rect.unit ![0, 0] ![512, 512] inb_S520x512_S512x512_0_0) B [] (ix2 ⟨r.val, h⟩ l)]
      congr 1
      blk_ext
    · rw [Rect.mem_set_unit]
      intro hm
      have := (hm 0).1
      simp at this
      omega
  · rw [dif_neg h, ← View.canon_cons_emb (Val := Elt Ideal) (s := S520x512) (e := .f32)
        (Rect.unit ![512, 0] ![8, 512] inb_S520x512_S8x512_512_0) A _ (ix2 ⟨r.val - 512, by omega⟩ l)]
    congr 1
    blk_ext

/-- Row `r` of block `t` of a 2048-row array. -/
abbrev row (t : Fin cfg0.N) (r : Fin 512) : Fin 2048 := ⟨t.val * 512 + r.val, by have := lt4 t; omega⟩

/-- Where an element of the taps lands in the eight-row table: at its own place. -/
theorem lands (idx : IVec S1 32) (hidx : ∀ j, idx j = 0#32) (k : S3x512.Idx) (a : Fin 8) (b : Fin 512) :
    scatter_S8x512_S1_S3x512_01_n_0_0.resultIdx? k idx = some (ix2 a b) ↔ (k 0).val = a.val ∧ (k 1).val = b.val := by
  have s0 : scatter_S8x512_S1_S3x512_01_n_0_0.start k idx 0 = 0 := by
    unfold ScatterDims.start
    split
    · rw [hidx]; rfl
    · rfl
  have s1 : scatter_S8x512_S1_S3x512_01_n_0_0.start k idx 1 = 0 := by
    unfold ScatterDims.start
    split
    · rw [hidx]; rfl
    · rfl
  have w0 : scatter_S8x512_S1_S3x512_01_n_0_0.window k 0 = (k 0).val := rfl
  have w1 : scatter_S8x512_S1_S3x512_01_n_0_0.window k 1 = (k 1).val := rfl
  rw [Routing.resultIdx?_eq_some]
  constructor
  · intro h
    have h0 := h 0
    have h1 := h 1
    rw [s0, w0] at h0
    rw [s1, w1] at h1
    simp at h0 h1
    omega
  · rintro ⟨h0, h1⟩ x
    match x with
    | ⟨0, _⟩ => exact (congrArg₂ (fun (u : Int) (v : ℕ) => u + v) s0 (w0.trans h0)).trans (by simp)
    | ⟨1, _⟩ => exact (congrArg₂ (fun (u : Int) (v : ℕ) => u + v) s1 (w1.trans h1)).trans (by simp)

/-- The table holds the taps in its first three rows. -/
theorem scatter_taps {α : Type} (x : S8x512.Idx → α) (idx : IVec S1 32) (hidx : ∀ j, idx j = 0#32) (u : S3x512.Idx → α) (r : Fin 3) (l : Fin 512) :
    Host.scatter scatter_S8x512_S1_S3x512_01_n_0_0 (fun _ b => b) x idx u (ix2 ⟨r.val, by omega⟩ l) = u (ix2 r l) := by
  refine Routing.scatter_set_hit _ x idx u _ _ (fun k hk => congrArg u ?_) (ix2 r l) ((lands idx hidx _ _ _).2 ⟨rfl, rfl⟩)
  have := (lands idx hidx _ _ _).1 hk
  funext a
  match a with
  | ⟨0, _⟩ => exact Fin.ext this.1
  | ⟨1, _⟩ => exact Fin.ext this.2

theorem blk0 (c : Dev nD) (t : Fin cfg0.N) (r l : Fin 512) :
    iblk m c 0 t (ix2 r l) = m ((c : Thread nD τ).loc main_arg0) (ix2 (row t r) l) := by
  blk_point [iblk, V, idx_val t]

theorem blk1 (c : Dev nD) (t : Fin cfg0.N) (r l : Fin 512) :
    iblk m c 1 t (ix2 r l) = m ((c : Thread nD τ).loc main_arg1) (ix2 (row t r) ⟨l.val, by omega⟩) := by
  blk_point [iblk, V, idx_val t]

theorem blk2 (c : Dev nD) (t : Fin cfg0.N) (r l : Fin 512) :
    iblk m c 2 t (ix2 r l) = m ((c : Thread nD τ).loc main_arg1) (ix2 (row t r) ⟨512 + l.val, by omega⟩) := by
  blk_point [iblk, V, idx_val t]

theorem blk3 (c : Dev nD) (t : Fin cfg0.N) (r l : Fin 512) :
    iblk m c 3 t (ix2 r l) = m ((c : Thread nD τ).loc main_arg1) (ix2 (row t r) ⟨1024 + l.val, by omega⟩) := by
  blk_point [iblk, V, idx_val t]

theorem blk8 (c : Dev nD) (t : Fin cfg0.N) (r : Fin 3) (l : Fin 512) :
    iblk m c 8 t (ix2 ⟨r.val, by omega⟩ l) = m ((c : Thread nD τ).loc main_arg2) (ix2 r l) := by
  blk_simp [iblk, idx_val t]
  entry_read
  have e : ((View.whole main_v2).slice (win0_8.rect t)).emb (ix2 ⟨r.val, by omega⟩ l) = ix2 ⟨r.val, by omega⟩ l := by
    blk_ext [idx_val t]
  rw [e]
  exact scatter_taps _ _ (fun _ => rfl) _ r l

theorem blk9 (c : Dev nD) (t : Fin cfg0.N) (l : Fin 512) :
    iblk m c 9 t (ix2 0 l) = m ((c : Thread nD τ).loc main_arg3) (ix2 0 l) := by
  blk_point [iblk, V, idx_val t]

/-- The rows just above block `t`. -/
theorem blk45 (c : Dev nD) (t : Fin cfg0.N) (ht : 1 ≤ t.val) (r : Fin 8) (l : Fin 512) :
    mulf (F := Ideal) (φ := .f32) (iblk m c 4 t) (iblk m c 5 t) (ix2 r l)
      = taps (m ((c : Thread nD τ).loc main_arg1)) ⟨t.val * 512 + r.val - 8, by have := lt4 t; omega⟩ l := by
  pointwise [taps]
  refine Ideal.mul_congr ?_ ?_
  · blk_point [iblk, V, idx_val t]
  · blk_point [iblk, V, idx_val t]

/-- The rows just below block `t`. -/
theorem blk67 (c : Dev nD) (t : Fin cfg0.N) (ht : t.val < 3) (r : Fin 8) (l : Fin 512) :
    mulf (F := Ideal) (φ := .f32) (iblk m c 6 t) (iblk m c 7 t) (ix2 r l)
      = back (m ((c : Thread nD τ).loc main_arg0)) (m ((c : Thread nD τ).loc main_arg1)) ⟨t.val * 512 + 512 + r.val, by omega⟩ l := by
  pointwise [back]
  refine Ideal.mul_congr ?_ ?_
  · blk_point [iblk, V, idx_val t]
  · blk_point [iblk, V, idx_val t]

/-- The rows read from the buffer of the convolution's input, `k` rows above the block's own. -/
theorem above (c : Dev nD) (t : Fin cfg0.N) (k : ℕ) (hk : k ≤ 8) (r l : Fin 512) (q : Fin 520) (hq : q.val + k = 8 + r.val) :
    View.canon (Val := Elt Ideal) (s := S520x512) (e := .f32)
      [⟨Rect.unit ![8, 0] ![512, 512] inb_S520x512_S512x512_8_0, k0_pay3 (F := Ideal) (iblk m c 2 t) (iblk m c 3 t)⟩,
       ⟨Rect.unit ![0, 0] ![8, 512] inb_S520x512_S8x512_0_0, k0_pay2 (F := Ideal) (grid0.coords t) (iblk m c 4 t) (iblk m c 5 t)⟩] (ix2 q l)
      = tapsBefore k (m ((c : Thread nD τ).loc main_arg1)) (row t r) l := by
  rw [canon_low]
  by_cases h : q.val < 8
  · rw [dif_pos h]
    unfold k0_pay2
    dsimp only
    rw [shapeCast_self]
    by_cases ht : 1 ≤ t.val
    · rw [notFirst t, if_pos ht]
      refine (blk45 m c t ht ⟨q.val, h⟩ l).trans ?_
      unfold tapsBefore
      rw [if_pos (by show k ≤ t.val * 512 + r.val; omega)]
      congr 1
      exact Fin.ext (by show t.val * 512 + q.val - 8 = t.val * 512 + r.val - k; omega)
    · rw [notFirst t, if_neg ht]
      unfold tapsBefore
      rw [if_neg (by show ¬ k ≤ t.val * 512 + r.val; omega)]
      exact Ideal.ofBits_zero .f32
  · rw [dif_neg h]
    pointwise [k0_pay3, k0_pay1, blk2 m c t, blk3 m c t]
    unfold tapsBefore
    rw [if_pos (by show k ≤ t.val * 512 + r.val; omega)]
    have e : row t ⟨q.val - 8, by omega⟩ = ⟨(row t r).val - k, by omega⟩ :=
      Fin.ext (by show t.val * 512 + (q.val - 8) = t.val * 512 + r.val - k; omega)
    unfold taps
    rw [e]

/-- The rows read from the buffer of the convolution's gradient, `k` rows below the block's own. -/
theorem below (c : Dev nD) (t : Fin cfg0.N) (k : ℕ) (hk : k ≤ 8) (r l : Fin 512) (q : Fin 520) (hq : q.val = k + r.val) :
    View.canon (Val := Elt Ideal) (s := S520x512) (e := .f32)
      [⟨Rect.unit ![512, 0] ![8, 512] inb_S520x512_S8x512_512_0, k0_pay11 (F := Ideal) (BitVec.ofNat 32 (grid0.coords t 0).val) (iblk m c 6 t) (iblk m c 7 t)⟩,
       ⟨Rect.unit ![0, 0] ![512, 512] inb_S520x512_S512x512_0_0, k0_pay10 (F := Ideal) (iblk m c 0 t) (iblk m c 1 t)⟩] (ix2 q l)
      = backAfter k (m ((c : Thread nD τ).loc main_arg0)) (m ((c : Thread nD τ).loc main_arg1)) (row t r) l := by
  rw [canon_high]
  by_cases h : q.val < 512
  · rw [dif_pos h]
    pointwise [k0_pay10, k0_pay9, blk0 m c t, blk1 m c t]
    unfold backAfter
    rw [dif_pos (by show t.val * 512 + r.val + k < 2048; have := lt4 t; omega)]
    have e : row t ⟨q.val, h⟩ = ⟨(row t r).val + k, by have := lt4 t; show t.val * 512 + r.val + k < 2048; omega⟩ :=
      Fin.ext (by show t.val * 512 + q.val = t.val * 512 + r.val + k; omega)
    unfold back
    rw [e]
  · rw [dif_neg h]
    unfold k0_pay11
    dsimp only
    rw [shapeCast_self]
    by_cases ht : t.val < 3
    · rw [notLast t, if_pos ht]
      refine (blk67 m c t ht ⟨q.val - 512, by omega⟩ l).trans ?_
      unfold backAfter
      rw [dif_pos (by show t.val * 512 + r.val + k < 2048; omega)]
      congr 1
      exact Fin.ext (by show t.val * 512 + 512 + (q.val - 512) = t.val * 512 + r.val + k; omega)
    · rw [notLast t, if_neg ht]
      unfold backAfter
      rw [dif_neg (by have := lt4 t; show ¬ t.val * 512 + r.val + k < 2048; omega)]
      exact Ideal.ofBits_zero .f32

/-- What a grid point leaves of the gate's gradient. -/
theorem point10 (c : Dev nD) (t : Fin cfg0.N) (r l : Fin 512) :
    (outsAt0 m c t.val t.isLt).1 (ix2 r l) = gateGrad (m ((c : Thread nD τ).loc main_arg0)) (m ((c : Thread nD τ).loc main_arg1))
      (m ((c : Thread nD τ).loc main_arg2)) (m ((c : Thread nD τ).loc main_arg3)) (ix2 (row t r) l) := by
  by_cases h0 : t.val % 4 = 0
  on_goal 1 => rw [outsAt0_A m c t h0 (by have := lt4 t; omega)]
  on_goal 2 => rw [outsAt0_B m c t h0 (by have := lt4 t; omega)]
  all_goals
    frame_out
    pointwise [k0_pay1, k0_pay4, k0_pay5, k0_pay6, k0_pay7, k0_pay8, View.readCov_eq_canon', gateGrad, taps, blk0 m c t, blk2 m c t, blk3 m c t]
    exact Ideal.mul_congr rfl (Ideal.add_congr (Ideal.add_congr (Ideal.add_congr (Ideal.mul_congr (blk8 m c t 2 l) rfl)
      (Ideal.mul_congr (blk8 m c t 1 l) (above m c t 1 (by omega) r l _ (by show 7 + r.val + 1 = _; omega))))
      (Ideal.mul_congr (blk8 m c t 0 l) (above m c t 2 (by omega) r l _ (by show 6 + r.val + 2 = _; omega)))) (blk9 m c t l))

/-- What a grid point leaves of the first factor's gradient. -/
theorem point11 (c : Dev nD) (t : Fin cfg0.N) (r l : Fin 512) :
    (outsAt0 m c t.val t.isLt).2.1 (ix2 r l) = firstGrad (m ((c : Thread nD τ).loc main_arg0)) (m ((c : Thread nD τ).loc main_arg1))
      (m ((c : Thread nD τ).loc main_arg2)) (ix2 (row t r) l) := by
  by_cases h0 : t.val % 4 = 0
  on_goal 1 => rw [outsAt0_A m c t h0 (by have := lt4 t; omega)]
  on_goal 2 => rw [outsAt0_B m c t h0 (by have := lt4 t; omega)]
  all_goals
    frame_out
    pointwise [k0_pay4, k0_pay5, k0_pay6, k0_pay9, k0_pay12, k0_pay13, View.readCov_eq_canon', firstGrad, inputGrad, back, blk0 m c t, blk1 m c t, blk3 m c t]
    exact Ideal.mul_congr (Ideal.add_congr (Ideal.add_congr (Ideal.mul_congr (blk8 m c t 2 l) rfl)
      (Ideal.mul_congr (blk8 m c t 1 l) (below m c t 1 (by omega) r l _ rfl)))
      (Ideal.mul_congr (blk8 m c t 0 l) (below m c t 2 (by omega) r l _ rfl))) rfl

/-- What a grid point leaves of the second factor's gradient. -/
theorem point12 (c : Dev nD) (t : Fin cfg0.N) (r l : Fin 512) :
    (outsAt0 m c t.val t.isLt).2.2.1 (ix2 r l) = secondGrad (m ((c : Thread nD τ).loc main_arg0)) (m ((c : Thread nD τ).loc main_arg1))
      (m ((c : Thread nD τ).loc main_arg2)) (ix2 (row t r) l) := by
  by_cases h0 : t.val % 4 = 0
  on_goal 1 => rw [outsAt0_A m c t h0 (by have := lt4 t; omega)]
  on_goal 2 => rw [outsAt0_B m c t h0 (by have := lt4 t; omega)]
  all_goals
    frame_out
    pointwise [k0_pay4, k0_pay5, k0_pay6, k0_pay9, k0_pay12, k0_pay14, View.readCov_eq_canon', secondGrad, inputGrad, back, blk0 m c t, blk1 m c t, blk2 m c t]
    exact Ideal.mul_congr (Ideal.add_congr (Ideal.add_congr (Ideal.mul_congr (blk8 m c t 2 l) rfl)
      (Ideal.mul_congr (blk8 m c t 1 l) (below m c t 1 (by omega) r l _ rfl)))
      (Ideal.mul_congr (blk8 m c t 0 l) (below m c t 2 (by omega) r l _ rfl))) rfl

/-- What a grid point adds to the weights' gradient. -/
theorem part (c : Dev nD) (t : Fin cfg0.N) (a : Fin 8) (l : Fin 512) (Q1 Q2 : S512x512.Idx → EReal)
    (h1 : ∀ r, Q1 (ix2 r l) = tapsBefore 1 (m ((c : Thread nD τ).loc main_arg1)) (row t r) l)
    (h2 : ∀ r, Q2 (ix2 r l) = tapsBefore 2 (m ((c : Thread nD τ).loc main_arg1)) (row t r) l) :
    k0_pay15 (F := Ideal) (k0_pay1 (iblk m c 2 t) (iblk m c 3 t)) Q1 Q2 (k0_pay9 (iblk m c 0 t) (iblk m c 1 t)) (ix2 a l)
      = ∑ r : Fin 512, rowTerm (m ((c : Thread nD τ).loc main_arg0)) (m ((c : Thread nD τ).loc main_arg1)) a.val (row t r) l := by
  pointwise [k0_pay1, k0_pay9, k0_pay15, h1, h2, blk0 m c t, blk1 m c t, blk2 m c t, blk3 m c t]
  unfold rowTerm
  fin_cases a
  on_goal 5 => exact Finset.sum_const_zero.symm
  on_goal 5 => exact Finset.sum_const_zero.symm
  on_goal 5 => exact Finset.sum_const_zero.symm
  on_goal 5 => exact Finset.sum_const_zero.symm
  all_goals rfl

/-- After the first point the weights' gradient holds the first block's part. -/
theorem start13 (c : Dev nD) (t : Fin cfg0.N) (h0 : t.val % 4 = 0) (y : S8x512.Idx) :
    (outsAt0 m c t.val t.isLt).2.2.2 y = (0 : EReal)
      + ∑ r : Fin 512, rowTerm (m ((c : Thread nD τ).loc main_arg0)) (m ((c : Thread nD τ).loc main_arg1)) (y 0).val (row t r) (y 1) := by
  rw [outsAt0_A m c t h0 (by have := lt4 t; omega)]
  frame_out
  idx_vars y
  rw [zero_add]
  refine part m c t y0 y1 _ _ (fun r => ?_) (fun r => ?_)
  · pointwise [View.readCov_eq_canon']
    exact above m c t 1 (by omega) r y1 _ (by show 7 + r.val + 1 = _; omega)
  · pointwise [View.readCov_eq_canon']
    exact above m c t 2 (by omega) r y1 _ (by show 6 + r.val + 2 = _; omega)

/-- Every later point adds its block's part. -/
theorem step13 (c : Dev nD) (t : Fin cfg0.N) (h0 : ¬t.val % 4 = 0) (y : S8x512.Idx) :
    (outsAt0 m c t.val t.isLt).2.2.2 y = (show EReal from (outsAt0 m c (t.val - 1) (Nat.lt_of_le_of_lt (Nat.sub_le _ _) t.isLt)).2.2.2 y)
      + ∑ r : Fin 512, rowTerm (m ((c : Thread nD τ).loc main_arg0)) (m ((c : Thread nD τ).loc main_arg1)) (y 0).val (row t r) (y 1) := by
  rw [outsAt0_B m c t h0 (by have := lt4 t; omega)]
  frame_out
  idx_vars y
  pointwise [k0_pay16]
  refine Ideal.add_congr rfl (part m c t y0 y1 _ _ (fun r => ?_) (fun r => ?_))
  · pointwise [View.readCov_eq_canon']
    exact above m c t 1 (by omega) r y1 _ (by show 7 + r.val + 1 = _; omega)
  · pointwise [View.readCov_eq_canon']
    exact above m c t 2 (by omega) r y1 _ (by show 6 + r.val + 2 = _; omega)

theorem final10 (c : Dev nD) : (dats m 0 c).arrAt 10 cfg0.N = gateGrad (m ((c : Thread nD τ).loc main_arg0)) (m ((c : Thread nD τ).loc main_arg1))
      (m ((c : Thread nD τ).loc main_arg2)) (m ((c : Thread nD τ).loc main_arg3)) := by
  refine (dats m 0 c).arrAt_eq_of_covers 10 _ (by decide +kernel) fun t _ y => ?_
  blk_simp
  rw [after0_10]
  idx_vars y
  refine (point10 m c t y0 y1).trans (congrArg _ ?_)
  blk_ext [idx_val t]

theorem final11 (c : Dev nD) : (dats m 0 c).arrAt 11 cfg0.N = firstGrad (m ((c : Thread nD τ).loc main_arg0)) (m ((c : Thread nD τ).loc main_arg1))
      (m ((c : Thread nD τ).loc main_arg2)) := by
  refine (dats m 0 c).arrAt_eq_of_covers 11 _ (by decide +kernel) fun t _ y => ?_
  blk_simp
  rw [after0_11]
  idx_vars y
  refine (point11 m c t y0 y1).trans (congrArg _ ?_)
  blk_ext [idx_val t]

theorem final12 (c : Dev nD) : (dats m 0 c).arrAt 12 cfg0.N = secondGrad (m ((c : Thread nD τ).loc main_arg0)) (m ((c : Thread nD τ).loc main_arg1))
      (m ((c : Thread nD τ).loc main_arg2)) := by
  refine (dats m 0 c).arrAt_eq_of_covers 12 _ (by decide +kernel) fun t _ y => ?_
  blk_simp
  rw [after0_12]
  idx_vars y
  refine (point12 m c t y0 y1).trans (congrArg _ ?_)
  blk_ext [idx_val t]

/-- The weights' gradient after the last point is the sum over all rows. -/
theorem final13 (c : Dev nD) : (dats m 0 c).arrAt 13 cfg0.N = weightGrad (m ((c : Thread nD τ).loc main_arg0)) (m ((c : Thread nD τ).loc main_arg1)) := by
  refine (dats m 0 c).arrAt_eq_of_after_last 13 t0_3 (by decide +kernel) _ fun j => ?_
  blk_simp
  rw [after0_13, Pipeline.eq_sum_fin_of_reset_step_apply_last (fun n h => (outsAt0 m c n h).2.2.2) 4 (fun _ => (0 : EReal)) _
    (start13 m c) (step13 m c) (le_of_eq N_0) t0_3 rfl j, zero_add]
  exact Fin.sum_mul_add_congr (fun p r hl => rfl) (by decide)

/-- Every run of the kernel ends with the four gradients and leaves the arguments alone. -/
theorem run (ρ : Dev nD → PrngReg) :
    θ_run defs (onTc (τ := τ) (main (F := Ideal))) ⟨m, fun _ => 0, ρ⟩ fun r => ∀ c : Dev nD,
      r.2.mem ((c : Thread nD τ).loc main_v3_0) = gateGrad (m ((c : Thread nD τ).loc main_arg0)) (m ((c : Thread nD τ).loc main_arg1))
          (m ((c : Thread nD τ).loc main_arg2)) (m ((c : Thread nD τ).loc main_arg3))
      ∧ r.2.mem ((c : Thread nD τ).loc main_v3_1) = firstGrad (m ((c : Thread nD τ).loc main_arg0)) (m ((c : Thread nD τ).loc main_arg1))
          (m ((c : Thread nD τ).loc main_arg2))
      ∧ r.2.mem ((c : Thread nD τ).loc main_v3_2) = secondGrad (m ((c : Thread nD τ).loc main_arg0)) (m ((c : Thread nD τ).loc main_arg1))
          (m ((c : Thread nD τ).loc main_arg2))
      ∧ r.2.mem ((c : Thread nD τ).loc main_v3_3) = weightGrad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final10 m c), (h c).2.1.trans (final11 m c), (h c).2.2.1.trans (final12 m c),
    (h c).2.2.2.1.trans (final13 m c), (h c).2.2.2.2⟩) (Cert.KernelIdeal.Value.run_blocks m ρ)

end Cert.KernelIdeal.Conv
-- ==== Proof.ConvRef.lean ====
/- The reference's four results are the index-by-index gradients. -/
module

public import proofs.«01_k».proof.Proof.Gen.ReferenceIdeal.Run
public import proofs.«01_k».proof.Proof.ConvSpec
public import Idealize.ShloMosaic.Lib.Pipeline.ValueKit

@[expose] public section

set_option maxRecDepth 16384

noncomputable section

open Idealize.ShloMosaic Idealize.ShloMosaic.TcCoe Idealize.SL.Sem
open scoped BigOperators

namespace Cert.ReferenceIdeal.Conv

open Cert.ReferenceIdeal Cert.Conv

variable (m : (ℓ : Loc nD τ sig) → Buf (Elt Ideal) ℓ)

/-- The gradient of the convolution's input, as the reference adds it up: each term moved up and zero past the last row. -/
theorem advanced (d : Mat 2048 512) (p : Mat 2048 4096) (w : Mat 3 512) (y0 : Fin 2048) (y1 : Fin 512) :
    ((w (ix2 2 y1) * (p (ix2 y0 ⟨↑y1, by omega⟩) * d (ix2 y0 y1)) +
        if h : (y0 : ℕ) < 2047 then w (ix2 1 y1) * (p (ix2 ⟨1 + ↑y0, by omega⟩ ⟨↑y1, by omega⟩) * d (ix2 ⟨1 + ↑y0, by omega⟩ y1)) else 0) +
      if h : (y0 : ℕ) < 2046 then w (ix2 0 y1) * (p (ix2 ⟨2 + ↑y0, by omega⟩ ⟨↑y1, by omega⟩) * d (ix2 ⟨2 + ↑y0, by omega⟩ y1)) else 0)
    = w (ix2 2 y1) * (d (ix2 y0 y1) * p (ix2 y0 ⟨↑y1, by omega⟩)) +
        w (ix2 1 y1) * (if h : (y0 : ℕ) + 1 < 2048 then d (ix2 ⟨↑y0 + 1, h⟩ y1) * p (ix2 ⟨↑y0 + 1, h⟩ ⟨↑y1, by omega⟩) else 0) +
      w (ix2 0 y1) * (if h : (y0 : ℕ) + 2 < 2048 then d (ix2 ⟨↑y0 + 2, h⟩ y1) * p (ix2 ⟨↑y0 + 2, h⟩ ⟨↑y1, by omega⟩) else 0) := by
  refine congrArg₂ (· + ·) (congrArg₂ (· + ·) ?_ ?_) ?_
  · rw [mul_comm (p _)]
  · by_cases h : (y0 : ℕ) < 2047
    · rw [dif_pos h, dif_pos (by omega), mul_comm (p _)]
      simp only [Nat.add_comm 1]
    · rw [dif_neg h, dif_neg (by omega), mul_zero]
  · by_cases h : (y0 : ℕ) < 2046
    · rw [dif_pos h, dif_pos (by omega), mul_comm (p _)]
      simp only [Nat.add_comm 2]
    · rw [dif_neg h, dif_neg (by omega), mul_zero]

/-- Every run of the reference ends with the four gradients and leaves the arguments alone. -/
theorem run (ρ : Dev nD → PrngReg) :
    θ_run defs (onTc (τ := τ) (main (F := Ideal))) ⟨m, fun _ => 0, ρ⟩ fun r => ∀ c : Dev nD,
      r.2.mem ((c : Thread nD τ).loc main_v74) = gateGrad (m ((c : Thread nD τ).loc main_arg0)) (m ((c : Thread nD τ).loc main_arg1))
          (m ((c : Thread nD τ).loc main_arg2)) (m ((c : Thread nD τ).loc main_arg3))
      ∧ r.2.mem ((c : Thread nD τ).loc main_v75) = firstGrad (m ((c : Thread nD τ).loc main_arg0)) (m ((c : Thread nD τ).loc main_arg1))
          (m ((c : Thread nD τ).loc main_arg2))
      ∧ r.2.mem ((c : Thread nD τ).loc main_v76) = secondGrad (m ((c : Thread nD τ).loc main_arg0)) (m ((c : Thread nD τ).loc main_arg1))
          (m ((c : Thread nD τ).loc main_arg2))
      ∧ r.2.mem ((c : Thread nD τ).loc main_v73) = weightGrad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Cert.ReferenceIdeal.Value.run m ρ)
  refine ⟨(h c).1.trans ?_, (h c).2.1.trans ?_, (h c).2.2.1.trans ?_, (h c).2.2.2.1.trans ?_, (h c).2.2.2.2⟩ <;> clear h
  · generalize m (c.tc.loc main_arg0) = d, m (c.tc.loc main_arg1) = p, m (c.tc.loc main_arg2) = w, m (c.tc.loc main_arg3) = b
    funext y
    idx_vars y
    pointwise [gateGrad, taps, tapsBefore]
    refine Ideal.mul_congr rfl (Ideal.add_congr ?_ rfl)
    by_cases h2 : 2 ≤ (y0 : ℕ)
    · have h1 : 1 ≤ (y0 : ℕ) := by omega
      simp only [h1, h2, Nat.not_lt.mpr h1, Nat.not_lt.mpr h2, dif_neg, not_false_eq_true, if_true]
      ac_nf
    · by_cases h1 : 1 ≤ (y0 : ℕ)
      · simp only [h1, h2, Nat.not_lt.mpr h1, Nat.not_le.mp h2, dif_neg, dif_pos, not_false_eq_true, if_true, if_false]
        ac_nf
      · simp only [h1, h2, Nat.not_le.mp h1, Nat.not_le.mp h2, dif_pos, not_false_eq_true, if_true, if_false, mul_zero]
        ac_nf
  · generalize m (c.tc.loc main_arg0) = d, m (c.tc.loc main_arg1) = p, m (c.tc.loc main_arg2) = w, m (c.tc.loc main_arg3) = b
    funext y
    idx_vars y
    pointwise [firstGrad, inputGrad, backAfter, back]
    refine Ideal.mul_congr (advanced d p w y0 y1) rfl
  · generalize m (c.tc.loc main_arg0) = d, m (c.tc.loc main_arg1) = p, m (c.tc.loc main_arg2) = w
    funext y
    idx_vars y
    pointwise [secondGrad, inputGrad, backAfter, back]
    rw [mul_comm]
    refine Ideal.mul_congr (advanced d p w y0 y1) rfl
  · generalize m (c.tc.loc main_arg0) = d, m (c.tc.loc main_arg1) = p
    funext y
    idx_vars y
    have hy : (y0 : ℕ) = 0 ∨ (y0 : ℕ) = 1 ∨ (y0 : ℕ) = 2 ∨ (y0 : ℕ) = 3 ∨ 4 ≤ (y0 : ℕ) := by omega
    rcases hy with hy | hy | hy | hy | hy
    · obtain rfl : y0 = 0 := Fin.ext hy
      pointwise [weightGrad, rowTerm, tapsBefore, taps, back]
      rw [Fin.sum_univ_one]
      exact Ideal.add_congr (Fin.sum_fin_congr fun _ => by rw [mul_zero, mul_zero])
        (Fin.sum_fin_congr fun _ => Ideal.mul_congr (mul_comm _ _) rfl)
    · obtain rfl : y0 = 1 := Fin.ext hy
      pointwise [weightGrad, rowTerm, tapsBefore, taps, back]
      rw [Fin.sum_univ_one]
      exact Ideal.add_congr (Fin.sum_fin_congr fun _ => by rw [mul_zero, mul_zero])
        (Fin.sum_fin_congr fun _ => Ideal.mul_congr (mul_comm _ _) rfl)
    · obtain rfl : y0 = 2 := Fin.ext hy
      pointwise [weightGrad, rowTerm, taps, back]
      rw [Fin.sum_univ_one]
      exact Fin.sum_fin_congr fun _ => Ideal.mul_congr (mul_comm _ _) rfl
    · obtain rfl : y0 = 3 := Fin.ext hy
      pointwise! [weightGrad, rowTerm, taps, back]
    · have e : ∀ i j, rowTerm d p (y0 : ℕ) i j = 0 := fun i j => by
        simp only [rowTerm, show ¬(y0 : ℕ) = 3 by omega, show ¬(y0 : ℕ) = 2 by omega, show ¬(y0 : ℕ) = 1 by omega,
          show ¬(y0 : ℕ) = 0 by omega, if_false]
      have e' : weightGrad d p (ix2 y0 y1) = 0 := Finset.sum_eq_zero fun i _ => e i y1
      rw [e']
      pointwise
      rw [dif_neg (by omega), dif_neg (by omega)]

end Cert.ReferenceIdeal.Conv
-- ==== Proof.FfnSpec.lean ====
/- The SwiGLU sublayer, its layer norm and its gradient, index by index over the extended reals. -/
module

public import Idealize.ShloMosaic.Lib.Pointwise

@[expose] public section

noncomputable section

open Idealize.ShloMosaic Idealize.SL.Sem
open scoped BigOperators

namespace Cert.Ffn

/-- A matrix of extended reals. -/
abbrev Mat (a b : ℕ) : Type := (⟨2, ![a, b]⟩ : Shape).Idx → EReal
/-- A stack of matrices. -/
abbrev Cube (a b c : ℕ) : Type := (⟨3, ![a, b, c]⟩ : Shape).Idx → EReal
/-- A pair of stacks of matrices. -/
abbrev Pair (a b c d : ℕ) : Type := (⟨4, ![a, b, c, d]⟩ : Shape).Idx → EReal

/-- The logistic function. -/
abbrev sig (z : EReal) : EReal := Ideal.logistic z

/-- The weight of the residual, as the programs hold it. -/
def alpha : EReal := Ideal.ofBits .f32 0x3F9837F0#32

/-- The weight of the sublayer's output. -/
def half : EReal := Ideal.ofBits .f32 0x3F000000#32

/-- The number of columns of the layer norm. -/
def cols : EReal := Ideal.ofBits .f32 0x44800000#32

/-- The layer norm's epsilon. -/
def eps : EReal := Ideal.ofBits .f32 0x3727C5AC#32

/-- Row `t` of `x` against row `l` of matrix `j` of the stack `w`. -/
def rowDot {J : ℕ} (x : Mat 2048 1024) (w : Cube J 704 1024) (j : Fin J) (t : Fin 2048) (l : Fin 704) : EReal :=
  ∑ n : Fin 1024, x (ix2 t n) * w (ix3 j l n)

/-- The gate's block of the stack of eight. -/
abbrev lowBlk (j : Fin 4) : Fin 8 := ⟨j.val, by omega⟩
/-- The other half's block. -/
abbrev upBlk (j : Fin 4) : Fin 8 := ⟨j.val + 4, by omega⟩

/-- A hidden activation of block `j`, from the gate's product and the other half's. -/
def act (g u : EReal) : EReal := g * sig g * u

/-- The hidden activations, in four column blocks. -/
def acts (x : Mat 2048 1024) (w : Cube 8 704 1024) : Cube 4 2048 704 := fun y =>
  act (rowDot x w (lowBlk (y 0)) (y 1) (y 2)) (rowDot x w (upBlk (y 0)) (y 1) (y 2))

/-- The two products, kept for the backward pass. -/
def kept (x : Mat 2048 1024) (w : Cube 8 704 1024) : Pair 2 4 2048 704 := fun y =>
  if (y 0).val = 0 then rowDot x w (lowBlk (y 1)) (y 2) (y 3) else rowDot x w (upBlk (y 1)) (y 2) (y 3)

/-- The rows of a stack of activations against the columns of a stack of weights, summed over the stack. -/
def stackDot {J : ℕ} (a : Cube J 2048 704) (w : Cube J 704 1024) (t : Fin 2048) (n : Fin 1024) : EReal :=
  ∑ j : Fin J, ∑ l : Fin 704, a (ix3 j t l) * w (ix3 j l n)

/-- The residual plus half the sublayer's output. -/
def resid (a : Cube 4 2048 704) (w : Cube 4 704 1024) (x : Mat 2048 1024) (t : Fin 2048) (n : Fin 1024) : EReal :=
  alpha * x (ix2 t n) + half * stackDot a w t n

/-- An element of a row less the row's mean. -/
def centred (r : Fin 1024 → EReal) (n : Fin 1024) : EReal := r n - Ideal.div (∑ k, r k) cols

/-- A row's layer norm. -/
def lnRow (r : Fin 1024 → EReal) (g b : Mat 1 1024) (n : Fin 1024) : EReal :=
  centred r n * Ideal.rsqrt (Ideal.div (∑ k, centred r k * centred r k) cols + eps) * g (ix2 0 n) + b (ix2 0 n)

/-- The sublayer's output after its layer norm. -/
def normed (a : Cube 4 2048 704) (w : Cube 4 704 1024) (x : Mat 2048 1024) (g b : Mat 1 1024) : Mat 2048 1024 := fun y =>
  lnRow (resid a w x (y 0)) g b (y 1)

/-- A weight's gradient: columns of the activations against columns of the gradient `d`. -/
def weightGrad {J : ℕ} (a : Cube J 2048 704) (d : Mat 2048 1024) : Cube J 704 1024 := fun y =>
  ∑ t : Fin 2048, a (ix3 (y 0) t (y 1)) * d (ix2 t (y 2))

/-- The gradient of the gate's product, from the gradient `da` of the hidden activation. -/
def gateGrad (da g u : EReal) : EReal := da * u * (sig g * (1 + g * (1 - sig g)))

/-- The gradients of the two products. -/
def pairGrad (d : Mat 2048 1024) (w : Cube 4 704 1024) (h : Pair 2 4 2048 704) : Pair 2 4 2048 704 := fun y =>
  if (y 0).val = 0 then
    gateGrad (rowDot d w (y 1) (y 2) (y 3)) (h (ix4 0 (y 1) (y 2) (y 3))) (h (ix4 1 (y 1) (y 2) (y 3)))
  else
    rowDot d w (y 1) (y 2) (y 3) * (h (ix4 0 (y 1) (y 2) (y 3)) * sig (h (ix4 0 (y 1) (y 2) (y 3))))

/-- The gradient of the input: through the first product, plus the residual's. -/
def inputGrad (dh : Cube 8 2048 704) (w : Cube 8 704 1024) (dr : Mat 2048 1024) : Mat 2048 1024 := fun y =>
  stackDot dh w (y 0) (y 1) + alpha * dr (ix2 (y 0) (y 1))

/-- The gradient of the input through the first product alone. -/
def inputProd (dh : Cube 8 2048 704) (w : Cube 8 704 1024) : Mat 2048 1024 := fun y => stackDot dh w (y 0) (y 1)

/-- The first weight, transposed and cut into eight blocks of 704 columns. -/
def packIn (w : Mat 1024 5632) : Cube 8 704 1024 := fun y =>
  w (ix2 (y 2) ⟨(y 0).val * 704 + (y 1).val, by have h : (y 0).val < 8 := (y 0).isLt; have h' : (y 1).val < 704 := (y 1).isLt; omega⟩)

/-- The second weight, cut into four blocks of 704 rows. -/
def packOut (w : Mat 2816 1024) : Cube 4 704 1024 := fun y =>
  w (ix2 ⟨(y 0).val * 704 + (y 1).val, by have h : (y 0).val < 4 := (y 0).isLt; have h' : (y 1).val < 704 := (y 1).isLt; omega⟩ (y 2))

/-- A pair of stacks of four as one stack of eight. -/
def join (p : Pair 2 4 2048 704) : Cube 8 2048 704 := fun y =>
  p (ix4 ⟨(y 0).val / 4, by have h : (y 0).val < 8 := (y 0).isLt; omega⟩ ⟨(y 0).val % 4, by omega⟩ (y 1) (y 2))

/-- The sublayer's normed output from the arguments. -/
def outSpec (x : Mat 2048 1024) (wi : Mat 1024 5632) (wo : Mat 2816 1024) (g b : Mat 1 1024) : Mat 2048 1024 :=
  normed (acts x (packIn wi)) (packOut wo) x g b

/-- The gradients of the two products from the arguments, as one stack of eight. -/
def hiddenGrad (x : Mat 2048 1024) (wi : Mat 1024 5632) (wo : Mat 2816 1024) (d : Mat 2048 1024) : Cube 8 2048 704 :=
  join (pairGrad d (packOut wo) (kept x (packIn wi)))

/-- The input's gradient from the arguments. -/
def inputSpec (x : Mat 2048 1024) (wi : Mat 1024 5632) (wo : Mat 2816 1024) (d dr : Mat 2048 1024) : Mat 2048 1024 :=
  inputGrad (hiddenGrad x wi wo d) (packIn wi) dr

/-- The input's gradient through the products alone, from the arguments. -/
def innerSpec (x : Mat 2048 1024) (wi : Mat 1024 5632) (wo : Mat 2816 1024) (d : Mat 2048 1024) : Mat 2048 1024 :=
  inputProd (hiddenGrad x wi wo d) (packIn wi)

/-- The first weight's gradient from the arguments. -/
def inSpec (x : Mat 2048 1024) (wi : Mat 1024 5632) (wo : Mat 2816 1024) (d : Mat 2048 1024) : Cube 8 704 1024 :=
  weightGrad (hiddenGrad x wi wo d) x

/-- The second weight's gradient from the arguments. -/
def outWeightSpec (x : Mat 2048 1024) (wi : Mat 1024 5632) (d : Mat 2048 1024) : Cube 4 704 1024 :=
  weightGrad (acts x (packIn wi)) d

end Cert.Ffn
-- ==== Proof.FfnR0.lean ====
/- What the call computing the hidden activations leaves, from any contents at its entry. -/
module

public import proofs.«01_k».proof.Proof.Gen.Kernel2Ideal.Frame
public import proofs.«01_k».proof.Proof.FfnSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen Cert.Ffn

variable (V : (c : Dev nD) → (b : Ref sig .tc) → Buf (Elt Ideal) ((c : Thread nD τ).loc b))

/-- The block every window of the first call is on: the column block is the outer coordinate, the row block the inner. -/
theorem idx0 : ∀ t : Fin cfg0.N, win0_0.index t = ![t.val % 2, 0]
    ∧ win0_1.index t = ![t.val / 2, 0, 0]
    ∧ win0_2.index t = ![t.val / 2 + 4, 0, 0]
    ∧ win0_3.index t = ![t.val / 2, t.val % 2, 0]
    ∧ win0_4.index t = ![0, t.val / 2, t.val % 2, 0] :=
  (by decide +kernel : ∀ t : Fin grid0.N, _)

/-- There are eight grid points. -/
theorem lt0 (t : Fin cfg0.N) : t.val < 8 := lt_of_lt_of_eq t.isLt (show cfg0.N = 8 from N_0)

/-- Row `r` of the point's row block. -/
abbrev row0 (t : Fin cfg0.N) (r : Fin 1024) : Fin 2048 := ⟨(t.val % 2) * 1024 + r.val, by omega⟩
/-- The point's column block. -/
abbrev blk0 (t : Fin cfg0.N) : Fin 4 := ⟨t.val / 2, by have := lt0 t; omega⟩

theorem blk0_0 (c : Dev nD) (t : Fin cfg0.N) (r n : Fin 1024) :
    iblk0 V c 0 t (ix2 r n) = V c main_v5 (ix2 (row0 t r) n) := by
  blk_point [iblk0, idx0 t]

theorem blk0_1 (c : Dev nD) (t : Fin cfg0.N) (l : Fin 704) (n : Fin 1024) :
    iblk0 V c 1 t (ix3 0 l n) = V c main_v2 (ix3 (lowBlk (blk0 t)) l n) := by
  blk_point [iblk0, idx0 t]

theorem blk0_2 (c : Dev nD) (t : Fin cfg0.N) (l : Fin 704) (n : Fin 1024) :
    iblk0 V c 2 t (ix3 0 l n) = V c main_v2 (ix3 (upBlk (blk0 t)) l n) := by
  blk_point [iblk0, idx0 t]

theorem point0_3 (c : Dev nD) (t : Fin cfg0.N) (z : Fin 1) (r : Fin 1024) (l : Fin 704) :
    out0_3 (F := Ideal) (iblk0 V c 0 t) (iblk0 V c 1 t) (iblk0 V c 2 t) (ix3 z r l)
      = acts (V c main_v5) (V c main_v2) (ix3 (blk0 t) (row0 t r) l) := by
  obtain rfl : z = 0 := Subsingleton.elim _ _
  unfold out0_3
  frame_out
  pointwise [k0_pay1, k0_pay2, k0_pay3, k0_pay4, acts, act, rowDot, blk0_0 V c t, blk0_1 V c t, blk0_2 V c t]

theorem final0_3 (c : Dev nD) : (dat0 V c).arrAt 3 cfg0.N = acts (V c main_v5) (V c main_v2) := by
  refine (dat0 V c).arrAt_eq_of_covers 3 _ (by decide +kernel) fun t _ y => ?_
  blk_simp
  rw [after0_3]
  idx_vars y
  refine (point0_3 V c t y0 y1 y2).trans (congrArg _ ?_)
  blk_ext [idx0 t]

/-- Two slabs stored one above the other, read at an index. -/
theorem canon_two (A B : S1x1x1024x704.Idx → EReal) (s : Fin 2) (r : Fin 1024) (l : Fin 704) :
    View.canon (Val := Elt Ideal) (s := S2x1x1024x704) (e := .bf16) [⟨r0_4, A⟩, ⟨r0_3, B⟩] (ix4 s 0 r l)
      = if s.val = 0 then B (ix4 0 0 r l) else A (ix4 0 0 r l) := by
  by_cases h : s.val = 0
  · rw [if_pos h, View.canon_cons_of_not_mem]
    · rw [← View.canon_cons_emb (Val := Elt Ideal) (s := S2x1x1024x704) (e := .bf16) r0_3 B [] (ix4 0 0 r l)]
      congr 1
      blk_ext [h]
    · rw [Rect.mem_set_unit]
      intro hm
      have := (hm 0).1
      simp at this
      omega
  · rw [if_neg h, ← View.canon_cons_emb (Val := Elt Ideal) (s := S2x1x1024x704) (e := .bf16) r0_4 A _ (ix4 0 0 r l)]
    congr 1
    blk_ext

theorem point0_4 (c : Dev nD) (t : Fin cfg0.N) (s : Fin 2) (z : Fin 1) (r : Fin 1024) (l : Fin 704) :
    out0_4 (F := Ideal) (iblk0 V c 0 t) (iblk0 V c 1 t) (iblk0 V c 2 t) (ix4 s z r l)
      = kept (V c main_v5) (V c main_v2) (ix4 s (blk0 t) (row0 t r) l) := by
  obtain rfl : z = 0 := Subsingleton.elim _ _
  unfold out0_4
  refine (canon_two _ _ s r l).trans ?_
  unfold kept
  refine if_congr Iff.rfl ?_ ?_
  · frame_out
    pointwise [k0_pay1, k0_pay2, k0_pay5, rowDot, blk0_0 V c t, blk0_1 V c t]
  · frame_out
    pointwise [k0_pay1, k0_pay3, k0_pay6, rowDot, blk0_0 V c t, blk0_2 V c t]

theorem final0_4 (c : Dev nD) : (dat0 V c).arrAt 4 cfg0.N = kept (V c main_v5) (V c main_v2) := by
  refine (dat0 V c).arrAt_eq_of_covers 4 _ (by decide +kernel) fun t _ y => ?_
  blk_simp
  rw [after0_4]
  idx_vars y
  refine (point0_4 V c t y0 y1 y2 y3).trans (congrArg _ ?_)
  blk_ext [idx0 t]

end Cert.Kernel2Ideal.Ffn
-- ==== Proof.FfnR1.lean ====
/- What the call closing the sublayer leaves, from any contents at its entry. -/
module

public import proofs.«01_k».proof.Proof.Gen.Kernel2Ideal.Frame
public import proofs.«01_k».proof.Proof.FfnSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen Cert.Ffn

variable (V : (c : Dev nD) → (b : Ref sig .tc) → Buf (Elt Ideal) ((c : Thread nD τ).loc b))

/-- The block every window of the second call is on: the point's row block, and everything else whole. -/
theorem idx1 : ∀ t : Fin cfg1.N, win1_0.index t = ![0, t.val, 0]
    ∧ win1_1.index t = ![0, 0, 0]
    ∧ win1_2.index t = ![t.val, 0]
    ∧ win1_3.index t = ![0, 0]
    ∧ win1_4.index t = ![0, 0]
    ∧ win1_6.index t = ![t.val, 0] :=
  (by decide +kernel : ∀ t : Fin grid1.N, _)

/-- There are four grid points. -/
theorem lt1 (t : Fin cfg1.N) : t.val < 4 := lt_of_lt_of_eq t.isLt (show cfg1.N = 4 from N_1)

/-- Row `r` of the point's row block. -/
abbrev row1 (t : Fin cfg1.N) (r : Fin 512) : Fin 2048 := ⟨t.val * 512 + r.val, by have := lt1 t; omega⟩

theorem blk1_0 (c : Dev nD) (t : Fin cfg1.N) (j : Fin 4) (r : Fin 512) (l : Fin 704) :
    iblk1 V c 0 t (ix3 j r l) = V c main_v6_0 (ix3 j (row1 t r) l) := by
  blk_point [iblk1, idx1 t]

theorem blk1_1 (c : Dev nD) (t : Fin cfg1.N) (j : Fin 4) (l : Fin 704) (n : Fin 1024) :
    iblk1 V c 1 t (ix3 j l n) = V c main_v4 (ix3 j l n) := by
  blk_point [iblk1, idx1 t]

theorem blk1_2 (c : Dev nD) (t : Fin cfg1.N) (r : Fin 512) (n : Fin 1024) :
    iblk1 V c 2 t (ix2 r n) = V c main_arg0 (ix2 (row1 t r) n) := by
  blk_point [iblk1, idx1 t]

theorem blk1_3 (c : Dev nD) (t : Fin cfg1.N) (n : Fin 1024) :
    iblk1 V c 3 t (ix2 0 n) = V c main_arg3 (ix2 0 n) := by
  blk_point [iblk1, idx1 t]

theorem blk1_4 (c : Dev nD) (t : Fin cfg1.N) (n : Fin 1024) :
    iblk1 V c 4 t (ix2 0 n) = V c main_arg4 (ix2 0 n) := by
  blk_point [iblk1, idx1 t]

/-- The residual plus half the sublayer's output, as the body computes it. -/
theorem point1_r (c : Dev nD) (t : Fin cfg1.N) (r : Fin 512) (n : Fin 1024) :
    k1_pay1 (F := Ideal) (k1_pay5 (iblk1 V c 0 t) (iblk1 V c 1 t) (iblk1 V c 2 t) (iblk1 V c 3 t) (iblk1 V c 4 t)) (iblk1 V c 2 t) (ix2 r n)
      = resid (V c main_v6_0) (V c main_v4) (V c main_arg0) (row1 t r) n := by
  unfold k1_pay5
  pointwise [k1_pay1, k1_pay4, resid, stackDot, alpha, half, Fin.sum_univ_four, blk1_0 V c t, blk1_1 V c t, blk1_2 V c t]

theorem point1_6 (c : Dev nD) (t : Fin cfg1.N) (r : Fin 512) (n : Fin 1024) :
    out1_6 (F := Ideal) (iblk1 V c 0 t) (iblk1 V c 1 t) (iblk1 V c 2 t) (iblk1 V c 3 t) (iblk1 V c 4 t) (ix2 r n)
      = normed (V c main_v6_0) (V c main_v4) (V c main_arg0) (V c main_arg3) (V c main_arg4) (ix2 (row1 t r) n) := by
  unfold out1_6
  frame_out
  pointwise [k1_pay2, point1_r V c t, normed, lnRow, centred, cols, eps, blk1_3 V c t, blk1_4 V c t]

theorem final1_6 (c : Dev nD) : (dat1 V c).arrAt 6 cfg1.N
    = normed (V c main_v6_0) (V c main_v4) (V c main_arg0) (V c main_arg3) (V c main_arg4) := by
  refine (dat1 V c).arrAt_eq_of_covers 6 _ (by decide +kernel) fun t _ y => ?_
  blk_simp
  rw [after1_6]
  idx_vars y
  refine (point1_6 V c t y0 y1).trans (congrArg _ ?_)
  blk_ext [idx1 t]

end Cert.Kernel2Ideal.Ffn
-- ==== Proof.FfnR24.lean ====
/- What the two calls computing the weights' gradients leave, from any contents at their entry. -/
module

public import proofs.«01_k».proof.Proof.Gen.Kernel2Ideal.Frame
public import proofs.«01_k».proof.Proof.FfnSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen Cert.Ffn

variable (V : (c : Dev nD) → (b : Ref sig .tc) → Buf (Elt Ideal) ((c : Thread nD τ).loc b))

/-- The block every window of the third call is on: the point's matrix of the stack, the gradient whole. -/
theorem idx2 : ∀ t : Fin cfg2.N, win2_0.index t = ![t.val, 0, 0]
    ∧ win2_1.index t = ![0, 0]
    ∧ win2_2.index t = ![t.val, 0, 0] :=
  (by decide +kernel : ∀ t : Fin grid2.N, _)

/-- The point's matrix of the stack. -/
abbrev mat2 (t : Fin cfg2.N) : Fin 4 := ⟨t.val, lt_of_lt_of_eq t.isLt (show cfg2.N = 4 from N_2)⟩

theorem blk2_0 (c : Dev nD) (t : Fin cfg2.N) (r : Fin 2048) (l : Fin 704) :
    iblk2 V c 0 t (ix3 0 r l) = V c main_v6_0 (ix3 (mat2 t) r l) := by
  blk_point [iblk2, idx2 t]

theorem blk2_1 (c : Dev nD) (t : Fin cfg2.N) (r : Fin 2048) (n : Fin 1024) :
    iblk2 V c 1 t (ix2 r n) = V c main_arg5 (ix2 r n) := by
  blk_point [iblk2, idx2 t]

theorem point2_2 (c : Dev nD) (t : Fin cfg2.N) (z : Fin 1) (l : Fin 704) (n : Fin 1024) :
    out2_2 (F := Ideal) (iblk2 V c 0 t) (iblk2 V c 1 t) (ix3 z l n)
      = weightGrad (V c main_v6_0) (V c main_arg5) (ix3 (mat2 t) l n) := by
  obtain rfl : z = 0 := Subsingleton.elim _ _
  unfold out2_2
  frame_out
  pointwise [k2_pay1, weightGrad, blk2_0 V c t, blk2_1 V c t]

theorem final2_2 (c : Dev nD) : (dat2 V c).arrAt 2 cfg2.N = weightGrad (V c main_v6_0) (V c main_arg5) := by
  refine (dat2 V c).arrAt_eq_of_covers 2 _ (by decide +kernel) fun t _ y => ?_
  blk_simp
  rw [after2_2]
  idx_vars y
  refine (point2_2 V c t y0 y1 y2).trans (congrArg _ ?_)
  blk_ext [idx2 t]

/-- The block every window of the fifth call is on: the point's matrix of the stack, the gradient whole. -/
theorem idx4 : ∀ t : Fin cfg4.N, win4_0.index t = ![t.val, 0, 0]
    ∧ win4_1.index t = ![0, 0]
    ∧ win4_2.index t = ![t.val, 0, 0] :=
  (by decide +kernel : ∀ t : Fin grid4.N, _)

/-- The point's matrix of the stack. -/
abbrev mat4 (t : Fin cfg4.N) : Fin 8 := ⟨t.val, lt_of_lt_of_eq t.isLt (show cfg4.N = 8 from N_4)⟩

theorem blk4_0 (c : Dev nD) (t : Fin cfg4.N) (r : Fin 2048) (l : Fin 704) :
    iblk4 V c 0 t (ix3 0 r l) = V c main_v10 (ix3 (mat4 t) r l) := by
  blk_point [iblk4, idx4 t]

theorem blk4_1 (c : Dev nD) (t : Fin cfg4.N) (r : Fin 2048) (n : Fin 1024) :
    iblk4 V c 1 t (ix2 r n) = V c main_v5 (ix2 r n) := by
  blk_point [iblk4, idx4 t]

theorem point4_2 (c : Dev nD) (t : Fin cfg4.N) (z : Fin 1) (l : Fin 704) (n : Fin 1024) :
    out4_2 (F := Ideal) (iblk4 V c 0 t) (iblk4 V c 1 t) (ix3 z l n)
      = weightGrad (V c main_v10) (V c main_v5) (ix3 (mat4 t) l n) := by
  obtain rfl : z = 0 := Subsingleton.elim _ _
  unfold out4_2
  frame_out
  pointwise [k4_pay1, weightGrad, blk4_0 V c t, blk4_1 V c t]

theorem final4_2 (c : Dev nD) : (dat4 V c).arrAt 2 cfg4.N = weightGrad (V c main_v10) (V c main_v5) := by
  refine (dat4 V c).arrAt_eq_of_covers 2 _ (by decide +kernel) fun t _ y => ?_
  blk_simp
  rw [after4_2]
  idx_vars y
  refine (point4_2 V c t y0 y1 y2).trans (congrArg _ ?_)
  blk_ext [idx4 t]

end Cert.Kernel2Ideal.Ffn
-- ==== Proof.FfnR3.lean ====
/- What the call computing the gradients of the two products leaves, from any contents at its entry. -/
module

public import proofs.«01_k».proof.Proof.Gen.Kernel2Ideal.Frame
public import proofs.«01_k».proof.Proof.FfnR0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen Cert.Ffn

variable (V : (c : Dev nD) → (b : Ref sig .tc) → Buf (Elt Ideal) ((c : Thread nD τ).loc b))

/-- The block every window of the fourth call is on: the column block is the outer coordinate, the row block the inner. -/
theorem idx3 : ∀ t : Fin cfg3.N, win3_0.index t = ![t.val % 2, 0]
    ∧ win3_1.index t = ![t.val / 2, 0, 0]
    ∧ win3_2.index t = ![0, t.val / 2, t.val % 2, 0]
    ∧ win3_3.index t = ![0, t.val / 2, t.val % 2, 0] :=
  (by decide +kernel : ∀ t : Fin grid3.N, _)

/-- There are eight grid points. -/
theorem lt3 (t : Fin cfg3.N) : t.val < 8 := lt_of_lt_of_eq t.isLt (show cfg3.N = 8 from N_3)

/-- Row `r` of the point's row block. -/
abbrev row3 (t : Fin cfg3.N) (r : Fin 1024) : Fin 2048 := ⟨(t.val % 2) * 1024 + r.val, by omega⟩
/-- The point's column block. -/
abbrev blk3 (t : Fin cfg3.N) : Fin 4 := ⟨t.val / 2, by have := lt3 t; omega⟩

theorem blk3_0 (c : Dev nD) (t : Fin cfg3.N) (r n : Fin 1024) :
    iblk3 V c 0 t (ix2 r n) = V c main_arg5 (ix2 (row3 t r) n) := by
  blk_point [iblk3, idx3 t]

theorem blk3_1 (c : Dev nD) (t : Fin cfg3.N) (l : Fin 704) (n : Fin 1024) :
    iblk3 V c 1 t (ix3 0 l n) = V c main_v4 (ix3 (blk3 t) l n) := by
  blk_point [iblk3, idx3 t]

theorem blk3_2 (c : Dev nD) (t : Fin cfg3.N) (s : Fin 2) (r : Fin 1024) (l : Fin 704) :
    iblk3 V c 2 t (ix4 s 0 r l) = V c main_v6_1 (ix4 s (blk3 t) (row3 t r) l) := by
  blk_point [iblk3, idx3 t]

theorem point3_3 (c : Dev nD) (t : Fin cfg3.N) (s : Fin 2) (z : Fin 1) (r : Fin 1024) (l : Fin 704) :
    out3_3 (F := Ideal) (iblk3 V c 0 t) (iblk3 V c 1 t) (iblk3 V c 2 t) (ix4 s z r l)
      = pairGrad (V c main_arg5) (V c main_v4) (V c main_v6_1) (ix4 s (blk3 t) (row3 t r) l) := by
  obtain rfl : z = 0 := Subsingleton.elim _ _
  unfold out3_3
  refine (canon_two _ _ s r l).trans ?_
  unfold pairGrad
  refine if_congr Iff.rfl ?_ ?_
  · frame_out
    pointwise [k3_pay1, k3_pay2, k3_pay3, k3_pay4, gateGrad, rowDot, blk3_0 V c t, blk3_1 V c t, blk3_2 V c t]
  · frame_out
    pointwise [k3_pay1, k3_pay2, k3_pay3, k3_pay5, rowDot, blk3_0 V c t, blk3_1 V c t, blk3_2 V c t]

theorem final3_3 (c : Dev nD) : (dat3 V c).arrAt 3 cfg3.N
    = pairGrad (V c main_arg5) (V c main_v4) (V c main_v6_1) := by
  refine (dat3 V c).arrAt_eq_of_covers 3 _ (by decide +kernel) fun t _ y => ?_
  blk_simp
  rw [after3_3]
  idx_vars y
  refine (point3_3 V c t y0 y1 y2 y3).trans (congrArg _ ?_)
  blk_ext [idx3 t]

end Cert.Kernel2Ideal.Ffn
-- ==== Proof.FfnR5.lean ====
/- What the two calls computing the gradient of the input leave, from any contents at their entry. -/
module

public import proofs.«01_k».proof.Proof.Gen.Kernel2Ideal.Frame
public import proofs.«01_k».proof.Proof.FfnSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen Cert.Ffn

variable (V : (c : Dev nD) → (b : Ref sig .tc) → Buf (Elt Ideal) ((c : Thread nD τ).loc b))

/-- The block every window of the call with the residual is on: the point's row block, the weights whole. -/
theorem idx5 : ∀ t : Fin cfg5.N, win5_0.index t = ![0, t.val, 0]
    ∧ win5_1.index t = ![0, 0, 0]
    ∧ win5_2.index t = ![t.val, 0]
    ∧ win5_3.index t = ![t.val, 0] :=
  (by decide +kernel : ∀ t : Fin grid5.N, _)

/-- There are four grid points. -/
theorem lt5 (t : Fin cfg5.N) : t.val < 4 := lt_of_lt_of_eq t.isLt (show cfg5.N = 4 from N_5)

/-- Row `r` of the point's row block. -/
abbrev row5 (t : Fin cfg5.N) (r : Fin 512) : Fin 2048 := ⟨t.val * 512 + r.val, by have := lt5 t; omega⟩

theorem blk5_0 (c : Dev nD) (t : Fin cfg5.N) (j : Fin 8) (r : Fin 512) (l : Fin 704) :
    iblk5 V c 0 t (ix3 j r l) = V c main_v10 (ix3 j (row5 t r) l) := by
  blk_point [iblk5, idx5 t]

theorem blk5_1 (c : Dev nD) (t : Fin cfg5.N) (j : Fin 8) (l : Fin 704) (n : Fin 1024) :
    iblk5 V c 1 t (ix3 j l n) = V c main_v2 (ix3 j l n) := by
  blk_point [iblk5, idx5 t]

theorem blk5_2 (c : Dev nD) (t : Fin cfg5.N) (r : Fin 512) (n : Fin 1024) :
    iblk5 V c 2 t (ix2 r n) = V c main_arg6 (ix2 (row5 t r) n) := by
  blk_point [iblk5, idx5 t]

theorem point5_3 (c : Dev nD) (t : Fin cfg5.N) (r : Fin 512) (n : Fin 1024) :
    out5_3 (F := Ideal) (iblk5 V c 0 t) (iblk5 V c 1 t) (iblk5 V c 2 t) (ix2 r n)
      = inputGrad (V c main_v10) (V c main_v2) (V c main_arg6) (ix2 (row5 t r) n) := by
  unfold out5_3
  frame_out
  pointwise [k5_pay1, k5_pay2, inputGrad, stackDot, alpha, Fin.sum_univ_eight, blk5_0 V c t, blk5_1 V c t, blk5_2 V c t]

theorem final5_3 (c : Dev nD) : (dat5 V c).arrAt 3 cfg5.N
    = inputGrad (V c main_v10) (V c main_v2) (V c main_arg6) := by
  refine (dat5 V c).arrAt_eq_of_covers 3 _ (by decide +kernel) fun t _ y => ?_
  blk_simp
  rw [after5_3]
  idx_vars y
  refine (point5_3 V c t y0 y1).trans (congrArg _ ?_)
  blk_ext [idx5 t]

/-- The block every window of the same call without the residual is on. -/
theorem idx6 : ∀ t : Fin cfg6.N, win6_0.index t = ![0, t.val, 0]
    ∧ win6_1.index t = ![0, 0, 0]
    ∧ win6_2.index t = ![t.val, 0] :=
  (by decide +kernel : ∀ t : Fin grid6.N, _)

/-- Row `r` of the point's row block. -/
abbrev row6 (t : Fin cfg6.N) (r : Fin 512) : Fin 2048 :=
  ⟨t.val * 512 + r.val, by have := lt_of_lt_of_eq t.isLt (show cfg6.N = 4 from N_6); omega⟩

theorem blk6_0 (c : Dev nD) (t : Fin cfg6.N) (j : Fin 8) (r : Fin 512) (l : Fin 704) :
    iblk6 V c 0 t (ix3 j r l) = V c main_v10 (ix3 j (row6 t r) l) := by
  blk_point [iblk6, idx6 t]

theorem blk6_1 (c : Dev nD) (t : Fin cfg6.N) (j : Fin 8) (l : Fin 704) (n : Fin 1024) :
    iblk6 V c 1 t (ix3 j l n) = V c main_v2 (ix3 j l n) := by
  blk_point [iblk6, idx6 t]

theorem point6_2 (c : Dev nD) (t : Fin cfg6.N) (r : Fin 512) (n : Fin 1024) :
    out6_2 (F := Ideal) (iblk6 V c 0 t) (iblk6 V c 1 t) (ix2 r n) = inputProd (V c main_v10) (V c main_v2) (ix2 (row6 t r) n) := by
  unfold out6_2
  frame_out
  pointwise [k6_pay1, k6_pay2, inputProd, stackDot, Fin.sum_univ_eight, blk6_0 V c t, blk6_1 V c t]

theorem final6_2 (c : Dev nD) : (dat6 V c).arrAt 2 cfg6.N = inputProd (V c main_v10) (V c main_v2) := by
  refine (dat6 V c).arrAt_eq_of_covers 2 _ (by decide +kernel) fun t _ y => ?_
  blk_simp
  rw [after6_2]
  idx_vars y
  refine (point6_2 V c t y0 y1).trans (congrArg _ ?_)
  blk_ext [idx6 t]

end Cert.Kernel2Ideal.Ffn
-- ==== Proof.FfnEnd.lean ====
/- What the seven calls of the sublayer leave together, from the arguments. -/
module

public import proofs.«01_k».proof.Proof.FfnR0
public import proofs.«01_k».proof.Proof.FfnR1
public import proofs.«01_k».proof.Proof.FfnR24
public import proofs.«01_k».proof.Proof.FfnR3
public import proofs.«01_k».proof.Proof.FfnR5

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen Cert.Ffn

variable (m : (ℓ : Loc nD τ sig) → Buf (Elt Ideal) ℓ) (ρ : Dev nD → PrngReg)

/-- An argument's contents at launch. -/
abbrev arg (c : Dev nD) (b : Ref sig .tc) : Buf (Elt Ideal) ((c : Thread nD τ).loc b) := m ((c : Thread nD τ).loc b)

/-- A transpose and a cut of the first weight. -/
theorem packIn_eq (w : Mat 1024 5632) : shapeCast S8x704x1024 (transpose S5632x1024 [1, 0] w transposes_S1024x5632_S5632x1024_1_0)
    shapeCasts_S5632x1024_S8x704x1024 = packIn w := by
  funext y
  idx_vars y
  pointwise [packIn]

/-- A cut of the second weight. -/
theorem packOut_eq (w : Mat 2816 1024) : shapeCast S4x704x1024 w shapeCasts_S2816x1024_S4x704x1024 = packOut w := by
  funext y
  idx_vars y
  pointwise [packOut]

/-- What the host operations before the calls leave in the first weight's stack. -/
theorem before_in (W : Valuation τ sig (Elt Ideal)) : StableHlo.after hostOps0 W (Proc.devRef .tc main_v2)
    = shapeCast S8x704x1024 (truncf (F := Ideal) (φ := .f32) .bf16 (transpose S5632x1024 [1, 0] (W (Proc.devRef .tc main_arg1))
      transposes_S1024x5632_S5632x1024_1_0) bitsLt_bf16_f32) shapeCasts_S5632x1024_S8x704x1024 := by
  after_results
  try rfl

/-- What they leave in the second weight's stack. -/
theorem before_out (W : Valuation τ sig (Elt Ideal)) : StableHlo.after hostOps0 W (Proc.devRef .tc main_v4)
    = shapeCast S4x704x1024 (truncf (F := Ideal) (φ := .f32) .bf16 (W (Proc.devRef .tc main_arg2)) bitsLt_bf16_f32)
      shapeCasts_S2816x1024_S4x704x1024 := by
  after_results
  try rfl

/-- What they leave of the input. -/
theorem before_x (W : Valuation τ sig (Elt Ideal)) : StableHlo.after hostOps0 W (Proc.devRef .tc main_v5)
    = truncf (F := Ideal) (φ := .f32) .bf16 (W (Proc.devRef .tc main_arg0)) bitsLt_bf16_f32 := by
  after_results
  try rfl

/-- The stack of the first weight's blocks at the calls' entry. -/
theorem entry_in (c : Dev nD) : V1 m ρ c main_v2 = packIn (arg m c main_arg1) :=
  (before_in (W0 m ρ c)).trans (packIn_eq (arg m c main_arg1))

/-- The stack of the second weight's blocks at the calls' entry. -/
theorem entry_out (c : Dev nD) : V1 m ρ c main_v4 = packOut (arg m c main_arg2) :=
  (before_out (W0 m ρ c)).trans (packOut_eq (arg m c main_arg2))

/-- The input at the calls' entry. -/
theorem entry_x (c : Dev nD) : V1 m ρ c main_v5 = arg m c main_arg0 := before_x (W0 m ρ c)

/-- The hidden activations after the first call. -/
theorem acts_after (c : Dev nD) : V2 m ρ c main_v6_0 = acts (arg m c main_arg0) (packIn (arg m c main_arg1)) := by
  refine (hF0 m ρ c 3).symm.trans ((final0_3 (V1 m ρ) c).trans ?_)
  rw [entry_in, entry_x]

/-- The two products after the first call. -/
theorem kept_after (c : Dev nD) : V2 m ρ c main_v6_1 = kept (arg m c main_arg0) (packIn (arg m c main_arg1)) := by
  refine (hF0 m ρ c 4).symm.trans ((final0_4 (V1 m ρ) c).trans ?_)
  rw [entry_in, entry_x]

theorem out_after (c : Dev nD) : V2 m ρ c main_v4 = packOut (arg m c main_arg2) :=
  (W2_of m ρ c main_v4 (by decide)).trans (entry_out m ρ c)

theorem in_after (c : Dev nD) : V2 m ρ c main_v2 = packIn (arg m c main_arg1) :=
  (W2_of m ρ c main_v2 (by decide)).trans (entry_in m ρ c)

theorem x_after (c : Dev nD) : V2 m ρ c main_v5 = arg m c main_arg0 :=
  (W2_of m ρ c main_v5 (by decide)).trans (entry_x m ρ c)

/-- The normed output at the end. -/
theorem end_out (c : Dev nD) : V9 m ρ c main_v7_1
    = outSpec (arg m c main_arg0) (arg m c main_arg1) (arg m c main_arg2) (arg m c main_arg3) (arg m c main_arg4) := by
  refine (W9_of m ρ c main_v7_1 (by decide)).trans ((W8_of m ρ c main_v7_1 (by decide)).trans ((W7_of m ρ c main_v7_1 (by decide)).trans ((W6_of m ρ c main_v7_1 (by decide)).trans
    ((W5_of m ρ c main_v7_1 (by decide)).trans ((W4_of m ρ c main_v7_1 (by decide)).trans ?_)))))
  refine (hF1 m ρ c 6).symm.trans ((final1_6 (V2 m ρ) c).trans ?_)
  rw [acts_after, out_after, show V2 m ρ c main_arg0 = arg m c main_arg0 from W2_args m ρ c main_arg0 (by decide),
    show V2 m ρ c main_arg3 = arg m c main_arg3 from W2_args m ρ c main_arg3 (by decide),
    show V2 m ρ c main_arg4 = arg m c main_arg4 from W2_args m ρ c main_arg4 (by decide)]
  rfl

/-- The second weight's gradient at the end. -/
theorem end_outWeight (c : Dev nD) : V9 m ρ c main_v8
    = outWeightSpec (arg m c main_arg0) (arg m c main_arg1) (arg m c main_arg5) := by
  refine (W9_of m ρ c main_v8 (by decide)).trans ((W8_of m ρ c main_v8 (by decide)).trans ((W7_of m ρ c main_v8 (by decide)).trans ((W6_of m ρ c main_v8 (by decide)).trans
    ((W5_of m ρ c main_v8 (by decide)).trans ?_))))
  refine (hF2 m ρ c 2).symm.trans ((final2_2 (V3 m ρ) c).trans ?_)
  rw [show V3 m ρ c main_v6_0 = V2 m ρ c main_v6_0 from W3_of m ρ c main_v6_0 (by decide), acts_after,
    show V3 m ρ c main_arg5 = arg m c main_arg5 from W3_args m ρ c main_arg5 (by decide)]
  rfl

/-- The gradients of the two products after the fourth call. -/
theorem pair_after (c : Dev nD) : V5 m ρ c main_v9
    = pairGrad (arg m c main_arg5) (packOut (arg m c main_arg2)) (kept (arg m c main_arg0) (packIn (arg m c main_arg1))) := by
  refine (hF3 m ρ c 3).symm.trans ((final3_3 (V4 m ρ) c).trans ?_)
  rw [show V4 m ρ c main_v6_1 = V2 m ρ c main_v6_1 from (W4_of m ρ c main_v6_1 (by decide)).trans (W3_of m ρ c main_v6_1 (by decide)),
    kept_after, show V4 m ρ c main_v4 = V2 m ρ c main_v4 from (W4_of m ρ c main_v4 (by decide)).trans (W3_of m ρ c main_v4 (by decide)),
    out_after, show V4 m ρ c main_arg5 = arg m c main_arg5 from W4_args m ρ c main_arg5 (by decide)]

/-- A reshape of the pair into one stack. -/
theorem join_eq (p : Pair 2 4 2048 704) : shapeCast S8x2048x704 p shapeCasts_S2x4x2048x704_S8x2048x704 = join p := by
  funext y
  idx_vars y
  pointwise [join]

/-- What the host operation between the calls leaves. -/
theorem between (W : Valuation τ sig (Elt Ideal)) : StableHlo.after hostOps4 W (Proc.devRef .tc main_v10)
    = shapeCast S8x2048x704 (W (Proc.devRef .tc main_v9)) shapeCasts_S2x4x2048x704_S8x2048x704 := by
  after_results
  try rfl

/-- The gradients of the two products as one stack of eight. -/
theorem joined (c : Dev nD) : V6 m ρ c main_v10
    = hiddenGrad (arg m c main_arg0) (arg m c main_arg1) (arg m c main_arg2) (arg m c main_arg5) := by
  refine (between (W5 m ρ c)).trans ?_
  refine (join_eq _).trans (congrArg join (pair_after m ρ c))

/-- What the four calls after the first leave of its inputs. -/
theorem keeps (c : Dev nD) (b : Ref sig .tc) (h6 : b ∉ hostOps4_W)
    (h5 : ∀ w : Fin cfg3.W, Pipeline.arrRef spec3 w = b → (cfg3.win w).isOut = false)
    (h4 : ∀ w : Fin cfg2.W, Pipeline.arrRef spec2 w = b → (cfg2.win w).isOut = false)
    (h3 : ∀ w : Fin cfg1.W, Pipeline.arrRef spec1 w = b → (cfg1.win w).isOut = false) : V6 m ρ c b = V2 m ρ c b :=
  (W6_of m ρ c b h6).trans ((W5_of m ρ c b h5).trans ((W4_of m ρ c b h4).trans (W3_of m ρ c b h3)))

/-- The first weight's gradient at the end. -/
theorem end_in (c : Dev nD) : V9 m ρ c main_v11
    = inSpec (arg m c main_arg0) (arg m c main_arg1) (arg m c main_arg2) (arg m c main_arg5) := by
  refine (W9_of m ρ c main_v11 (by decide)).trans ((W8_of m ρ c main_v11 (by decide)).trans ((hF4 m ρ c 2).symm.trans ((final4_2 (V6 m ρ) c).trans ?_)))
  rw [joined, keeps m ρ c main_v5 (by decide) (by decide) (by decide) (by decide), x_after]
  rfl

/-- The input's gradient at the end. -/
theorem end_input (c : Dev nD) : V9 m ρ c main_v12
    = inputSpec (arg m c main_arg0) (arg m c main_arg1) (arg m c main_arg2) (arg m c main_arg5) (arg m c main_arg6) := by
  refine (W9_of m ρ c main_v12 (by decide)).trans ((hF5 m ρ c 3).symm.trans ((final5_3 (V7 m ρ) c).trans ?_))
  rw [show V7 m ρ c main_v10 = V6 m ρ c main_v10 from W7_of m ρ c main_v10 (by decide), joined,
    show V7 m ρ c main_v2 = V6 m ρ c main_v2 from W7_of m ρ c main_v2 (by decide),
    keeps m ρ c main_v2 (by decide) (by decide) (by decide) (by decide), in_after,
    show V7 m ρ c main_arg6 = arg m c main_arg6 from W7_args m ρ c main_arg6 (by decide)]
  rfl

/-- The input's gradient through the products alone, at the end. -/
theorem end_inner (c : Dev nD) : V9 m ρ c main_v13
    = innerSpec (arg m c main_arg0) (arg m c main_arg1) (arg m c main_arg2) (arg m c main_arg5) := by
  refine (hF6 m ρ c 2).symm.trans ((final6_2 (V8 m ρ) c).trans ?_)
  rw [show V8 m ρ c main_v10 = V6 m ρ c main_v10 from (W8_of m ρ c main_v10 (by decide)).trans (W7_of m ρ c main_v10 (by decide)), joined,
    show V8 m ρ c main_v2 = V6 m ρ c main_v2 from (W8_of m ρ c main_v2 (by decide)).trans (W7_of m ρ c main_v2 (by decide)),
    keeps m ρ c main_v2 (by decide) (by decide) (by decide) (by decide), in_after]
  rfl

end Cert.Kernel2Ideal.Ffn
-- ==== Proof.FfnRun.lean ====
/- The run of the seven calls, with what it leaves in the five results. -/
module

public import proofs.«01_k».proof.Proof.FfnEnd

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel2Ideal.Ffn

open Cert.Kernel2Ideal Cert.Kernel2Ideal.Gen Cert.Ffn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each unscoped buffer at the contents the nine stretches of the program compute. -/
theorem ends : θ_run defs (onTc (τ := τ) (main (F := Ideal))) ⟨m, fun _ => 0, ρ⟩ (fun r => ∀ c : Dev nD,
      ∀ b ∈ Pipeline.ucRefs τ sig, r.2.mem ((c : Thread nD τ).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

/-- Every execution ends with the five results of the sublayer at their values from the arguments, the arguments as launched. -/
theorem run : θ_run defs (onTc (τ := τ) (main (F := Ideal))) ⟨m, fun _ => 0, ρ⟩ (fun r => ∀ c : Dev nD,
      r.2.mem ((c.tc : Thread nD τ).loc main_v7_1)
        = outSpec (arg m c main_arg0) (arg m c main_arg1) (arg m c main_arg2) (arg m c main_arg3) (arg m c main_arg4)
      ∧ r.2.mem ((c.tc : Thread nD τ).loc main_v12)
        = inputSpec (arg m c main_arg0) (arg m c main_arg1) (arg m c main_arg2) (arg m c main_arg5) (arg m c main_arg6)
      ∧ r.2.mem ((c.tc : Thread nD τ).loc main_v11)
        = inSpec (arg m c main_arg0) (arg m c main_arg1) (arg m c main_arg2) (arg m c main_arg5)
      ∧ r.2.mem ((c.tc : Thread nD τ).loc main_v8) = outWeightSpec (arg m c main_arg0) (arg m c main_arg1) (arg m c main_arg5)
      ∧ r.2.mem ((c.tc : Thread nD τ).loc main_v13)
        = innerSpec (arg m c main_arg0) (arg m c main_arg1) (arg m c main_arg2) (arg m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c =>
    ⟨(h c _ (mem_uc main_v7_1 (by decide))).trans (end_out m ρ c),
     (h c _ (mem_uc main_v12 (by decide))).trans (end_input m ρ c),
     (h c _ (mem_uc main_v11 (by decide))).trans (end_in m ρ c),
     (h c _ (mem_uc main_v8 (by decide))).trans (end_outWeight m ρ c),
     (h c _ (mem_uc main_v13 (by decide))).trans (end_inner m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩) (ends m ρ)

end Cert.Kernel2Ideal.Ffn
-- ==== Proof.FfnFlat.lean ====
/- The sublayer's specification over the undivided weights: the blocks of 704 columns put side by side, and the gate's gradient where the numbers are real. -/
module

public import proofs.«01_k».proof.Proof.FfnSpec
public import Idealize.ShloMosaic.Lib.Pipeline.ValueKit

@[expose] public section

noncomputable section

open Idealize.ShloMosaic Idealize.SL.Sem
open scoped BigOperators

namespace Cert.Ffn

/-- An extended real that is a real number. -/
def Real1 (z : EReal) : Prop := ∃ r : ℝ, z = (r : EReal)

/-- Every element of the array is a real number. -/
def Reals {ι : Type} (a : ι → EReal) : Prop := ∀ i, Real1 (a i)

/-- A product of real numbers is real. -/
theorem Real1.mul {a b : EReal} (ha : Real1 a) (hb : Real1 b) : Real1 (a * b) := by
  obtain ⟨r, rfl⟩ := ha
  obtain ⟨s, rfl⟩ := hb
  exact ⟨r * s, (EReal.coe_mul r s).symm⟩

/-- A sum of two real numbers is real. -/
theorem Real1.add {a b : EReal} (ha : Real1 a) (hb : Real1 b) : Real1 (a + b) := by
  obtain ⟨r, rfl⟩ := ha
  obtain ⟨s, rfl⟩ := hb
  exact ⟨r + s, (EReal.coe_add r s).symm⟩

/-- A finite sum of real numbers is real. -/
theorem Real1.sum {n : ℕ} (f : Fin n → EReal) (h : ∀ k, Real1 (f k)) : Real1 (∑ k, f k) :=
  Finset.sum_induction f Real1 (fun _ _ ha hb => ha.add hb) ⟨0, EReal.coe_zero.symm⟩ (fun k _ => h k)

/-- The gate's product of row `t` and column `k`. -/
def gateF (x : Mat 2048 1024) (wi : Mat 1024 5632) (t : Fin 2048) (k : Fin 2816) : EReal :=
  ∑ n : Fin 1024, x (ix2 t n) * wi (ix2 n ⟨k.val, by omega⟩)

/-- The other half's product of row `t` and column `k`. -/
def upF (x : Mat 2048 1024) (wi : Mat 1024 5632) (t : Fin 2048) (k : Fin 2816) : EReal :=
  ∑ n : Fin 1024, x (ix2 t n) * wi (ix2 n ⟨2816 + k.val, by omega⟩)

/-- The gradient of hidden activation `k` of row `t`. -/
def daF (d : Mat 2048 1024) (wo : Mat 2816 1024) (t : Fin 2048) (k : Fin 2816) : EReal :=
  ∑ n : Fin 1024, d (ix2 t n) * wo (ix2 k n)

/-- Column `l` of block `j` among the 2816 columns. -/
abbrev colOf (j : Fin 4) (l : Fin 704) : Fin 2816 := ⟨j.val * 704 + l.val, by omega⟩

theorem rowDot_low (x : Mat 2048 1024) (wi : Mat 1024 5632) (j : Fin 4) (t : Fin 2048) (l : Fin 704) :
    rowDot x (packIn wi) (lowBlk j) t l = gateF x wi t (colOf j l) := rfl

theorem rowDot_up (x : Mat 2048 1024) (wi : Mat 1024 5632) (j : Fin 4) (t : Fin 2048) (l : Fin 704) :
    rowDot x (packIn wi) (upBlk j) t l = upF x wi t (colOf j l) := by
  refine Finset.sum_congr rfl fun n _ => congrArg (x (ix2 t n) * ·) (congrArg (fun k => wi (ix2 n k)) (Fin.ext ?_))
  show (j.val + 4) * 704 + l.val = 2816 + (j.val * 704 + l.val)
  omega

theorem rowDot_out (d : Mat 2048 1024) (wo : Mat 2816 1024) (j : Fin 4) (t : Fin 2048) (l : Fin 704) :
    rowDot d (packOut wo) j t l = daF d wo t (colOf j l) := rfl

/-- An activation of block `j` is the activation of its column. -/
theorem acts_apply (x : Mat 2048 1024) (wi : Mat 1024 5632) (j : Fin 4) (t : Fin 2048) (l : Fin 704) :
    acts x (packIn wi) (ix3 j t l) = act (gateF x wi t (colOf j l)) (upF x wi t (colOf j l)) := by
  show act (rowDot x (packIn wi) (lowBlk j) t l) (rowDot x (packIn wi) (upBlk j) t l) = _
  rw [rowDot_low, rowDot_up]

/-- The residual over the undivided weights. -/
theorem resid_eq (x : Mat 2048 1024) (wi : Mat 1024 5632) (wo : Mat 2816 1024) (t : Fin 2048) :
    resid (acts x (packIn wi)) (packOut wo) x t
      = fun n => alpha * x (ix2 t n) + half * ∑ k : Fin 2816, act (gateF x wi t k) (upF x wi t k) * wo (ix2 k n) := by
  funext n
  unfold resid stackDot
  rw [Fin.sum_univ_tiles 4 704 rfl]
  simp only [acts_apply]
  rfl

/-- The gradient of the gate's product as the derivative of `g * sig g * u` comes out of the product rule. -/
def gateRule (da g u : EReal) : EReal := da * u * sig g + g * (da * u) * (sig g * (1 - sig g))

/-- Where the three numbers are real, the product rule's gradient is the factored one. -/
theorem gateRule_eq {da g u : EReal} (hd : Real1 da) (hg : Real1 g) (hu : Real1 u) : gateRule da g u = gateGrad da g u := by
  obtain ⟨d, rfl⟩ := hd
  obtain ⟨g, rfl⟩ := hg
  obtain ⟨u, rfl⟩ := hu
  unfold gateRule gateGrad sig
  rw [Ideal.logistic_coe]
  generalize (1 + Real.exp (-g))⁻¹ = s
  simp only [← EReal.coe_one, ← EReal.coe_sub, ← EReal.coe_mul, ← EReal.coe_add]
  exact congrArg Real.toEReal (by ring)

variable {x : Mat 2048 1024} {wi : Mat 1024 5632} {wo : Mat 2816 1024} {d : Mat 2048 1024}

/-- The gate's products of real arrays are real. -/
theorem gateF_real (hx : Reals x) (hi : Reals wi) (t : Fin 2048) (k : Fin 2816) : Real1 (gateF x wi t k) :=
  Real1.sum _ fun _ => (hx _).mul (hi _)

/-- The other half's products of real arrays are real. -/
theorem upF_real (hx : Reals x) (hi : Reals wi) (t : Fin 2048) (k : Fin 2816) : Real1 (upF x wi t k) :=
  Real1.sum _ fun _ => (hx _).mul (hi _)

/-- The activations' gradients of real arrays are real. -/
theorem daF_real (hd : Reals d) (ho : Reals wo) (t : Fin 2048) (k : Fin 2816) : Real1 (daF d wo t k) :=
  Real1.sum _ fun _ => (hd _).mul (ho _)

/-- The gradient of the gate's product of column `k`. -/
def lowGrad (x : Mat 2048 1024) (wi : Mat 1024 5632) (wo : Mat 2816 1024) (d : Mat 2048 1024) (t : Fin 2048) (k : Fin 2816) : EReal :=
  gateRule (daF d wo t k) (gateF x wi t k) (upF x wi t k)

/-- The gradient of the other half's product of column `k`. -/
def upGrad (x : Mat 2048 1024) (wi : Mat 1024 5632) (wo : Mat 2816 1024) (d : Mat 2048 1024) (t : Fin 2048) (k : Fin 2816) : EReal :=
  gateF x wi t k * sig (gateF x wi t k) * daF d wo t k

/-- Blocks 0 to 3 of the gradients of the products are the gate's. -/
theorem hiddenGrad_low (hx : Reals x) (hi : Reals wi) (ho : Reals wo) (hd : Reals d) (j : Fin 4) (t : Fin 2048) (l : Fin 704) :
    hiddenGrad x wi wo d (ix3 (lowBlk j) t l) = lowGrad x wi wo d t (colOf j l) := by
  have e : hiddenGrad x wi wo d (ix3 (lowBlk j) t l) = pairGrad d (packOut wo) (kept x (packIn wi)) (ix4 0 j t l) := by
    refine congrArg _ (congrArg₂ (fun (a : Fin 2) (b : Fin 4) => ix4 a b t l) (Fin.ext ?_) (Fin.ext ?_))
    · show j.val / 4 = 0
      omega
    · show j.val % 4 = j.val
      omega
  refine e.trans (Eq.trans ?_ (gateRule_eq (daF_real hd ho t _) (gateF_real hx hi t _) (upF_real hx hi t _)).symm)
  show gateGrad (rowDot d (packOut wo) j t l) (rowDot x (packIn wi) (lowBlk j) t l) (rowDot x (packIn wi) (upBlk j) t l) = _
  rw [rowDot_low, rowDot_up, rowDot_out]

/-- Blocks 4 to 7 of the gradients of the products are the other half's. -/
theorem hiddenGrad_up (j : Fin 4) (t : Fin 2048) (l : Fin 704) :
    hiddenGrad x wi wo d (ix3 (upBlk j) t l) = upGrad x wi wo d t (colOf j l) := by
  have e : hiddenGrad x wi wo d (ix3 (upBlk j) t l) = pairGrad d (packOut wo) (kept x (packIn wi)) (ix4 1 j t l) := by
    refine congrArg _ (congrArg₂ (fun (a : Fin 2) (b : Fin 4) => ix4 a b t l) (Fin.ext ?_) (Fin.ext ?_))
    · show (j.val + 4) / 4 = 1
      omega
    · show (j.val + 4) % 4 = j.val
      omega
  refine e.trans ?_
  show rowDot d (packOut wo) j t l * (rowDot x (packIn wi) (lowBlk j) t l * sig (rowDot x (packIn wi) (lowBlk j) t l)) = _
  rw [rowDot_low, rowDot_out]
  exact mul_comm _ _

/-- The gradients of the products against the first weight: the gate's columns and the other half's. -/
theorem stackDot_hidden (hx : Reals x) (hi : Reals wi) (ho : Reals wo) (hd : Reals d) (t : Fin 2048) (n : Fin 1024) :
    stackDot (hiddenGrad x wi wo d) (packIn wi) t n
      = (∑ k : Fin 2816, lowGrad x wi wo d t k * wi (ix2 n ⟨k.val, by omega⟩))
        + ∑ k : Fin 2816, upGrad x wi wo d t k * wi (ix2 n ⟨2816 + k.val, by omega⟩) := by
  unfold stackDot
  rw [Fin.sum_univ_tiles 4 704 rfl, Fin.sum_univ_tiles 4 704 rfl]
  refine (Fin.sum_univ_add (a := 4) (b := 4) _).trans (congrArg₂ (· + ·) ?_ ?_)
  · exact Finset.sum_congr rfl fun j _ => Finset.sum_congr rfl fun l _ =>
      congrArg₂ (· * ·) (hiddenGrad_low hx hi ho hd j t l) rfl
  · refine Finset.sum_congr rfl fun j _ => Finset.sum_congr rfl fun l _ => congrArg₂ (· * ·) ?_ ?_
    · refine Eq.trans (congrArg (fun b : Fin 8 => hiddenGrad x wi wo d (ix3 b t l)) (Fin.ext ?_)) (hiddenGrad_up j t l)
      show 4 + j.val = j.val + 4
      omega
    · refine congrArg (fun k => wi (ix2 n k)) (Fin.ext ?_)
      show (4 + j.val) * 704 + l.val = 2816 + (j.val * 704 + l.val)
      omega

end Cert.Ffn
-- ==== Proof.FfnRef.lean ====
/- What the plainly written sublayer and its gradient compute, index by index. -/
module

public import proofs.«01_k».proof.Proof.Gen.Reference2Ideal.Run
public import proofs.«01_k».proof.Proof.FfnFlat
public import Idealize.ShloMosaic.Lib.Pipeline.ValueKit

@[expose] public section

set_option maxRecDepth 16384

noncomputable section

open Idealize.ShloMosaic Idealize.ShloMosaic.TcCoe Idealize.SL.Sem
open scoped BigOperators

namespace Cert.Reference2Ideal.Ffn

open Cert.Reference2Ideal Cert.Reference2Ideal.Gen Cert.Ffn

variable (m : (ℓ : Loc nD τ sig) → Buf (Elt Ideal) ℓ) (ρ : Dev nD → PrngReg)

/-- The plainly written output is the specification's. -/
theorem out_eq (c : Dev nD) : Cert.Reference2Ideal.Value.res_main_v30 (F := Ideal) m c
    = outSpec (m (c.tc.loc main_arg0)) (m (c.tc.loc main_arg1)) (m (c.tc.loc main_arg2)) (m (c.tc.loc main_arg3)) (m (c.tc.loc main_arg4)) := by
  unfold Cert.Reference2Ideal.Value.res_main_v30
  generalize m (c.tc.loc main_arg0) = x, m (c.tc.loc main_arg1) = wi, m (c.tc.loc main_arg2) = wo, m (c.tc.loc main_arg3) = g,
    m (c.tc.loc main_arg4) = b
  funext y
  idx_vars y
  pointwise [outSpec, normed]
  rw [resid_eq]
  rfl

set_option maxHeartbeats 1000000 in
/-- Where the arrays are real, the reference ends with the specification's five results. -/
theorem run (hx : ∀ c : Dev nD, Reals (m ((c.tc : Thread nD τ).loc main_arg0) : Mat 2048 1024))
    (hi : ∀ c : Dev nD, Reals (m ((c.tc : Thread nD τ).loc main_arg1) : Mat 1024 5632))
    (ho : ∀ c : Dev nD, Reals (m ((c.tc : Thread nD τ).loc main_arg2) : Mat 2816 1024))
    (hd : ∀ c : Dev nD, Reals (m ((c.tc : Thread nD τ).loc main_arg5) : Mat 2048 1024)) :
    θ_run defs (onTc (τ := τ) (main (F := Ideal))) ⟨m, fun _ => 0, ρ⟩ fun r => ∀ c : Dev nD,
      r.2.mem ((c.tc : Thread nD τ).loc main_v30)
        = outSpec (m (c.tc.loc main_arg0)) (m (c.tc.loc main_arg1)) (m (c.tc.loc main_arg2)) (m (c.tc.loc main_arg3)) (m (c.tc.loc main_arg4))
      ∧ r.2.mem ((c.tc : Thread nD τ).loc main_v44)
        = inputSpec (m (c.tc.loc main_arg0)) (m (c.tc.loc main_arg1)) (m (c.tc.loc main_arg2)) (m (c.tc.loc main_arg5)) (m (c.tc.loc main_arg6))
      ∧ r.2.mem ((c.tc : Thread nD τ).loc main_v46)
        = inSpec (m (c.tc.loc main_arg0)) (m (c.tc.loc main_arg1)) (m (c.tc.loc main_arg2)) (m (c.tc.loc main_arg5))
      ∧ r.2.mem ((c.tc : Thread nD τ).loc main_v47)
        = outWeightSpec (m (c.tc.loc main_arg0)) (m (c.tc.loc main_arg1)) (m (c.tc.loc main_arg5))
      ∧ r.2.mem ((c.tc : Thread nD τ).loc main_v41)
        = innerSpec (m (c.tc.loc main_arg0)) (m (c.tc.loc main_arg1)) (m (c.tc.loc main_arg2)) (m (c.tc.loc main_arg5))
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3)
      ∧ r.2.mem ((c.tc : Thread nD τ).loc main_arg4) = m (c.tc.loc main_arg4)
      ∧ r.2.mem ((c.tc : Thread nD τ).loc main_arg5) = m (c.tc.loc main_arg5)
      ∧ r.2.mem ((c.tc : Thread nD τ).loc main_arg6) = m (c.tc.loc main_arg6) := by
  refine (θ_run defs _ _).mono (fun r h c => ?_) (Cert.Reference2Ideal.Value.run m ρ)
  refine ⟨(h c).1.trans (out_eq m c), (h c).2.1.trans ?_, (h c).2.2.1.trans ?_, (h c).2.2.2.1.trans ?_, (h c).2.2.2.2.1.trans ?_, (h c).2.2.2.2.2⟩ <;> clear h <;>
    have hx := hx c <;> have hi := hi c <;> have ho := ho c <;> have hd := hd c <;> revert hx hi ho hd
  · generalize m (c.tc.loc main_arg0) = x, m (c.tc.loc main_arg1) = wi, m (c.tc.loc main_arg2) = wo, m (c.tc.loc main_arg5) = d,
      m (c.tc.loc main_arg6) = dr
    intro hx hi ho hd
    funext y
    idx_vars y
    pointwise [inputSpec, inputGrad, alpha]
    rw [stackDot_hidden hx hi ho hd]
    rfl
  · generalize m (c.tc.loc main_arg0) = x, m (c.tc.loc main_arg1) = wi, m (c.tc.loc main_arg2) = wo, m (c.tc.loc main_arg5) = d
    intro hx hi ho hd
    funext y
    idx_vars y
    pointwise [inSpec, weightGrad]
    refine Finset.sum_congr rfl fun t _ => congrArg (· * x (ix2 t y2)) ?_
    split
    · rename_i h
      have hj : y0.val < 4 := by omega
      exact (hiddenGrad_low hx hi ho hd ⟨y0.val, hj⟩ t y1).symm
    · rename_i h
      have hj : y0.val - 4 < 4 := by omega
      have e : y0 = upBlk ⟨y0.val - 4, hj⟩ := Fin.ext (show y0.val = y0.val - 4 + 4 by omega)
      refine Eq.trans ?_ ((congrArg (fun b : Fin 8 => hiddenGrad x wi wo d (ix3 b t y1)) e).trans (hiddenGrad_up _ t y1)).symm
      have hk : y0.val * 704 + y1.val - 2816 < 2816 := by omega
      show upGrad x wi wo d t ⟨y0.val * 704 + y1.val - 2816, hk⟩ = upGrad x wi wo d t (colOf ⟨y0.val - 4, hj⟩ y1)
      refine congrArg (upGrad x wi wo d t) (Fin.ext ?_)
      show y0.val * 704 + y1.val - 2816 = (y0.val - 4) * 704 + y1.val
      omega
  · generalize m (c.tc.loc main_arg0) = x, m (c.tc.loc main_arg1) = wi, m (c.tc.loc main_arg5) = d
    intro hx hi _ hd
    funext y
    idx_vars y
    pointwise [outWeightSpec, weightGrad]
    refine Finset.sum_congr rfl fun t _ => ?_
    rw [acts_apply]
    exact mul_comm _ _
  · generalize m (c.tc.loc main_arg0) = x, m (c.tc.loc main_arg1) = wi, m (c.tc.loc main_arg2) = wo, m (c.tc.loc main_arg5) = d
    intro hx hi ho hd
    funext y
    idx_vars y
    pointwise [innerSpec, inputProd]
    rw [stackDot_hidden hx hi ho hd]
    rfl

end Cert.Reference2Ideal.Ffn
-- ==== Proof.FfnPre.lean ====
/- What the precondition of the sublayer's value claim says: the arrays whose products the gradients regroup hold real numbers. -/
module

public import proofs.«01_k».proof.Defs
public import proofs.«01_k».proof.Proof.FfnFlat
public import Idealize.ShloMosaic.Lib.ReduceAll

@[expose] public section

set_option maxRecDepth 16384

noncomputable section

open Idealize.ShloMosaic Idealize.ShloMosaic.TcCoe Idealize.SL.Sem

namespace Cert.Pre_ffn_finite

/-- The shape relations of the precondition's program. -/
theorem facts : Cert.Pre_ffn_finite.Facts where
  bcast_S_S2048x1024 := by decide
  reducesTo_S2048x1024_S_d0_1 := by decide
  h_S_ := by decide
  bcast_S_S1024x5632 := by decide
  reducesTo_S1024x5632_S_d0_1 := by decide
  bcast_S_S2816x1024 := by decide
  reducesTo_S2816x1024_S_d0_1 := by decide
  bitsLt_bf16_f32 := by decide

/-- A number whose absolute value is below infinity is real. -/
theorem real_of_abs_lt {z : EReal} (h : FloatOps.cmpf (F := Ideal) (φ := .f32) .olt (FloatOps.absf (F := Ideal) (φ := .f32) z)
    (FloatOps.ofBits (F := Ideal) .f32 0x7F800000#32) = 1#1) : Cert.Ffn.Real1 z := by
  have top : Ideal.ofBits .f32 0x7F800000#32 = ⊤ := by simp [Ideal.ofBits, Ideal.ieee]
  have e : BitVec.ofBool (decide (max z (-z) < Ideal.ofBits .f32 0x7F800000#32)) = 1#1 := h
  have lt : max z (-z) < ⊤ := by
    rw [top] at e
    by_contra hn
    rw [decide_eq_false hn] at e
    exact absurd e (by decide)
  induction z with
  | bot => exact absurd lt (by simp)
  | top => exact absurd lt (by simp)
  | coe r => exact ⟨r, rfl⟩

/-- Where the precondition holds, the four arrays it names are real. -/
theorem reals [Facts] (x : FVec Ideal S2048x1024 .f32) (wi : FVec Ideal S1024x5632 .f32) (wo : FVec Ideal S2816x1024 .f32)
    (g b : FVec Ideal S1x1024 .f32) (d : FVec Ideal S2048x1024 .bf16) (dr : FVec Ideal S2048x1024 .f32)
    (h : fn x wi wo g b d dr = fun _ => 1#1) :
    Cert.Ffn.Reals x ∧ Cert.Ffn.Reals wi ∧ Cert.Ffn.Reals wo ∧ Cert.Ffn.Reals d := by
  have h0 := congrFun h ix0
  unfold fn fn_part1 at h0
  obtain ⟨h1, hd⟩ := IntOp.andi_eq_one.1 h0
  obtain ⟨h2, ho⟩ := IntOp.andi_eq_one.1 h1
  obtain ⟨hx, hi⟩ := IntOp.andi_eq_one.1 h2
  exact ⟨fun i => real_of_abs_lt (Host.reduce_andi_all _ _ _ _ _ hx i), fun i => real_of_abs_lt (Host.reduce_andi_all _ _ _ _ _ hi i),
    fun i => real_of_abs_lt (Host.reduce_andi_all _ _ _ _ _ ho i), fun i => real_of_abs_lt (Host.reduce_andi_all _ _ _ _ _ hd i)⟩

end Cert.Pre_ffn_finite
-- ==== Proof.Prods.lean ====
/- Products of matrices and the layouts in column blocks that the mixing sublayer's programs use, index by index over the extended reals. -/
module

public import proofs.«01_k».proof.Proof.FfnSpec

@[expose] public section

noncomputable section

open Idealize.ShloMosaic Idealize.SL.Sem
open scoped BigOperators

namespace Cert.Prods

open Cert.Ffn (Mat Cube)

/-- `x` times `w`. -/
def prod {a b c : ℕ} (x : Mat a b) (w : Mat b c) : Mat a c := fun y => ∑ k : Fin b, x (ix2 (y 0) k) * w (ix2 k (y 1))

/-- `d` times the transpose of `w`. -/
def prodT {a b c : ℕ} (d : Mat a b) (w : Mat c b) : Mat a c := fun y => ∑ k : Fin b, d (ix2 (y 0) k) * w (ix2 (y 1) k)

/-- The transpose of `x` times `d`. -/
def gram {a b c : ℕ} (x : Mat a b) (d : Mat a c) : Mat b c := fun y => ∑ t : Fin a, x (ix2 t (y 0)) * d (ix2 t (y 1))

/-- A matrix cut into eight blocks of `n` columns. -/
def pack {r N : ℕ} (n : ℕ) (h : 8 * n = N) (w : Mat r N) : Cube 8 r n := fun y =>
  w (ix2 (y 1) ⟨(y 0).val * n + (y 2).val, by
    have h0 : (y 0).val < 8 := (y 0).isLt
    have h2 : (y 2).val < n := (y 2).isLt
    have : (y 0).val * n + (y 2).val < ((y 0).val + 1) * n := by rw [Nat.add_mul, Nat.one_mul]; omega
    exact lt_of_lt_of_le this (h ▸ Nat.mul_le_mul_right n h0)⟩)

end Cert.Prods
-- ==== Proof.MixR.lean ====
/- What the three calls of the mixing projection leave, from any contents at their entry. -/
module

public import proofs.«01_k».proof.Proof.Gen.Kernel3Ideal.Frame
public import proofs.«01_k».proof.Proof.Prods
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Mix

open Cert.Kernel3Ideal Cert.Kernel3Ideal.Gen Cert.Prods
open Cert.Ffn (Mat Cube)

variable (V : (c : Dev nD) → (b : Ref sig .tc) → Buf (Elt Ideal) ((c : Thread nD τ).loc b))

/-- The block every window of the forward product is on: the points run over the four row blocks within each column block. -/
theorem idx0 : ∀ t : Fin cfg0.N, win0_0.index t = ![t.val % 4, 0]
    ∧ win0_1.index t = ![t.val / 4, 0, 0]
    ∧ win0_2.index t = ![t.val % 4, t.val / 4] :=
  (by decide +kernel : ∀ t : Fin grid0.N, _)

theorem lt0 (t : Fin cfg0.N) : t.val < 32 := lt_of_lt_of_eq t.isLt (show cfg0.N = 32 from N_0)

/-- Row `r` of the point's row block. -/
abbrev row0 (t : Fin cfg0.N) (r : Fin 512) : Fin 2048 := ⟨t.val % 4 * 512 + r.val, by omega⟩
/-- The point's column block. -/
abbrev mat0 (t : Fin cfg0.N) : Fin 8 := ⟨t.val / 4, by have := lt0 t; omega⟩
/-- Column `l` of the point's column block. -/
abbrev col0 (t : Fin cfg0.N) (l : Fin 512) : Fin 4096 := ⟨t.val / 4 * 512 + l.val, by have := lt0 t; omega⟩

theorem blk0_0 (c : Dev nD) (t : Fin cfg0.N) (r : Fin 512) (k : Fin 1024) :
    iblk0 V c 0 t (ix2 r k) = V c main_v3 (ix2 (row0 t r) k) := by
  blk_point [iblk0, idx0 t]

theorem blk0_1 (c : Dev nD) (t : Fin cfg0.N) (k : Fin 1024) (l : Fin 512) :
    iblk0 V c 1 t (ix3 0 k l) = V c main_v2 (ix3 (mat0 t) k l) := by
  blk_point [iblk0, idx0 t]

theorem point0_2 (c : Dev nD) (w : Mat 1024 4096) (hw : V c main_v2 = pack 512 rfl w) (t : Fin cfg0.N) (r : Fin 512) (l : Fin 512) :
    out0_2 (F := Ideal) (iblk0 V c 0 t) (iblk0 V c 1 t) (ix2 r l)
      = prod (V c main_v3 : Mat 2048 1024) w (ix2 (row0 t r) (col0 t l)) := by
  unfold out0_2
  frame_out
  pointwise [k0_pay1, prod, blk0_0 V c t, blk0_1 V c t]
  rw [hw]
  rfl

/-- The forward product. -/
theorem final0_2 (c : Dev nD) (w : Mat 1024 4096) (hw : V c main_v2 = pack 512 rfl w) :
    (dat0 V c).arrAt 2 cfg0.N = prod (V c main_v3 : Mat 2048 1024) w := by
  refine (dat0 V c).arrAt_eq_of_covers 2 _ (by decide +kernel) fun t _ y => ?_
  blk_simp
  rw [after0_2]
  idx_vars y
  refine (point0_2 V c w hw t y0 y1).trans (congrArg _ ?_)
  blk_ext [idx0 t]

/-- The block every window of the weight's gradient is on: the point's column block. -/
theorem idx1 : ∀ t : Fin cfg1.N, win1_0.index t = ![0, 0]
    ∧ win1_1.index t = ![0, t.val]
    ∧ win1_2.index t = ![t.val, 0, 0] :=
  (by decide +kernel : ∀ t : Fin grid1.N, _)

/-- The point's column block. -/
abbrev mat1 (t : Fin cfg1.N) : Fin 8 := ⟨t.val, lt_of_lt_of_eq t.isLt (show cfg1.N = 8 from N_1)⟩

theorem blk1_0 (c : Dev nD) (t : Fin cfg1.N) (r : Fin 2048) (k : Fin 1024) :
    iblk1 V c 0 t (ix2 r k) = V c main_v3 (ix2 r k) := by
  blk_point [iblk1, idx1 t]

theorem blk1_1 (c : Dev nD) (t : Fin cfg1.N) (r : Fin 2048) (l : Fin 512) :
    iblk1 V c 1 t (ix2 r l) = V c main_arg2 (ix2 r ⟨(mat1 t).val * 512 + l.val, by have := (mat1 t).isLt; omega⟩) := by
  blk_point [iblk1, idx1 t]

theorem point1_2 (c : Dev nD) (t : Fin cfg1.N) (z : Fin 1) (k : Fin 1024) (l : Fin 512) :
    out1_2 (F := Ideal) (iblk1 V c 0 t) (iblk1 V c 1 t) (ix3 z k l)
      = pack 512 rfl (gram (V c main_v3 : Mat 2048 1024) (V c main_arg2 : Mat 2048 4096)) (ix3 (mat1 t) k l) := by
  obtain rfl : z = 0 := Subsingleton.elim _ _
  unfold out1_2
  frame_out
  pointwise [k1_pay1, pack, gram, blk1_0 V c t, blk1_1 V c t]

/-- The weight's gradient, in eight column blocks. -/
theorem final1_2 (c : Dev nD) : (dat1 V c).arrAt 2 cfg1.N
    = pack 512 rfl (gram (V c main_v3 : Mat 2048 1024) (V c main_arg2 : Mat 2048 4096)) := by
  refine (dat1 V c).arrAt_eq_of_covers 2 _ (by decide +kernel) fun t _ y => ?_
  blk_simp
  rw [after1_2]
  idx_vars y
  refine (point1_2 V c t y0 y1 y2).trans (congrArg _ ?_)
  blk_ext [idx1 t]

/-- The block every window of the input's gradient is on: the point's row block, the weights whole. -/
theorem idx2 : ∀ t : Fin cfg2.N, win2_0.index t = ![t.val, 0]
    ∧ win2_1.index t = ![0, 0, 0]
    ∧ win2_2.index t = ![t.val, 0] :=
  (by decide +kernel : ∀ t : Fin grid2.N, _)

/-- Row `r` of the point's row block. -/
abbrev row2 (t : Fin cfg2.N) (r : Fin 512) : Fin 2048 :=
  ⟨t.val * 512 + r.val, by have := lt_of_lt_of_eq t.isLt (show cfg2.N = 4 from N_2); omega⟩

theorem blk2_0 (c : Dev nD) (t : Fin cfg2.N) (r : Fin 512) (k : Fin 4096) :
    iblk2 V c 0 t (ix2 r k) = V c main_arg2 (ix2 (row2 t r) k) := by
  blk_point [iblk2, idx2 t]

theorem blk2_1 (c : Dev nD) (t : Fin cfg2.N) (j : Fin 8) (n : Fin 1024) (l : Fin 512) :
    iblk2 V c 1 t (ix3 j n l) = V c main_v2 (ix3 j n l) := by
  blk_point [iblk2, idx2 t]

theorem point2_2 (c : Dev nD) (w : Mat 1024 4096) (hw : V c main_v2 = pack 512 rfl w) (t : Fin cfg2.N) (r : Fin 512) (n : Fin 1024) :
    out2_2 (F := Ideal) (iblk2 V c 0 t) (iblk2 V c 1 t) (ix2 r n)
      = prodT (V c main_arg2 : Mat 2048 4096) w (ix2 (row2 t r) n) := by
  unfold out2_2
  frame_out
  pointwise [k2_pay1, k2_pay2, prodT, blk2_0 V c t, blk2_1 V c t]
  rw [Fin.sum_univ_tiles 8 512 rfl, Fin.sum_univ_eight, hw]
  rfl

/-- The input's gradient. -/
theorem final2_2 (c : Dev nD) (w : Mat 1024 4096) (hw : V c main_v2 = pack 512 rfl w) :
    (dat2 V c).arrAt 2 cfg2.N = prodT (V c main_arg2 : Mat 2048 4096) w := by
  refine (dat2 V c).arrAt_eq_of_covers 2 _ (by decide +kernel) fun t _ y => ?_
  blk_simp
  rw [after2_2]
  idx_vars y
  refine (point2_2 V c w hw t y0 y1).trans (congrArg _ ?_)
  blk_ext [idx2 t]

end Cert.Kernel3Ideal.Mix
-- ==== Proof.MixRun.lean ====
/- The run of the three calls of the mixing projection, with what it leaves in the three results. -/
module

public import proofs.«01_k».proof.Proof.MixR

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel3Ideal.Mix

open Cert.Kernel3Ideal Cert.Kernel3Ideal.Gen Cert.Prods
open Cert.Ffn (Mat Cube)

local notation "𝕄" => MT nD τ sig Unit (Elt Ideal) ℕ (UR sig nD τ) ℕ

variable (m : (ℓ : Loc nD τ sig) → Buf (Elt Ideal) ℓ) (ρ : Dev nD → PrngReg)

/-- An argument's contents at launch. -/
abbrev arg (c : Dev nD) (b : Ref sig .tc) : Buf (Elt Ideal) ((c : Thread nD τ).loc b) := m ((c : Thread nD τ).loc b)

/-- A cut and a transpose of the weight. -/
theorem pack_eq (w : Mat 1024 4096) : transpose S8x1024x512 [1, 0, 2] (shapeCast S1024x8x512 w shapeCasts_S1024x4096_S1024x8x512)
    transposes_S1024x8x512_S8x1024x512_1_0_2 = pack 512 rfl w := by
  funext y
  idx_vars y
  pointwise [pack]

/-- What the host operations before the calls leave in the weight's blocks. -/
theorem before_w (W : Valuation τ sig (Elt Ideal)) : StableHlo.after hostOps0 W (Proc.devRef .tc main_v2)
    = transpose S8x1024x512 [1, 0, 2] (shapeCast S1024x8x512 (truncf (F := Ideal) (φ := .f32) .bf16 (W (Proc.devRef .tc main_arg1))
      bitsLt_bf16_f32) shapeCasts_S1024x4096_S1024x8x512) transposes_S1024x8x512_S8x1024x512_1_0_2 := by
  after_results
  try rfl

/-- What they leave of the input. -/
theorem before_x (W : Valuation τ sig (Elt Ideal)) : StableHlo.after hostOps0 W (Proc.devRef .tc main_v3)
    = truncf (F := Ideal) (φ := .f32) .bf16 (W (Proc.devRef .tc main_arg0)) bitsLt_bf16_f32 := by
  after_results
  try rfl

/-- The weight's blocks at the calls' entry. -/
theorem entry_w (c : Dev nD) : V1 m ρ c main_v2 = pack 512 rfl (arg m c main_arg1 : Mat 1024 4096) :=
  (before_w (W0 m ρ c)).trans (pack_eq (arg m c main_arg1))

/-- The input at the calls' entry. -/
theorem entry_x (c : Dev nD) : V1 m ρ c main_v3 = arg m c main_arg0 := before_x (W0 m ρ c)

/-- The forward product at the end. -/
theorem end_proj (c : Dev nD) : V4 m ρ c main_v4 = prod (arg m c main_arg0 : Mat 2048 1024) (arg m c main_arg1) := by
  refine (W4_of m ρ c main_v4 (by decide)).trans ((W3_of m ρ c main_v4 (by decide)).trans
    ((hF0 m ρ c 2).symm.trans ((final0_2 (V1 m ρ) c _ (entry_w m ρ c)).trans ?_)))
  rw [entry_x]

/-- The weight's gradient at the end. -/
theorem end_weight (c : Dev nD) : V4 m ρ c main_v5
    = pack 512 rfl (gram (arg m c main_arg0 : Mat 2048 1024) (arg m c main_arg2 : Mat 2048 4096)) := by
  refine (W4_of m ρ c main_v5 (by decide)).trans ((hF1 m ρ c 2).symm.trans ((final1_2 (V2 m ρ) c).trans ?_))
  rw [show V2 m ρ c main_v3 = V1 m ρ c main_v3 from W2_of m ρ c main_v3 (by decide), entry_x,
    show V2 m ρ c main_arg2 = arg m c main_arg2 from W2_args m ρ c main_arg2 (by decide)]

/-- The input's gradient at the end. -/
theorem end_input (c : Dev nD) : V4 m ρ c main_v6 = prodT (arg m c main_arg2 : Mat 2048 4096) (arg m c main_arg1) := by
  have hw : V3 m ρ c main_v2 = pack 512 rfl (arg m c main_arg1 : Mat 1024 4096) :=
    (W3_of m ρ c main_v2 (by decide)).trans ((W2_of m ρ c main_v2 (by decide)).trans (entry_w m ρ c))
  refine (hF2 m ρ c 2).symm.trans ((final2_2 (V3 m ρ) c _ hw).trans ?_)
  rw [show V3 m ρ c main_arg2 = arg m c main_arg2 from W3_args m ρ c main_arg2 (by decide)]

set_option backward.isDefEq.respectTransparency.types false in
/-- Every execution ends with each unscoped buffer at the contents the four stretches of the program compute. -/
theorem ends : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- Every execution ends with the product and its two gradients from the arguments, the arguments as launched. -/
theorem run : θ_run defs (onTc (τ := τ) (main (F := Ideal))) ⟨m, fun _ => 0, ρ⟩ (fun r => ∀ c : Dev nD,
      r.2.mem ((c.tc : Thread nD τ).loc main_v4) = prod (arg m c main_arg0 : Mat 2048 1024) (arg m c main_arg1)
      ∧ r.2.mem ((c.tc : Thread nD τ).loc main_v6) = prodT (arg m c main_arg2 : Mat 2048 4096) (arg m c main_arg1)
      ∧ r.2.mem ((c.tc : Thread nD τ).loc main_v5)
        = pack 512 rfl (gram (arg m c main_arg0 : Mat 2048 1024) (arg m c main_arg2 : Mat 2048 4096))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨(h c _ (mem_uc main_v4 (by decide))).trans (end_proj m ρ c),
     (h c _ (mem_uc main_v6 (by decide))).trans (end_input m ρ c),
     (h c _ (mem_uc main_v5 (by decide))).trans (end_weight m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (ends m ρ)

end Cert.Kernel3Ideal.Mix
-- ==== Proof.MixRef.lean ====
/- What the plainly written projection and its gradient compute, index by index. -/
module

public import proofs.«01_k».proof.Proof.Gen.Reference3Ideal.Run
public import proofs.«01_k».proof.Proof.Prods
public import Idealize.ShloMosaic.Lib.Pipeline.ValueKit

@[expose] public section

set_option maxRecDepth 16384

noncomputable section

open Idealize.ShloMosaic Idealize.ShloMosaic.TcCoe Idealize.SL.Sem
open scoped BigOperators

namespace Cert.Reference3Ideal.Mix

open Cert.Reference3Ideal Cert.Reference3Ideal.Gen Cert.Prods

variable (m : (ℓ : Loc nD τ sig) → Buf (Elt Ideal) ℓ) (ρ : Dev nD → PrngReg)

/-- The reference ends with the product and its two gradients, the arguments as launched. -/
theorem run : θ_run defs (onTc (τ := τ) (main (F := Ideal))) ⟨m, fun _ => 0, ρ⟩ fun r => ∀ c : Dev nD,
      r.2.mem ((c.tc : Thread nD τ).loc main_v0) = prod (m (c.tc.loc main_arg0) : Cert.Ffn.Mat 2048 1024) (m (c.tc.loc main_arg1))
      ∧ r.2.mem ((c.tc : Thread nD τ).loc main_v4) = prodT (m (c.tc.loc main_arg2) : Cert.Ffn.Mat 2048 4096) (m (c.tc.loc main_arg1))
      ∧ r.2.mem ((c.tc : Thread nD τ).loc main_v6)
        = pack 512 rfl (gram (m (c.tc.loc main_arg0) : Cert.Ffn.Mat 2048 1024) (m (c.tc.loc main_arg2) : Cert.Ffn.Mat 2048 4096))
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2) := by
  refine (θ_run defs _ _).mono (fun r h c => ?_) (Cert.Reference3Ideal.Value.run m ρ)
  refine ⟨(h c).1.trans ?_, (h c).2.1.trans ?_, (h c).2.2.1.trans ?_, (h c).2.2.2⟩ <;> clear h <;>
    generalize m (c.tc.loc main_arg0) = x, m (c.tc.loc main_arg1) = w, m (c.tc.loc main_arg2) = d <;> funext y <;> idx_vars y
  · pointwise [prod]
  · pointwise [prodT]
  · pointwise [pack, gram]
    exact Finset.sum_congr rfl fun t _ => mul_comm _ _

end Cert.Reference3Ideal.Mix
-- ==== Proof.MergeSpec.lean ====
/- The merge of the two branches of the mixing sublayer, its layer norm and its gradients, index by index over the extended reals. -/
module

public import proofs.«01_k».proof.Proof.Prods

@[expose] public section

noncomputable section

open Idealize.ShloMosaic Idealize.SL.Sem
open scoped BigOperators

namespace Cert.Merge

open Cert.Ffn (Mat Cube sig alpha lnRow)
open Cert.Prods

/-- A column of the left half of 2048 columns. -/
abbrev lo (n : Fin 1024) : Fin 2048 := ⟨n.val, by omega⟩
/-- A column of the right half. -/
abbrev hi (n : Fin 1024) : Fin 2048 := ⟨1024 + n.val, by omega⟩
/-- A column of the projection's third quarter: the convolution's gate. -/
abbrev gc (n : Fin 1024) : Fin 4096 := ⟨2048 + n.val, by omega⟩
/-- A column of the projection's last quarter: the state space branch's gate. -/
abbrev gs (n : Fin 1024) : Fin 4096 := ⟨3072 + n.val, by omega⟩

/-- The merge: each branch through its gate, the second a gated linear unit of `gl`. -/
def merged (yc : Mat 2048 1024) (gl : Mat 2048 2048) (pr : Mat 2048 4096) : Mat 2048 1024 := fun y =>
  sig (pr (ix2 (y 0) (gc (y 1)))) * yc (ix2 (y 0) (y 1))
    + sig (pr (ix2 (y 0) (gs (y 1)))) * (gl (ix2 (y 0) (lo (y 1))) * sig (gl (ix2 (y 0) (hi (y 1)))))

/-- The residual plus the sublayer's output. -/
def resid (a : Mat 2048 1024) (w : Mat 1024 1024) (x : Mat 2048 1024) (t : Fin 2048) (n : Fin 1024) : EReal :=
  alpha * x (ix2 t n) + ∑ k : Fin 1024, a (ix2 t k) * w (ix2 k n)

/-- The layer norm of the residual plus the sublayer's output. -/
def normed (a : Mat 2048 1024) (w : Mat 1024 1024) (x : Mat 2048 1024) (g b : Mat 1 1024) : Mat 2048 1024 := fun y =>
  lnRow (resid a w x (y 0)) g b (y 1)

/-- Two matrices side by side. -/
def halves (a b : Mat 2048 1024) : Mat 2048 2048 := fun y =>
  if h : (y 1).val < 1024 then a (ix2 (y 0) ⟨(y 1).val, h⟩)
  else b (ix2 (y 0) ⟨(y 1).val - 1024, by have h : (y 1).val < 2048 := (y 1).isLt; omega⟩)

/-- The gradient of a sigmoid's argument, from the gradient of its value. -/
def sigGrad (d z : EReal) : EReal := d * (sig z * (1 - sig z))

/-- The gradient of the convolution branch. -/
def convGrad (dm : Mat 2048 1024) (pr : Mat 2048 4096) : Mat 2048 1024 := fun y =>
  dm (ix2 (y 0) (y 1)) * sig (pr (ix2 (y 0) (gc (y 1))))

/-- The gradient of the gated linear unit's two halves. -/
def gluGrad (dm : Mat 2048 1024) (gl : Mat 2048 2048) (pr : Mat 2048 4096) : Mat 2048 2048 :=
  halves (fun y => dm (ix2 (y 0) (y 1)) * sig (pr (ix2 (y 0) (gs (y 1)))) * sig (gl (ix2 (y 0) (hi (y 1)))))
    (fun y => sigGrad (dm (ix2 (y 0) (y 1)) * sig (pr (ix2 (y 0) (gs (y 1)))) * gl (ix2 (y 0) (lo (y 1)))) (gl (ix2 (y 0) (hi (y 1)))))

/-- The gradient of the two gates. -/
def gateGrad (dm yc : Mat 2048 1024) (gl : Mat 2048 2048) (pr : Mat 2048 4096) : Mat 2048 2048 :=
  halves (fun y => sigGrad (dm (ix2 (y 0) (y 1)) * yc (ix2 (y 0) (y 1))) (pr (ix2 (y 0) (gc (y 1)))))
    (fun y => sigGrad (dm (ix2 (y 0) (y 1)) * (gl (ix2 (y 0) (lo (y 1))) * sig (gl (ix2 (y 0) (hi (y 1)))))) (pr (ix2 (y 0) (gs (y 1)))))

section

variable (x : Mat 2048 1024) (yc s : Mat 2048 512) (pr : Mat 2048 4096) (wc : Mat 512 1024) (wg : Mat 512 2048) (wo : Mat 1024 1024)
  (g b : Mat 1 1024) (d : Mat 2048 1024)

/-- The merge from the arguments. -/
def mergedSpec : Mat 2048 1024 := merged (prod yc wc) (prod s wg) pr

/-- The gradient of the convolution branch from the arguments. -/
def convSpec : Mat 2048 1024 := convGrad (prodT d wo) pr

/-- The gradient of the gated linear unit's two halves from the arguments. -/
def gluSpec : Mat 2048 2048 := gluGrad (prodT d wo) (prod s wg) pr

/-- The gradient of the two gates from the arguments. -/
def gateSpec : Mat 2048 2048 := gateGrad (prodT d wo) (prod yc wc) (prod s wg) pr

/-- Matrices side by side are equal where the halves are. -/
theorem halves_congr {a b a' b' : Mat 2048 1024} (ha : ∀ (t : Fin 2048) (n : Fin 1024), a (ix2 t n) = a' (ix2 t n))
    (hb : ∀ (t : Fin 2048) (n : Fin 1024), b (ix2 t n) = b' (ix2 t n)) : halves a b = halves a' b' := by
  refine congrArg₂ halves (funext fun y => ?_) (funext fun y => ?_) <;> idx_vars y
  · exact ha y0 y1
  · exact hb y0 y1

/-- Two matrices side by side are the gradient of the gated linear unit's halves if each is, index by index. -/
theorem halves_glu {a₁ a₂ : Mat 2048 1024}
    (h₁ : ∀ (t : Fin 2048) (n : Fin 1024), a₁ (ix2 t n)
      = prodT d wo (ix2 t n) * sig (pr (ix2 t (gs n))) * sig (prod s wg (ix2 t (hi n))))
    (h₂ : ∀ (t : Fin 2048) (n : Fin 1024), a₂ (ix2 t n)
      = sigGrad (prodT d wo (ix2 t n) * sig (pr (ix2 t (gs n))) * prod s wg (ix2 t (lo n))) (prod s wg (ix2 t (hi n)))) :
    halves a₁ a₂ = gluSpec s pr wg wo d := by
  unfold gluSpec gluGrad
  exact halves_congr h₁ h₂

/-- Two matrices side by side are the gradient of the two gates if each is, index by index. -/
theorem halves_gate {a₁ a₂ : Mat 2048 1024}
    (h₁ : ∀ (t : Fin 2048) (n : Fin 1024), a₁ (ix2 t n)
      = sigGrad (prodT d wo (ix2 t n) * prod yc wc (ix2 t n)) (pr (ix2 t (gc n))))
    (h₂ : ∀ (t : Fin 2048) (n : Fin 1024), a₂ (ix2 t n)
      = sigGrad (prodT d wo (ix2 t n) * (prod s wg (ix2 t (lo n)) * sig (prod s wg (ix2 t (hi n))))) (pr (ix2 t (gs n)))) :
    halves a₁ a₂ = gateSpec yc s pr wc wg wo d := by
  unfold gateSpec gateGrad
  exact halves_congr h₁ h₂

end

end Cert.Merge
-- ==== Proof.MergeR.lean ====
/- What the product calls of the merge leave, from any contents at their entry. -/
module

public import proofs.«01_k».proof.Proof.Gen.Kernel4Ideal.Frame
public import proofs.«01_k».proof.Proof.MergeSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Merge

open Cert.Kernel4Ideal Cert.Kernel4Ideal.Gen Cert.Prods Cert.Merge
open Cert.Ffn (Mat Cube lnRow centred cols eps alpha)

variable (V : (c : Dev nD) → (b : Ref sig .tc) → Buf (Elt Ideal) ((c : Thread nD τ).loc b))

/-- The block every window of the convolution branch's product is on: the point's row block, the weight whole. -/
theorem idx0 : ∀ t : Fin cfg0.N, win0_0.index t = ![t.val, 0]
    ∧ win0_1.index t = ![0, 0]
    ∧ win0_2.index t = ![t.val, 0] :=
  (by decide +kernel : ∀ t : Fin grid0.N, _)

/-- Row `r` of the point's row block. -/
abbrev row0 (t : Fin cfg0.N) (r : Fin 512) : Fin 2048 :=
  ⟨t.val * 512 + r.val, by have := lt_of_lt_of_eq t.isLt (show cfg0.N = 4 from N_0); omega⟩

theorem blk0_0 (c : Dev nD) (t : Fin cfg0.N) (r : Fin 512) (k : Fin 512) :
    iblk0 V c 0 t (ix2 r k) = V c main_arg1 (ix2 (row0 t r) k) := by
  blk_point [iblk0, idx0 t]

theorem blk0_1 (c : Dev nD) (t : Fin cfg0.N) (k : Fin 512) (n : Fin 1024) :
    iblk0 V c 1 t (ix2 k n) = V c main_v0 (ix2 k n) := by
  blk_point [iblk0, idx0 t]

theorem point0_2 (c : Dev nD) (t : Fin cfg0.N) (r : Fin 512) (n : Fin 1024) :
    out0_2 (F := Ideal) (iblk0 V c 0 t) (iblk0 V c 1 t) (ix2 r n)
      = prod (V c main_arg1 : Mat 2048 512) (V c main_v0 : Mat 512 1024) (ix2 (row0 t r) n) := by
  unfold out0_2
  frame_out
  pointwise [k0_pay1, prod, blk0_0 V c t, blk0_1 V c t]

/-- The convolution branch's product. -/
theorem final0_2 (c : Dev nD) :
    (dat0 V c).arrAt 2 cfg0.N = prod (V c main_arg1 : Mat 2048 512) (V c main_v0 : Mat 512 1024) := by
  refine (dat0 V c).arrAt_eq_of_covers 2 _ (by decide +kernel) fun t _ y => ?_
  blk_simp
  rw [after0_2]
  idx_vars y
  refine (point0_2 V c t y0 y1).trans (congrArg _ ?_)
  blk_ext [idx0 t]

/-- The block every window of the gated linear unit's product is on: the point's row block and its column block. -/
theorem idx1 : ∀ t : Fin cfg1.N, win1_0.index t = ![t.val / 2, 0]
    ∧ win1_1.index t = ![0, t.val % 2]
    ∧ win1_2.index t = ![t.val / 2, t.val % 2] :=
  (by decide +kernel : ∀ t : Fin grid1.N, _)

theorem lt1 (t : Fin cfg1.N) : t.val < 8 := lt_of_lt_of_eq t.isLt (show cfg1.N = 8 from N_1)

/-- Row `r` of the point's row block. -/
abbrev row1 (t : Fin cfg1.N) (r : Fin 512) : Fin 2048 := ⟨t.val / 2 * 512 + r.val, by have := lt1 t; omega⟩
/-- Column `n` of the point's column block. -/
abbrev col1 (t : Fin cfg1.N) (n : Fin 1024) : Fin 2048 := ⟨t.val % 2 * 1024 + n.val, by omega⟩

theorem blk1_0 (c : Dev nD) (t : Fin cfg1.N) (r : Fin 512) (k : Fin 512) :
    iblk1 V c 0 t (ix2 r k) = V c main_arg2 (ix2 (row1 t r) k) := by
  blk_point [iblk1, idx1 t]

theorem blk1_1 (c : Dev nD) (t : Fin cfg1.N) (k : Fin 512) (n : Fin 1024) :
    iblk1 V c 1 t (ix2 k n) = V c main_v1 (ix2 k (col1 t n)) := by
  blk_point [iblk1, idx1 t]

theorem point1_2 (c : Dev nD) (t : Fin cfg1.N) (r : Fin 512) (n : Fin 1024) :
    out1_2 (F := Ideal) (iblk1 V c 0 t) (iblk1 V c 1 t) (ix2 r n)
      = prod (V c main_arg2 : Mat 2048 512) (V c main_v1 : Mat 512 2048) (ix2 (row1 t r) (col1 t n)) := by
  unfold out1_2
  frame_out
  pointwise [k1_pay1, prod, blk1_0 V c t, blk1_1 V c t]

/-- The gated linear unit's product. -/
theorem final1_2 (c : Dev nD) :
    (dat1 V c).arrAt 2 cfg1.N = prod (V c main_arg2 : Mat 2048 512) (V c main_v1 : Mat 512 2048) := by
  refine (dat1 V c).arrAt_eq_of_covers 2 _ (by decide +kernel) fun t _ y => ?_
  blk_simp
  rw [after1_2]
  idx_vars y
  refine (point1_2 V c t y0 y1).trans (congrArg _ ?_)
  blk_ext [idx1 t]

/-- The block every window of the gradient of the merge is on: the point's row block, the weight whole. -/
theorem idx4 : ∀ t : Fin cfg4.N, win4_0.index t = ![t.val, 0]
    ∧ win4_1.index t = ![0, 0]
    ∧ win4_2.index t = ![t.val, 0] :=
  (by decide +kernel : ∀ t : Fin grid4.N, _)

/-- Row `r` of the point's row block. -/
abbrev row4 (t : Fin cfg4.N) (r : Fin 512) : Fin 2048 :=
  ⟨t.val * 512 + r.val, by have := lt_of_lt_of_eq t.isLt (show cfg4.N = 4 from N_4); omega⟩

theorem blk4_0 (c : Dev nD) (t : Fin cfg4.N) (r : Fin 512) (k : Fin 1024) :
    iblk4 V c 0 t (ix2 r k) = V c main_arg9 (ix2 (row4 t r) k) := by
  blk_point [iblk4, idx4 t]

theorem blk4_1 (c : Dev nD) (t : Fin cfg4.N) (k : Fin 1024) (n : Fin 1024) :
    iblk4 V c 1 t (ix2 k n) = V c main_v2 (ix2 k n) := by
  blk_point [iblk4, idx4 t]

theorem point4_2 (c : Dev nD) (t : Fin cfg4.N) (r : Fin 512) (n : Fin 1024) :
    out4_2 (F := Ideal) (iblk4 V c 0 t) (iblk4 V c 1 t) (ix2 r n)
      = prodT (V c main_arg9 : Mat 2048 1024) (V c main_v2 : Mat 1024 1024) (ix2 (row4 t r) n) := by
  unfold out4_2
  frame_out
  pointwise [k4_pay1, prodT, blk4_0 V c t, blk4_1 V c t]

/-- The gradient of the merge. -/
theorem final4_2 (c : Dev nD) :
    (dat4 V c).arrAt 2 cfg4.N = prodT (V c main_arg9 : Mat 2048 1024) (V c main_v2 : Mat 1024 1024) := by
  refine (dat4 V c).arrAt_eq_of_covers 2 _ (by decide +kernel) fun t _ y => ?_
  blk_simp
  rw [after4_2]
  idx_vars y
  refine (point4_2 V c t y0 y1).trans (congrArg _ ?_)
  blk_ext [idx4 t]

/-- The block every window of the output weight's gradient is on: all is whole. -/
theorem idx5 : ∀ t : Fin cfg5.N, win5_0.index t = ![0, 0]
    ∧ win5_1.index t = ![0, 0]
    ∧ win5_2.index t = ![0, 0] :=
  (by decide +kernel : ∀ t : Fin grid5.N, _)

theorem blk5_0 (c : Dev nD) (t : Fin cfg5.N) (r : Fin 2048) (k : Fin 1024) :
    iblk5 V c 0 t (ix2 r k) = V c main_v5 (ix2 r k) := by
  blk_point [iblk5, idx5 t]

theorem blk5_1 (c : Dev nD) (t : Fin cfg5.N) (r : Fin 2048) (n : Fin 1024) :
    iblk5 V c 1 t (ix2 r n) = V c main_arg9 (ix2 r n) := by
  blk_point [iblk5, idx5 t]

theorem point5_2 (c : Dev nD) (t : Fin cfg5.N) (k : Fin 1024) (n : Fin 1024) :
    out5_2 (F := Ideal) (iblk5 V c 0 t) (iblk5 V c 1 t) (ix2 k n)
      = gram (V c main_v5 : Mat 2048 1024) (V c main_arg9 : Mat 2048 1024) (ix2 k n) := by
  unfold out5_2
  frame_out
  pointwise [k5_pay1, gram, blk5_0 V c t, blk5_1 V c t]

/-- The output weight's gradient. -/
theorem final5_2 (c : Dev nD) : (dat5 V c).arrAt 2 cfg5.N
    = gram (V c main_v5 : Mat 2048 1024) (V c main_arg9 : Mat 2048 1024) := by
  refine (dat5 V c).arrAt_eq_of_covers 2 _ (by decide +kernel) fun t _ y => ?_
  blk_simp
  rw [after5_2]
  idx_vars y
  refine (point5_2 V c t y0 y1).trans (congrArg _ ?_)
  blk_ext [idx5 t]

/-- The block every window of the convolution weight's gradient is on: the point's column block. -/
theorem idx7 : ∀ t : Fin cfg7.N, win7_0.index t = ![0, 0]
    ∧ win7_1.index t = ![0, t.val]
    ∧ win7_2.index t = ![t.val, 0, 0] :=
  (by decide +kernel : ∀ t : Fin grid7.N, _)

/-- The point's column block. -/
abbrev mat7 (t : Fin cfg7.N) : Fin 8 := ⟨t.val, lt_of_lt_of_eq t.isLt (show cfg7.N = 8 from N_7)⟩

theorem blk7_0 (c : Dev nD) (t : Fin cfg7.N) (r : Fin 2048) (k : Fin 512) :
    iblk7 V c 0 t (ix2 r k) = V c main_arg1 (ix2 r k) := by
  blk_point [iblk7, idx7 t]

theorem blk7_1 (c : Dev nD) (t : Fin cfg7.N) (r : Fin 2048) (l : Fin 128) :
    iblk7 V c 1 t (ix2 r l) = V c main_v9_0 (ix2 r ⟨(mat7 t).val * 128 + l.val, by have := (mat7 t).isLt; omega⟩) := by
  blk_point [iblk7, idx7 t]

theorem point7_2 (c : Dev nD) (t : Fin cfg7.N) (z : Fin 1) (k : Fin 512) (l : Fin 128) :
    out7_2 (F := Ideal) (iblk7 V c 0 t) (iblk7 V c 1 t) (ix3 z k l)
      = pack 128 rfl (gram (V c main_arg1 : Mat 2048 512) (V c main_v9_0 : Mat 2048 1024)) (ix3 (mat7 t) k l) := by
  obtain rfl : z = 0 := Subsingleton.elim _ _
  unfold out7_2
  frame_out
  pointwise [k7_pay1, pack, gram, blk7_0 V c t, blk7_1 V c t]

/-- The convolution weight's gradient, in eight column blocks. -/
theorem final7_2 (c : Dev nD) : (dat7 V c).arrAt 2 cfg7.N
    = pack 128 rfl (gram (V c main_arg1 : Mat 2048 512) (V c main_v9_0 : Mat 2048 1024)) := by
  refine (dat7 V c).arrAt_eq_of_covers 2 _ (by decide +kernel) fun t _ y => ?_
  blk_simp
  rw [after7_2]
  idx_vars y
  refine (point7_2 V c t y0 y1 y2).trans (congrArg _ ?_)
  blk_ext [idx7 t]

/-- The block every window of the gradient of the convolution's output is on: the point's row block, the weight whole. -/
theorem idx8 : ∀ t : Fin cfg8.N, win8_0.index t = ![t.val, 0]
    ∧ win8_1.index t = ![0, 0]
    ∧ win8_2.index t = ![t.val, 0] :=
  (by decide +kernel : ∀ t : Fin grid8.N, _)

/-- Row `r` of the point's row block. -/
abbrev row8 (t : Fin cfg8.N) (r : Fin 512) : Fin 2048 :=
  ⟨t.val * 512 + r.val, by have := lt_of_lt_of_eq t.isLt (show cfg8.N = 4 from N_8); omega⟩

theorem blk8_0 (c : Dev nD) (t : Fin cfg8.N) (r : Fin 512) (k : Fin 1024) :
    iblk8 V c 0 t (ix2 r k) = V c main_v9_0 (ix2 (row8 t r) k) := by
  blk_point [iblk8, idx8 t]

theorem blk8_1 (c : Dev nD) (t : Fin cfg8.N) (k : Fin 512) (n : Fin 1024) :
    iblk8 V c 1 t (ix2 k n) = V c main_v0 (ix2 k n) := by
  blk_point [iblk8, idx8 t]

theorem point8_2 (c : Dev nD) (t : Fin cfg8.N) (r : Fin 512) (n : Fin 512) :
    out8_2 (F := Ideal) (iblk8 V c 0 t) (iblk8 V c 1 t) (ix2 r n)
      = prodT (V c main_v9_0 : Mat 2048 1024) (V c main_v0 : Mat 512 1024) (ix2 (row8 t r) n) := by
  unfold out8_2
  frame_out
  pointwise [k8_pay1, prodT, blk8_0 V c t, blk8_1 V c t]

/-- The gradient of the convolution's output. -/
theorem final8_2 (c : Dev nD) :
    (dat8 V c).arrAt 2 cfg8.N = prodT (V c main_v9_0 : Mat 2048 1024) (V c main_v0 : Mat 512 1024) := by
  refine (dat8 V c).arrAt_eq_of_covers 2 _ (by decide +kernel) fun t _ y => ?_
  blk_simp
  rw [after8_2]
  idx_vars y
  refine (point8_2 V c t y0 y1).trans (congrArg _ ?_)
  blk_ext [idx8 t]

/-- The block every window of the gated linear unit's weight's gradient is on: the point's column block. -/
theorem idx9 : ∀ t : Fin cfg9.N, win9_0.index t = ![0, 0]
    ∧ win9_1.index t = ![0, t.val]
    ∧ win9_2.index t = ![t.val, 0, 0] :=
  (by decide +kernel : ∀ t : Fin grid9.N, _)

/-- The point's column block. -/
abbrev mat9 (t : Fin cfg9.N) : Fin 8 := ⟨t.val, lt_of_lt_of_eq t.isLt (show cfg9.N = 8 from N_9)⟩

theorem blk9_0 (c : Dev nD) (t : Fin cfg9.N) (r : Fin 2048) (k : Fin 512) :
    iblk9 V c 0 t (ix2 r k) = V c main_arg2 (ix2 r k) := by
  blk_point [iblk9, idx9 t]

theorem blk9_1 (c : Dev nD) (t : Fin cfg9.N) (r : Fin 2048) (l : Fin 256) :
    iblk9 V c 1 t (ix2 r l) = V c main_v9_1 (ix2 r ⟨(mat9 t).val * 256 + l.val, by have := (mat9 t).isLt; omega⟩) := by
  blk_point [iblk9, idx9 t]

theorem point9_2 (c : Dev nD) (t : Fin cfg9.N) (z : Fin 1) (k : Fin 512) (l : Fin 256) :
    out9_2 (F := Ideal) (iblk9 V c 0 t) (iblk9 V c 1 t) (ix3 z k l)
      = pack 256 rfl (gram (V c main_arg2 : Mat 2048 512) (V c main_v9_1 : Mat 2048 2048)) (ix3 (mat9 t) k l) := by
  obtain rfl : z = 0 := Subsingleton.elim _ _
  unfold out9_2
  frame_out
  pointwise [k9_pay1, pack, gram, blk9_0 V c t, blk9_1 V c t]

/-- The gated linear unit's weight's gradient, in eight column blocks. -/
theorem final9_2 (c : Dev nD) : (dat9 V c).arrAt 2 cfg9.N
    = pack 256 rfl (gram (V c main_arg2 : Mat 2048 512) (V c main_v9_1 : Mat 2048 2048)) := by
  refine (dat9 V c).arrAt_eq_of_covers 2 _ (by decide +kernel) fun t _ y => ?_
  blk_simp
  rw [after9_2]
  idx_vars y
  refine (point9_2 V c t y0 y1 y2).trans (congrArg _ ?_)
  blk_ext [idx9 t]

/-- The block every window of the gradient of the gated linear unit's input is on: the point's row block, the weight whole. -/
theorem idx10 : ∀ t : Fin cfg10.N, win10_0.index t = ![t.val, 0]
    ∧ win10_1.index t = ![0, 0]
    ∧ win10_2.index t = ![t.val, 0] :=
  (by decide +kernel : ∀ t : Fin grid10.N, _)

/-- Row `r` of the point's row block. -/
abbrev row10 (t : Fin cfg10.N) (r : Fin 512) : Fin 2048 :=
  ⟨t.val * 512 + r.val, by have := lt_of_lt_of_eq t.isLt (show cfg10.N = 4 from N_10); omega⟩

theorem blk10_0 (c : Dev nD) (t : Fin cfg10.N) (r : Fin 512) (k : Fin 2048) :
    iblk10 V c 0 t (ix2 r k) = V c main_v9_1 (ix2 (row10 t r) k) := by
  blk_point [iblk10, idx10 t]

theorem blk10_1 (c : Dev nD) (t : Fin cfg10.N) (k : Fin 512) (n : Fin 2048) :
    iblk10 V c 1 t (ix2 k n) = V c main_v1 (ix2 k n) := by
  blk_point [iblk10, idx10 t]

theorem point10_2 (c : Dev nD) (t : Fin cfg10.N) (r : Fin 512) (n : Fin 512) :
    out10_2 (F := Ideal) (iblk10 V c 0 t) (iblk10 V c 1 t) (ix2 r n)
      = prodT (V c main_v9_1 : Mat 2048 2048) (V c main_v1 : Mat 512 2048) (ix2 (row10 t r) n) := by
  unfold out10_2
  frame_out
  pointwise [k10_pay1, prodT, blk10_0 V c t, blk10_1 V c t]

/-- The gradient of the gated linear unit's input. -/
theorem final10_2 (c : Dev nD) :
    (dat10 V c).arrAt 2 cfg10.N = prodT (V c main_v9_1 : Mat 2048 2048) (V c main_v1 : Mat 512 2048) := by
  refine (dat10 V c).arrAt_eq_of_covers 2 _ (by decide +kernel) fun t _ y => ?_
  blk_simp
  rw [after10_2]
  idx_vars y
  refine (point10_2 V c t y0 y1).trans (congrArg _ ?_)
  blk_ext [idx10 t]

end Cert.Kernel4Ideal.Merge
-- ==== Proof.MergeG.lean ====
/- What the elementwise calls of the merge and the output projection with its layer norm leave, from any contents at their entry. -/
module

public import proofs.«01_k».proof.Proof.Gen.Kernel4Ideal.Frame
public import proofs.«01_k».proof.Proof.MergeSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Merge

open Cert.Kernel4Ideal Cert.Kernel4Ideal.Gen Cert.Prods Cert.Merge
open Cert.Ffn (Mat Cube lnRow centred cols eps alpha)

variable (V : (c : Dev nD) → (b : Ref sig .tc) → Buf (Elt Ideal) ((c : Thread nD τ).loc b))

/-- The block every window of the merge is on: the point's row block, of the halves and the quarters it reads. -/
theorem idx2 : ∀ t : Fin cfg2.N, win2_0.index t = ![t.val, 0]
    ∧ win2_1.index t = ![t.val, 0]
    ∧ win2_2.index t = ![t.val, 1]
    ∧ win2_3.index t = ![t.val, 2]
    ∧ win2_4.index t = ![t.val, 3]
    ∧ win2_5.index t = ![t.val, 0] :=
  (by decide +kernel : ∀ t : Fin grid2.N, _)

/-- Row `r` of the point's row block. -/
abbrev row2 (t : Fin cfg2.N) (r : Fin 512) : Fin 2048 :=
  ⟨t.val * 512 + r.val, by have := lt_of_lt_of_eq t.isLt (show cfg2.N = 4 from N_2); omega⟩

theorem blk2_0 (c : Dev nD) (t : Fin cfg2.N) (r : Fin 512) (n : Fin 1024) :
    iblk2 V c 0 t (ix2 r n) = V c main_v3 (ix2 (row2 t r) n) := by
  blk_point [iblk2, idx2 t]

theorem blk2_1 (c : Dev nD) (t : Fin cfg2.N) (r : Fin 512) (n : Fin 1024) :
    iblk2 V c 1 t (ix2 r n) = V c main_v4 (ix2 (row2 t r) (lo n)) := by
  blk_point [iblk2, idx2 t]

theorem blk2_2 (c : Dev nD) (t : Fin cfg2.N) (r : Fin 512) (n : Fin 1024) :
    iblk2 V c 2 t (ix2 r n) = V c main_v4 (ix2 (row2 t r) (hi n)) := by
  blk_point [iblk2, idx2 t]

theorem blk2_3 (c : Dev nD) (t : Fin cfg2.N) (r : Fin 512) (n : Fin 1024) :
    iblk2 V c 3 t (ix2 r n) = V c main_arg3 (ix2 (row2 t r) (gc n)) := by
  blk_point [iblk2, idx2 t]

theorem blk2_4 (c : Dev nD) (t : Fin cfg2.N) (r : Fin 512) (n : Fin 1024) :
    iblk2 V c 4 t (ix2 r n) = V c main_arg3 (ix2 (row2 t r) (gs n)) := by
  blk_point [iblk2, idx2 t]

theorem point2_5 (c : Dev nD) (t : Fin cfg2.N) (r : Fin 512) (n : Fin 1024) :
    out2_5 (F := Ideal) (iblk2 V c 0 t) (iblk2 V c 1 t) (iblk2 V c 2 t) (iblk2 V c 3 t) (iblk2 V c 4 t) (ix2 r n)
      = merged (V c main_v3) (V c main_v4) (V c main_arg3) (ix2 (row2 t r) n) := by
  unfold out2_5
  frame_out
  pointwise [k2_pay1, merged, blk2_0 V c t, blk2_1 V c t, blk2_2 V c t, blk2_3 V c t, blk2_4 V c t]

/-- The merge. -/
theorem final2_5 (c : Dev nD) : (dat2 V c).arrAt 5 cfg2.N = merged (V c main_v3) (V c main_v4) (V c main_arg3) := by
  refine (dat2 V c).arrAt_eq_of_covers 5 _ (by decide +kernel) fun t _ y => ?_
  blk_simp
  rw [after2_5]
  idx_vars y
  refine (point2_5 V c t y0 y1).trans (congrArg _ ?_)
  blk_ext [idx2 t]

/-- The block every window of the output projection is on: the point's row block, and everything else whole. -/
theorem idx3 : ∀ t : Fin cfg3.N, win3_0.index t = ![t.val, 0]
    ∧ win3_1.index t = ![0, 0]
    ∧ win3_2.index t = ![t.val, 0]
    ∧ win3_3.index t = ![0, 0]
    ∧ win3_4.index t = ![0, 0]
    ∧ win3_6.index t = ![t.val, 0] :=
  (by decide +kernel : ∀ t : Fin grid3.N, _)

/-- Row `r` of the point's row block. -/
abbrev row3 (t : Fin cfg3.N) (r : Fin 512) : Fin 2048 :=
  ⟨t.val * 512 + r.val, by have := lt_of_lt_of_eq t.isLt (show cfg3.N = 4 from N_3); omega⟩

theorem blk3_0 (c : Dev nD) (t : Fin cfg3.N) (r : Fin 512) (k : Fin 1024) :
    iblk3 V c 0 t (ix2 r k) = V c main_v5 (ix2 (row3 t r) k) := by
  blk_point [iblk3, idx3 t]

theorem blk3_1 (c : Dev nD) (t : Fin cfg3.N) (k : Fin 1024) (n : Fin 1024) :
    iblk3 V c 1 t (ix2 k n) = V c main_v2 (ix2 k n) := by
  blk_point [iblk3, idx3 t]

theorem blk3_2 (c : Dev nD) (t : Fin cfg3.N) (r : Fin 512) (n : Fin 1024) :
    iblk3 V c 2 t (ix2 r n) = V c main_arg0 (ix2 (row3 t r) n) := by
  blk_point [iblk3, idx3 t]

theorem blk3_3 (c : Dev nD) (t : Fin cfg3.N) (n : Fin 1024) :
    iblk3 V c 3 t (ix2 0 n) = V c main_arg7 (ix2 0 n) := by
  blk_point [iblk3, idx3 t]

theorem blk3_4 (c : Dev nD) (t : Fin cfg3.N) (n : Fin 1024) :
    iblk3 V c 4 t (ix2 0 n) = V c main_arg8 (ix2 0 n) := by
  blk_point [iblk3, idx3 t]

/-- The residual plus the sublayer's output, as the body computes it. -/
theorem point3_r (c : Dev nD) (t : Fin cfg3.N) (r : Fin 512) (n : Fin 1024) :
    k3_pay2 (F := Ideal) (iblk3 V c 0 t) (iblk3 V c 1 t) (iblk3 V c 2 t) (ix2 r n)
      = resid (V c main_v5) (V c main_v2) (V c main_arg0) (row3 t r) n := by
  pointwise [k3_pay2, resid, alpha, blk3_0 V c t, blk3_1 V c t, blk3_2 V c t]

theorem point3_6 (c : Dev nD) (t : Fin cfg3.N) (r : Fin 512) (n : Fin 1024) :
    out3_6 (F := Ideal) (iblk3 V c 0 t) (iblk3 V c 1 t) (iblk3 V c 2 t) (iblk3 V c 3 t) (iblk3 V c 4 t) (ix2 r n)
      = normed (V c main_v5) (V c main_v2) (V c main_arg0) (V c main_arg7) (V c main_arg8) (ix2 (row3 t r) n) := by
  unfold out3_6 k3_pay4
  frame_out
  pointwise [k3_pay3, point3_r V c t, normed, lnRow, centred, cols, eps, blk3_3 V c t, blk3_4 V c t]

/-- The sublayer's output after its layer norm. -/
theorem final3_6 (c : Dev nD) : (dat3 V c).arrAt 6 cfg3.N
    = normed (V c main_v5) (V c main_v2) (V c main_arg0) (V c main_arg7) (V c main_arg8) := by
  refine (dat3 V c).arrAt_eq_of_covers 6 _ (by decide +kernel) fun t _ y => ?_
  blk_simp
  rw [after3_6]
  idx_vars y
  refine (point3_6 V c t y0 y1).trans (congrArg _ ?_)
  blk_ext [idx3 t]

/-- The block every window of the merge's gradient is on: the point's row block, of the halves and the quarters it reads. -/
theorem idx6 : ∀ t : Fin cfg6.N, win6_0.index t = ![t.val, 0]
    ∧ win6_1.index t = ![t.val, 0]
    ∧ win6_2.index t = ![t.val, 0]
    ∧ win6_3.index t = ![t.val, 1]
    ∧ win6_4.index t = ![t.val, 2]
    ∧ win6_5.index t = ![t.val, 3]
    ∧ win6_6.index t = ![t.val, 0]
    ∧ win6_7.index t = ![t.val, 0]
    ∧ win6_8.index t = ![t.val, 0] :=
  (by decide +kernel : ∀ t : Fin grid6.N, _)

/-- Row `r` of the point's row block. -/
abbrev row6 (t : Fin cfg6.N) (r : Fin 512) : Fin 2048 :=
  ⟨t.val * 512 + r.val, by have := lt_of_lt_of_eq t.isLt (show cfg6.N = 4 from N_6); omega⟩

theorem blk6_0 (c : Dev nD) (t : Fin cfg6.N) (r : Fin 512) (n : Fin 1024) :
    iblk6 V c 0 t (ix2 r n) = V c main_v7 (ix2 (row6 t r) n) := by
  blk_point [iblk6, idx6 t]

theorem blk6_1 (c : Dev nD) (t : Fin cfg6.N) (r : Fin 512) (n : Fin 1024) :
    iblk6 V c 1 t (ix2 r n) = V c main_v3 (ix2 (row6 t r) n) := by
  blk_point [iblk6, idx6 t]

theorem blk6_2 (c : Dev nD) (t : Fin cfg6.N) (r : Fin 512) (n : Fin 1024) :
    iblk6 V c 2 t (ix2 r n) = V c main_v4 (ix2 (row6 t r) (lo n)) := by
  blk_point [iblk6, idx6 t]

theorem blk6_3 (c : Dev nD) (t : Fin cfg6.N) (r : Fin 512) (n : Fin 1024) :
    iblk6 V c 3 t (ix2 r n) = V c main_v4 (ix2 (row6 t r) (hi n)) := by
  blk_point [iblk6, idx6 t]

theorem blk6_4 (c : Dev nD) (t : Fin cfg6.N) (r : Fin 512) (n : Fin 1024) :
    iblk6 V c 4 t (ix2 r n) = V c main_arg3 (ix2 (row6 t r) (gc n)) := by
  blk_point [iblk6, idx6 t]

theorem blk6_5 (c : Dev nD) (t : Fin cfg6.N) (r : Fin 512) (n : Fin 1024) :
    iblk6 V c 5 t (ix2 r n) = V c main_arg3 (ix2 (row6 t r) (gs n)) := by
  blk_point [iblk6, idx6 t]

/-- Two blocks stored side by side, read at an index. -/
theorem canon_halves (A B : S512x1024.Idx → EReal) (r : Fin 512) (n : Fin 2048) :
    View.canon (Val := Elt Ideal) (s := S512x2048) (e := .bf16) [⟨r6_2, A⟩, ⟨r6_1, B⟩] (ix2 r n)
      = if h : n.val < 1024 then B (ix2 r ⟨n.val, h⟩) else A (ix2 r ⟨n.val - 1024, by omega⟩) := by
  by_cases h : n.val < 1024
  · rw [dif_pos h, View.canon_cons_of_not_mem]
    · rw [← View.canon_cons_emb (Val := Elt Ideal) (s := S512x2048) (e := .bf16) r6_1 B [] (ix2 r ⟨n.val, h⟩)]
      congr 1
      blk_ext
    · rw [Rect.mem_set_unit]
      intro hm
      have := (hm 1).1
      simp at this
      omega
  · rw [dif_neg h, ← View.canon_cons_emb (Val := Elt Ideal) (s := S512x2048) (e := .bf16) r6_2 A _ (ix2 r ⟨n.val - 1024, by omega⟩)]
    congr 1
    blk_ext

theorem point6_6 (c : Dev nD) (t : Fin cfg6.N) (r : Fin 512) (n : Fin 1024) :
    out6_6 (F := Ideal) (iblk6 V c 0 t) (iblk6 V c 1 t) (iblk6 V c 2 t) (iblk6 V c 3 t) (iblk6 V c 4 t) (iblk6 V c 5 t) (ix2 r n)
      = convGrad (V c main_v7) (V c main_arg3) (ix2 (row6 t r) n) := by
  unfold out6_6
  frame_out
  pointwise [k6_pay7, k6_pay2, k6_pay3, convGrad, blk6_0 V c t, blk6_4 V c t]

theorem point6_7 (c : Dev nD) (t : Fin cfg6.N) (r : Fin 512) (n : Fin 2048) :
    out6_7 (F := Ideal) (iblk6 V c 0 t) (iblk6 V c 1 t) (iblk6 V c 2 t) (iblk6 V c 3 t) (iblk6 V c 4 t) (iblk6 V c 5 t) (ix2 r n)
      = gluGrad (V c main_v7) (V c main_v4) (V c main_arg3) (ix2 (row6 t r) n) := by
  unfold out6_7
  refine (canon_halves _ _ r n).trans ?_
  unfold gluGrad halves
  refine dite_congr rfl (fun h => ?_) (fun h => ?_)
  · frame_out
    pointwise [k6_pay11, k6_pay9, k6_pay2, k6_pay4, k6_pay5, blk6_0 V c t, blk6_3 V c t, blk6_5 V c t]
  · frame_out
    pointwise [k6_pay1, k6_pay9, k6_pay2, k6_pay4, k6_pay5, k6_pay6, sigGrad, blk6_0 V c t, blk6_2 V c t, blk6_3 V c t, blk6_5 V c t]

theorem point6_8 (c : Dev nD) (t : Fin cfg6.N) (r : Fin 512) (n : Fin 2048) :
    out6_8 (F := Ideal) (iblk6 V c 0 t) (iblk6 V c 1 t) (iblk6 V c 2 t) (iblk6 V c 3 t) (iblk6 V c 4 t) (iblk6 V c 5 t) (ix2 r n)
      = gateGrad (V c main_v7) (V c main_v3) (V c main_v4) (V c main_arg3) (ix2 (row6 t r) n) := by
  unfold out6_8
  refine (canon_halves _ _ r n).trans ?_
  unfold gateGrad halves
  refine dite_congr rfl (fun h => ?_) (fun h => ?_)
  · frame_out
    pointwise [k6_pay8, k6_pay2, k6_pay3, sigGrad, blk6_0 V c t, blk6_1 V c t, blk6_4 V c t]
  · frame_out
    pointwise [k6_pay10, k6_pay2, k6_pay4, k6_pay5, k6_pay6, sigGrad, blk6_0 V c t, blk6_2 V c t, blk6_3 V c t, blk6_5 V c t]

/-- The gradient of the convolution branch. -/
theorem final6_6 (c : Dev nD) : (dat6 V c).arrAt 6 cfg6.N = convGrad (V c main_v7) (V c main_arg3) := by
  refine (dat6 V c).arrAt_eq_of_covers 6 _ (by decide +kernel) fun t _ y => ?_
  blk_simp
  rw [after6_6]
  idx_vars y
  refine (point6_6 V c t y0 y1).trans (congrArg _ ?_)
  blk_ext [idx6 t]

/-- The gradient of the gated linear unit's two halves. -/
theorem final6_7 (c : Dev nD) : (dat6 V c).arrAt 7 cfg6.N = gluGrad (V c main_v7) (V c main_v4) (V c main_arg3) := by
  refine (dat6 V c).arrAt_eq_of_covers 7 _ (by decide +kernel) fun t _ y => ?_
  blk_simp
  rw [after6_7]
  idx_vars y
  refine (point6_7 V c t y0 y1).trans (congrArg _ ?_)
  blk_ext [idx6 t]

/-- The gradient of the two gates. -/
theorem final6_8 (c : Dev nD) : (dat6 V c).arrAt 8 cfg6.N
    = gateGrad (V c main_v7) (V c main_v3) (V c main_v4) (V c main_arg3) := by
  refine (dat6 V c).arrAt_eq_of_covers 8 _ (by decide +kernel) fun t _ y => ?_
  blk_simp
  rw [after6_8]
  idx_vars y
  refine (point6_8 V c t y0 y1).trans (congrArg _ ?_)
  blk_ext [idx6 t]

end Cert.Kernel4Ideal.Merge
-- ==== Proof.MergeEnd.lean ====
/- What the eleven calls of the merge leave together, from the arguments. -/
module

public import proofs.«01_k».proof.Proof.MergeR
public import proofs.«01_k».proof.Proof.MergeG

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Merge

open Cert.Kernel4Ideal Cert.Kernel4Ideal.Gen Cert.Prods Cert.Merge
open Cert.Ffn (Mat Cube)

variable (m : (ℓ : Loc nD τ sig) → Buf (Elt Ideal) ℓ) (ρ : Dev nD → PrngReg)

/-- An argument's contents at launch. -/
abbrev arg (c : Dev nD) (b : Ref sig .tc) : Buf (Elt Ideal) ((c : Thread nD τ).loc b) := m ((c : Thread nD τ).loc b)

/-- What the host operations before the calls leave of the convolution branch's weight. -/
theorem before_conv (W : Valuation τ sig (Elt Ideal)) : StableHlo.after hostOps0 W (Proc.devRef .tc main_v0)
    = truncf (F := Ideal) (φ := .f32) .bf16 (W (Proc.devRef .tc main_arg4)) bitsLt_bf16_f32 := by
  after_results
  try rfl

/-- What they leave of the gated linear unit's weight. -/
theorem before_glu (W : Valuation τ sig (Elt Ideal)) : StableHlo.after hostOps0 W (Proc.devRef .tc main_v1)
    = truncf (F := Ideal) (φ := .f32) .bf16 (W (Proc.devRef .tc main_arg5)) bitsLt_bf16_f32 := by
  after_results
  try rfl

/-- What they leave of the output projection's weight. -/
theorem before_out (W : Valuation τ sig (Elt Ideal)) : StableHlo.after hostOps0 W (Proc.devRef .tc main_v2)
    = truncf (F := Ideal) (φ := .f32) .bf16 (W (Proc.devRef .tc main_arg6)) bitsLt_bf16_f32 := by
  after_results
  try rfl

/-- The convolution branch's weight at the calls' entry. -/
theorem entry_conv (c : Dev nD) : V1 m ρ c main_v0 = arg m c main_arg4 := before_conv (W0 m ρ c)

/-- The gated linear unit's weight at the calls' entry. -/
theorem entry_glu (c : Dev nD) : V1 m ρ c main_v1 = arg m c main_arg5 := before_glu (W0 m ρ c)

/-- The output projection's weight at the calls' entry. -/
theorem entry_out (c : Dev nD) : V1 m ρ c main_v2 = arg m c main_arg6 := before_out (W0 m ρ c)

/-- The convolution branch's product after the first call. -/
theorem conv_after (c : Dev nD) : V2 m ρ c main_v3 = prod (arg m c main_arg1 : Mat 2048 512) (arg m c main_arg4 : Mat 512 1024) := by
  refine (hF0 m ρ c 2).symm.trans ((final0_2 (V1 m ρ) c).trans ?_)
  rw [entry_conv, show V1 m ρ c main_arg1 = arg m c main_arg1 from W1_args m ρ c main_arg1 (by decide)]

/-- The gated linear unit's product after the second call. -/
theorem glu_after (c : Dev nD) : V3 m ρ c main_v4 = prod (arg m c main_arg2 : Mat 2048 512) (arg m c main_arg5 : Mat 512 2048) := by
  refine (hF1 m ρ c 2).symm.trans ((final1_2 (V2 m ρ) c).trans ?_)
  rw [show V2 m ρ c main_v1 = V1 m ρ c main_v1 from W2_of m ρ c main_v1 (by decide), entry_glu,
    show V2 m ρ c main_arg2 = arg m c main_arg2 from W2_args m ρ c main_arg2 (by decide)]

/-- The merge after the third call. -/
theorem merged_after (c : Dev nD) : V4 m ρ c main_v5
    = mergedSpec (arg m c main_arg1) (arg m c main_arg2) (arg m c main_arg3) (arg m c main_arg4) (arg m c main_arg5) := by
  refine (hF2 m ρ c 5).symm.trans ((final2_5 (V3 m ρ) c).trans ?_)
  rw [show V3 m ρ c main_v3 = V2 m ρ c main_v3 from W3_of m ρ c main_v3 (by decide), conv_after, glu_after,
    show V3 m ρ c main_arg3 = arg m c main_arg3 from W3_args m ρ c main_arg3 (by decide)]
  rfl

/-- The output projection's weight at the fourth call. -/
theorem out_at (c : Dev nD) : V4 m ρ c main_v2 = arg m c main_arg6 :=
  (W4_of m ρ c main_v2 (by decide)).trans ((W3_of m ρ c main_v2 (by decide)).trans ((W2_of m ρ c main_v2 (by decide)).trans (entry_out m ρ c)))

/-- The sublayer's output after its layer norm, at the end. -/
theorem end_out (c : Dev nD) : V12 m ρ c main_v6_1
    = normed (mergedSpec (arg m c main_arg1) (arg m c main_arg2) (arg m c main_arg3) (arg m c main_arg4) (arg m c main_arg5))
      (arg m c main_arg6) (arg m c main_arg0) (arg m c main_arg7) (arg m c main_arg8) := by
  refine (W12_of m ρ c main_v6_1 (by decide)).trans ((W11_of m ρ c main_v6_1 (by decide)).trans ((W10_of m ρ c main_v6_1 (by decide)).trans ((W9_of m ρ c main_v6_1 (by decide)).trans ((W8_of m ρ c main_v6_1 (by decide)).trans ((W7_of m ρ c main_v6_1 (by decide)).trans ((W6_of m ρ c main_v6_1 (by decide)).trans ?_))))))
  refine (hF3 m ρ c 6).symm.trans ((final3_6 (V4 m ρ) c).trans ?_)
  rw [merged_after, out_at, show V4 m ρ c main_arg0 = arg m c main_arg0 from W4_args m ρ c main_arg0 (by decide),
    show V4 m ρ c main_arg7 = arg m c main_arg7 from W4_args m ρ c main_arg7 (by decide),
    show V4 m ρ c main_arg8 = arg m c main_arg8 from W4_args m ρ c main_arg8 (by decide)]

/-- The gradient of the merge after the fifth call. -/
theorem grad_after (c : Dev nD) : V6 m ρ c main_v7 = prodT (arg m c main_arg9 : Mat 2048 1024) (arg m c main_arg6 : Mat 1024 1024) := by
  refine (hF4 m ρ c 2).symm.trans ((final4_2 (V5 m ρ) c).trans ?_)
  rw [show V5 m ρ c main_v2 = V4 m ρ c main_v2 from W5_of m ρ c main_v2 (by decide), out_at,
    show V5 m ρ c main_arg9 = arg m c main_arg9 from W5_args m ρ c main_arg9 (by decide)]

/-- The output weight's gradient at the end. -/
theorem end_outWeight (c : Dev nD) : V12 m ρ c main_v8
    = gram (mergedSpec (arg m c main_arg1) (arg m c main_arg2) (arg m c main_arg3) (arg m c main_arg4) (arg m c main_arg5))
      (arg m c main_arg9 : Mat 2048 1024) := by
  refine (W12_of m ρ c main_v8 (by decide)).trans ((W11_of m ρ c main_v8 (by decide)).trans ((W10_of m ρ c main_v8 (by decide)).trans ((W9_of m ρ c main_v8 (by decide)).trans ((W8_of m ρ c main_v8 (by decide)).trans ?_))))
  refine (hF5 m ρ c 2).symm.trans ((final5_2 (V6 m ρ) c).trans ?_)
  rw [show V6 m ρ c main_v5 = V4 m ρ c main_v5 from (W6_of m ρ c main_v5 (by decide)).trans (W5_of m ρ c main_v5 (by decide)), merged_after,
    show V6 m ρ c main_arg9 = arg m c main_arg9 from W6_args m ρ c main_arg9 (by decide)]

/-- What the seventh call reads: the merge's gradient. -/
theorem grad_at (c : Dev nD) : V7 m ρ c main_v7 = prodT (arg m c main_arg9 : Mat 2048 1024) (arg m c main_arg6 : Mat 1024 1024) :=
  (W7_of m ρ c main_v7 (by decide)).trans (grad_after m ρ c)

/-- What it reads of the convolution branch. -/
theorem conv_at (c : Dev nD) : V7 m ρ c main_v3 = prod (arg m c main_arg1 : Mat 2048 512) (arg m c main_arg4 : Mat 512 1024) :=
  (W7_of m ρ c main_v3 (by decide)).trans ((W6_of m ρ c main_v3 (by decide)).trans ((W5_of m ρ c main_v3 (by decide)).trans ((W4_of m ρ c main_v3 (by decide)).trans ((W3_of m ρ c main_v3 (by decide)).trans (conv_after m ρ c)))))

/-- What it reads of the gated linear unit. -/
theorem glu_at (c : Dev nD) : V7 m ρ c main_v4 = prod (arg m c main_arg2 : Mat 2048 512) (arg m c main_arg5 : Mat 512 2048) :=
  (W7_of m ρ c main_v4 (by decide)).trans ((W6_of m ρ c main_v4 (by decide)).trans ((W5_of m ρ c main_v4 (by decide)).trans ((W4_of m ρ c main_v4 (by decide)).trans (glu_after m ρ c))))

/-- The gradient of the convolution branch after the seventh call. -/
theorem convGrad_after (c : Dev nD) : V8 m ρ c main_v9_0 = convSpec (arg m c main_arg3) (arg m c main_arg6) (arg m c main_arg9) := by
  refine (hF6 m ρ c 6).symm.trans ((final6_6 (V7 m ρ) c).trans ?_)
  rw [grad_at, show V7 m ρ c main_arg3 = arg m c main_arg3 from W7_args m ρ c main_arg3 (by decide)]
  rfl

/-- The gradient of the gated linear unit's halves after the seventh call. -/
theorem gluGrad_after (c : Dev nD) : V8 m ρ c main_v9_1
    = gluSpec (arg m c main_arg2) (arg m c main_arg3) (arg m c main_arg5) (arg m c main_arg6) (arg m c main_arg9) := by
  refine (hF6 m ρ c 7).symm.trans ((final6_7 (V7 m ρ) c).trans ?_)
  rw [grad_at, glu_at, show V7 m ρ c main_arg3 = arg m c main_arg3 from W7_args m ρ c main_arg3 (by decide)]
  rfl

/-- The gradient of the two gates at the end. -/
theorem end_gate (c : Dev nD) : V12 m ρ c main_v9_2
    = gateSpec (arg m c main_arg1) (arg m c main_arg2) (arg m c main_arg3) (arg m c main_arg4) (arg m c main_arg5)
      (arg m c main_arg6) (arg m c main_arg9) := by
  refine (W12_of m ρ c main_v9_2 (by decide)).trans ((W11_of m ρ c main_v9_2 (by decide)).trans ((W10_of m ρ c main_v9_2 (by decide)).trans ((W9_of m ρ c main_v9_2 (by decide)).trans ?_)))
  refine (hF6 m ρ c 8).symm.trans ((final6_8 (V7 m ρ) c).trans ?_)
  rw [grad_at, conv_at, glu_at, show V7 m ρ c main_arg3 = arg m c main_arg3 from W7_args m ρ c main_arg3 (by decide)]
  rfl

/-- The convolution weight's gradient at the end. -/
theorem end_convWeight (c : Dev nD) : V12 m ρ c main_v10
    = pack 128 rfl (gram (arg m c main_arg1 : Mat 2048 512) (convSpec (arg m c main_arg3) (arg m c main_arg6) (arg m c main_arg9))) := by
  refine (W12_of m ρ c main_v10 (by decide)).trans ((W11_of m ρ c main_v10 (by decide)).trans ((W10_of m ρ c main_v10 (by decide)).trans ?_))
  refine (hF7 m ρ c 2).symm.trans ((final7_2 (V8 m ρ) c).trans ?_)
  rw [convGrad_after, show V8 m ρ c main_arg1 = arg m c main_arg1 from W8_args m ρ c main_arg1 (by decide)]

/-- The gradient of the convolution's output at the end. -/
theorem end_convInput (c : Dev nD) : V12 m ρ c main_v11
    = prodT (convSpec (arg m c main_arg3) (arg m c main_arg6) (arg m c main_arg9)) (arg m c main_arg4 : Mat 512 1024) := by
  refine (W12_of m ρ c main_v11 (by decide)).trans ((W11_of m ρ c main_v11 (by decide)).trans ?_)
  refine (hF8 m ρ c 2).symm.trans ((final8_2 (V9 m ρ) c).trans ?_)
  rw [show V9 m ρ c main_v9_0 = V8 m ρ c main_v9_0 from W9_of m ρ c main_v9_0 (by decide), convGrad_after,
    show V9 m ρ c main_v0 = V1 m ρ c main_v0 from (W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide)))))))), entry_conv]

/-- The gated linear unit's weight's gradient at the end. -/
theorem end_gluWeight (c : Dev nD) : V12 m ρ c main_v12
    = pack 256 rfl (gram (arg m c main_arg2 : Mat 2048 512)
      (gluSpec (arg m c main_arg2) (arg m c main_arg3) (arg m c main_arg5) (arg m c main_arg6) (arg m c main_arg9))) := by
  refine (W12_of m ρ c main_v12 (by decide)).trans ?_
  refine (hF9 m ρ c 2).symm.trans ((final9_2 (V10 m ρ) c).trans ?_)
  rw [show V10 m ρ c main_v9_1 = V8 m ρ c main_v9_1 from (W10_of m ρ c main_v9_1 (by decide)).trans (W9_of m ρ c main_v9_1 (by decide)), gluGrad_after,
    show V10 m ρ c main_arg2 = arg m c main_arg2 from W10_args m ρ c main_arg2 (by decide)]

/-- The gradient of the gated linear unit's input at the end. -/
theorem end_gluInput (c : Dev nD) : V12 m ρ c main_v13
    = prodT (gluSpec (arg m c main_arg2) (arg m c main_arg3) (arg m c main_arg5) (arg m c main_arg6) (arg m c main_arg9))
      (arg m c main_arg5 : Mat 512 2048) := by
  refine (hF10 m ρ c 2).symm.trans ((final10_2 (V11 m ρ) c).trans ?_)
  rw [show V11 m ρ c main_v9_1 = V8 m ρ c main_v9_1 from (W11_of m ρ c main_v9_1 (by decide)).trans ((W10_of m ρ c main_v9_1 (by decide)).trans (W9_of m ρ c main_v9_1 (by decide))), gluGrad_after,
    show V11 m ρ c main_v1 = V1 m ρ c main_v1 from (W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide)))))))))), entry_glu]

end Cert.Kernel4Ideal.Merge
-- ==== Proof.MergeRun.lean ====
/- The run of the eleven calls of the merge, with what it leaves in the seven results. -/
module

public import proofs.«01_k».proof.Proof.MergeEnd

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel4Ideal.Merge

open Cert.Kernel4Ideal Cert.Kernel4Ideal.Gen Cert.Prods Cert.Merge
open Cert.Ffn (Mat Cube)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each unscoped buffer at the contents the twelve stretches of the program compute. -/
theorem ends : θ_run defs (onTc (τ := τ) (main (F := Ideal))) ⟨m, fun _ => 0, ρ⟩ (fun r => ∀ c : Dev nD,
      ∀ b ∈ Pipeline.ucRefs τ sig, r.2.mem ((c : Thread nD τ).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ => h)

/-- Every execution ends with the seven results' specification from the arguments, the arguments as launched. -/
theorem run : θ_run defs (onTc (τ := τ) (main (F := Ideal))) ⟨m, fun _ => 0, ρ⟩ (fun r => ∀ c : Dev nD,
      r.2.mem ((c.tc : Thread nD τ).loc main_v6_1)
        = normed (mergedSpec (arg m c main_arg1) (arg m c main_arg2) (arg m c main_arg3) (arg m c main_arg4) (arg m c main_arg5))
          (arg m c main_arg6) (arg m c main_arg0) (arg m c main_arg7) (arg m c main_arg8)
      ∧ r.2.mem ((c.tc : Thread nD τ).loc main_v11)
        = prodT (convSpec (arg m c main_arg3) (arg m c main_arg6) (arg m c main_arg9)) (arg m c main_arg4 : Mat 512 1024)
      ∧ r.2.mem ((c.tc : Thread nD τ).loc main_v13)
        = prodT (gluSpec (arg m c main_arg2) (arg m c main_arg3) (arg m c main_arg5) (arg m c main_arg6) (arg m c main_arg9))
          (arg m c main_arg5 : Mat 512 2048)
      ∧ r.2.mem ((c.tc : Thread nD τ).loc main_v9_2)
        = gateSpec (arg m c main_arg1) (arg m c main_arg2) (arg m c main_arg3) (arg m c main_arg4) (arg m c main_arg5)
          (arg m c main_arg6) (arg m c main_arg9)
      ∧ r.2.mem ((c.tc : Thread nD τ).loc main_v10)
        = pack 128 rfl (gram (arg m c main_arg1 : Mat 2048 512)
          (convSpec (arg m c main_arg3) (arg m c main_arg6) (arg m c main_arg9)))
      ∧ r.2.mem ((c.tc : Thread nD τ).loc main_v12)
        = pack 256 rfl (gram (arg m c main_arg2 : Mat 2048 512)
          (gluSpec (arg m c main_arg2) (arg m c main_arg3) (arg m c main_arg5) (arg m c main_arg6) (arg m c main_arg9)))
      ∧ r.2.mem ((c.tc : Thread nD τ).loc main_v8)
        = gram (mergedSpec (arg m c main_arg1) (arg m c main_arg2) (arg m c main_arg3) (arg m c main_arg4) (arg m c main_arg5))
          (arg m c main_arg9 : Mat 2048 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨(h c _ (mem_uc main_v6_1 (by decide))).trans (end_out m ρ c),
     (h c _ (mem_uc main_v11 (by decide))).trans (end_convInput m ρ c),
     (h c _ (mem_uc main_v13 (by decide))).trans (end_gluInput m ρ c),
     (h c _ (mem_uc main_v9_2 (by decide))).trans (end_gate m ρ c),
     (h c _ (mem_uc main_v10 (by decide))).trans (end_convWeight m ρ c),
     (h c _ (mem_uc main_v12 (by decide))).trans (end_gluWeight m ρ c),
     (h c _ (mem_uc main_v8 (by decide))).trans (end_outWeight m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c)⟩) (ends m ρ)

end Cert.Kernel4Ideal.Merge
-- ==== Proof.MergeRef.lean ====
/- What the plainly written merge and its gradient compute, index by index. -/
module

public import proofs.«01_k».proof.Proof.Gen.Reference4Ideal.Run
public import proofs.«01_k».proof.Proof.MergeSpec
public import Idealize.ShloMosaic.Lib.Pipeline.ValueKit

@[expose] public section

set_option maxRecDepth 16384

noncomputable section

open Idealize.ShloMosaic Idealize.ShloMosaic.TcCoe Idealize.SL.Sem
open scoped BigOperators

namespace Cert.Reference4Ideal.Merge

open Cert.Reference4Ideal Cert.Reference4Ideal.Gen Cert.Prods Cert.Merge
open Cert.Ffn (Mat Cube lnRow centred cols eps alpha)

variable (m : (ℓ : Loc nD τ sig) → Buf (Elt Ideal) ℓ) (ρ : Dev nD → PrngReg)

/-- The specification of the output after its layer norm, from the arguments. -/
abbrev outOf (c : Dev nD) : Mat 2048 1024 :=
  normed (mergedSpec (m (c.tc.loc main_arg1)) (m (c.tc.loc main_arg2)) (m (c.tc.loc main_arg3)) (m (c.tc.loc main_arg4)) (m (c.tc.loc main_arg5)))
    (m (c.tc.loc main_arg6)) (m (c.tc.loc main_arg0)) (m (c.tc.loc main_arg7)) (m (c.tc.loc main_arg8))

/-- The specification of the convolution branch's gradient. -/
abbrev convOf (c : Dev nD) : Mat 2048 1024 := convSpec (m (c.tc.loc main_arg3)) (m (c.tc.loc main_arg6)) (m (c.tc.loc main_arg9))

/-- The specification of the gradient of the gated linear unit's halves. -/
abbrev gluOf (c : Dev nD) : Mat 2048 2048 :=
  gluSpec (m (c.tc.loc main_arg2)) (m (c.tc.loc main_arg3)) (m (c.tc.loc main_arg5)) (m (c.tc.loc main_arg6)) (m (c.tc.loc main_arg9))

/-- Two matrices concatenated by columns. -/
theorem concat_eq (a b : Mat 2048 1024) : concatenate S2048x2048 1 [⟨S2048x1024, a⟩, ⟨S2048x1024, b⟩]
    concatenates_S2048x1024_S2048x1024_S2048x2048_d1 = halves a b := by
  funext y
  idx_vars y
  pointwise [halves]

set_option maxHeartbeats 1000000 in
/-- The plainly written output is the specification's. -/
theorem out_eq (c : Dev nD) : Cert.Reference4Ideal.Value.res_main_v82 (F := Ideal) m c = outOf m c := by
  unfold Cert.Reference4Ideal.Value.res_main_v82 outOf
  generalize m (c.tc.loc main_arg0) = x, m (c.tc.loc main_arg1) = yc, m (c.tc.loc main_arg2) = s, m (c.tc.loc main_arg3) = pr,
    m (c.tc.loc main_arg4) = wc, m (c.tc.loc main_arg5) = wg, m (c.tc.loc main_arg6) = wo, m (c.tc.loc main_arg7) = g,
    m (c.tc.loc main_arg8) = b
  funext y
  idx_vars y
  pointwise [normed, lnRow, centred, cols, eps, resid, alpha, mergedSpec, merged, prod]
  rfl

set_option maxHeartbeats 2000000 in
/-- The reference ends with the specification's seven results, the arguments as launched. -/
theorem run : θ_run defs (onTc (τ := τ) (main (F := Ideal))) ⟨m, fun _ => 0, ρ⟩ fun r => ∀ c : Dev nD,
      r.2.mem ((c.tc : Thread nD τ).loc main_v82) = outOf m c
      ∧ r.2.mem ((c.tc : Thread nD τ).loc main_v59) = prodT (convOf m c) (m (c.tc.loc main_arg4) : Mat 512 1024)
      ∧ r.2.mem ((c.tc : Thread nD τ).loc main_v56) = prodT (gluOf m c) (m (c.tc.loc main_arg5) : Mat 512 2048)
      ∧ r.2.mem ((c.tc : Thread nD τ).loc main_v84)
        = gateSpec (m (c.tc.loc main_arg1)) (m (c.tc.loc main_arg2)) (m (c.tc.loc main_arg3)) (m (c.tc.loc main_arg4))
          (m (c.tc.loc main_arg5)) (m (c.tc.loc main_arg6)) (m (c.tc.loc main_arg9))
      ∧ r.2.mem ((c.tc : Thread nD τ).loc main_v86) = pack 128 rfl (gram (m (c.tc.loc main_arg1) : Mat 2048 512) (convOf m c))
      ∧ r.2.mem ((c.tc : Thread nD τ).loc main_v88) = pack 256 rfl (gram (m (c.tc.loc main_arg2) : Mat 2048 512) (gluOf m c))
      ∧ r.2.mem ((c.tc : Thread nD τ).loc main_v42)
        = gram (mergedSpec (m (c.tc.loc main_arg1)) (m (c.tc.loc main_arg2)) (m (c.tc.loc main_arg3)) (m (c.tc.loc main_arg4))
          (m (c.tc.loc main_arg5))) (m (c.tc.loc main_arg9) : Mat 2048 1024)
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3)
      ∧ r.2.mem ((c.tc : Thread nD τ).loc main_arg4) = m (c.tc.loc main_arg4)
      ∧ r.2.mem ((c.tc : Thread nD τ).loc main_arg5) = m (c.tc.loc main_arg5)
      ∧ r.2.mem ((c.tc : Thread nD τ).loc main_arg6) = m (c.tc.loc main_arg6)
      ∧ r.2.mem ((c.tc : Thread nD τ).loc main_arg7) = m (c.tc.loc main_arg7)
      ∧ r.2.mem ((c.tc : Thread nD τ).loc main_arg8) = m (c.tc.loc main_arg8)
      ∧ r.2.mem ((c.tc : Thread nD τ).loc main_arg9) = m (c.tc.loc main_arg9) := by
  refine (θ_run defs _ _).mono (fun r h c => ?_) (Cert.Reference4Ideal.Value.run m ρ)
  refine ⟨(h c).1.trans (out_eq m c), (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩ <;> clear h <;>
    try unfold convOf
  all_goals try unfold gluOf
  all_goals
    generalize m (c.tc.loc main_arg1) = yc, m (c.tc.loc main_arg2) = s, m (c.tc.loc main_arg3) = pr,
      m (c.tc.loc main_arg4) = wc, m (c.tc.loc main_arg5) = wg, m (c.tc.loc main_arg6) = wo, m (c.tc.loc main_arg9) = d
  · funext y
    idx_vars y
    pointwise [prodT, convSpec, convGrad]
    exact Finset.sum_congr rfl fun k _ => congrArg (fun w : EReal => w * _) (mul_comm _ _)
  · rw [concat_eq]
    generalize hz : halves _ _ = z
    obtain rfl : z = gluSpec s pr wg wo d := by
      refine hz.symm.trans (halves_glu s pr wg wo d (fun t n => ?_) (fun t n => ?_))
      · pointwise [prodT, prod]
        exact congrArg (fun w : EReal => w * _) (mul_comm _ _)
      · pointwise [sigGrad, prodT, prod]
        exact congrArg (fun w : EReal => w * _) ((mul_comm _ _).trans (congrArg (fun w : EReal => w * _) (mul_comm _ _)))
    funext y
    idx_vars y
    pointwise [prodT]
  · rw [concat_eq]
    refine halves_gate yc s pr wc wg wo d (fun t n => ?_) (fun t n => ?_)
    · pointwise [sigGrad, prodT, prod]
      rfl
    · pointwise [sigGrad, prodT, prod]
      rfl
  · funext y
    idx_vars y
    pointwise [pack, gram, convSpec, convGrad, prodT]
    exact Finset.sum_congr rfl fun t _ => (mul_comm _ _).trans (congrArg (fun w : EReal => _ * w) (mul_comm _ _))
  · rw [concat_eq]
    generalize hz : halves _ _ = z
    obtain rfl : z = gluSpec s pr wg wo d := by
      refine hz.symm.trans (halves_glu s pr wg wo d (fun t n => ?_) (fun t n => ?_))
      · pointwise [prodT, prod]
        exact congrArg (fun w : EReal => w * _) (mul_comm _ _)
      · pointwise [sigGrad, prodT, prod]
        exact congrArg (fun w : EReal => w * _) ((mul_comm _ _).trans (congrArg (fun w : EReal => w * _) (mul_comm _ _)))
    funext y
    idx_vars y
    pointwise [pack, gram]
    exact Finset.sum_congr rfl fun t _ => mul_comm _ _
  · funext y
    idx_vars y
    pointwise [gram, mergedSpec, merged, prod]
    exact Finset.sum_congr rfl fun t _ => mul_comm _ _

end Cert.Reference4Ideal.Merge
-- ==== Proof.LnReal.lean ====
/- A layer norm's gradient over one row: the closed form of the kernels, and the form the chain rule gives, equal where the numbers are real. -/
module

public import proofs.«01_k».proof.Proof.FfnFlat

@[expose] public section

noncomputable section

open Idealize.ShloMosaic Idealize.SL.Sem
open scoped BigOperators

namespace Cert.Ln

open Cert.Ffn (Mat Real1 Reals cols eps centred)

/-- A row of extended reals. -/
abbrev Row : Type := Fin 1024 → EReal

/-- The reciprocal of a row's deviation. -/
def rstd (r : Row) : EReal := Ideal.rsqrt (Ideal.div (∑ k, centred r k * centred r k) cols + eps)

/-- A row, normalised. -/
def hat (r : Row) (n : Fin 1024) : EReal := centred r n * rstd r

/-- The gradient of a row from the gradient `w` of its normalised row, in closed form. -/
def back (r w : Row) (n : Fin 1024) : EReal :=
  rstd r * (w n - Ideal.div (∑ k, w k) cols - hat r n * Ideal.div (∑ k, w k * hat r k) cols)

/-- Minus one half. -/
def minusHalf : EReal := Ideal.ofBits .f32 0xBF000000#32

/-- The gradient of the variance, shared out over the row. -/
def varBack (r w : Row) : EReal :=
  Ideal.div ((∑ k, centred r k * w k)
    * (minusHalf * Ideal.div (rstd r) (Ideal.div (∑ k, centred r k * centred r k) cols + eps))) cols

/-- The gradient of the centred row by the chain rule. -/
def midBack (r w : Row) (n : Fin 1024) : EReal :=
  w n * rstd r + centred r n * varBack r w + varBack r w * centred r n

/-- The gradient of a row by the chain rule. -/
def chain (r w : Row) (n : Fin 1024) : EReal :=
  midBack r w n + Ideal.div (∑ k, -midBack r w k) cols

/-- The number of columns is 1024. -/
theorem cols_coe : cols = ((1024 : ℝ) : EReal) := by
  unfold cols
  simp [Ideal.ofBits, Ideal.ieee]
  norm_num
  exact (EReal.coe_mul _ _).symm.trans (congrArg Real.toEReal (by norm_num))

/-- The constant is minus one half. -/
theorem minusHalf_coe : minusHalf = ((-(1 / 2) : ℝ) : EReal) := by
  unfold minusHalf
  simp [Ideal.ofBits, Ideal.ieee]
  norm_num
  exact (EReal.coe_mul _ _).symm.trans (congrArg Real.toEReal (by norm_num))

/-- The layer norm's epsilon is a positive real number. -/
theorem eps_coe : ∃ e : ℝ, 0 < e ∧ eps = (e : EReal) := by
  unfold eps
  refine ⟨_, ?_, by simp [Ideal.ofBits, Ideal.ieee]; rfl⟩
  positivity

/-- A sum of real numbers, as a real number. -/
theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- A quotient by the number of columns, as a real number. -/
theorem div_cols (x : ℝ) : Ideal.div (x : EReal) cols = ((x / 1024 : ℝ) : EReal) := by
  rw [cols_coe, Ideal.div_coe (by norm_num), ← EReal.coe_mul]
  exact congrArg Real.toEReal (by ring)

section

variable (R W : Fin 1024 → ℝ)

/-- An element of a real row less the row's mean. -/
def cen (n : Fin 1024) : ℝ := R n - (∑ k, R k) / 1024

theorem centred_coe (n : Fin 1024) : centred (fun k => (R k : EReal)) n = (cen R n : EReal) := by
  unfold centred cen
  rw [coe_sum, div_cols, ← EReal.coe_sub]

theorem sum_cen : ∑ n, cen R n = 0 := by
  unfold cen
  rw [Finset.sum_sub_distrib, Finset.sum_const]
  simp
  ring

/-- The variance of a real row plus epsilon is a positive real number, and the reciprocal of the deviation is its inverse root. -/
theorem rstd_coe : ∃ v i : ℝ, 0 < v ∧ i * i * v = 1
    ∧ Ideal.div (∑ k, centred (fun k => (R k : EReal)) k * centred (fun k => (R k : EReal)) k) cols + eps = (v : EReal)
    ∧ rstd (fun k => (R k : EReal)) = (i : EReal) := by
  obtain ⟨e, he, hε⟩ := eps_coe
  have hv : 0 < (∑ k, cen R k * cen R k) / 1024 + e :=
    add_pos_of_nonneg_of_pos (div_nonneg (Finset.sum_nonneg fun k _ => mul_self_nonneg _) (by norm_num)) he
  have ev : Ideal.div (∑ k, centred (fun k => (R k : EReal)) k * centred (fun k => (R k : EReal)) k) cols + eps
      = (((∑ k, cen R k * cen R k) / 1024 + e : ℝ) : EReal) := by
    simp only [centred_coe, ← EReal.coe_mul]
    rw [coe_sum, div_cols, hε, ← EReal.coe_add]
  refine ⟨_, (Real.sqrt ((∑ k, cen R k * cen R k) / 1024 + e))⁻¹, hv, ?_, ev, ?_⟩
  · have hs := Real.mul_self_sqrt hv.le
    have hp := Real.sqrt_pos.2 hv
    generalize Real.sqrt ((∑ k, cen R k * cen R k) / 1024 + e) = s at *
    rw [← hs]
    field_simp
  · unfold rstd
    rw [ev, Ideal.rsqrt_coe, if_neg (not_lt.2 hv.le), if_neg hv.ne']

/-- The closed form and the chain rule agree over the real numbers. -/
theorem back_real (v i : ℝ) (hi : i * i * v = 1) (C : Fin 1024 → ℝ) (hC : ∑ k, C k = 0) (n : Fin 1024) :
    (W n * i + C n * ((∑ k, C k * W k) * (-(1 / 2) * (i / v)) / 1024) + (∑ k, C k * W k) * (-(1 / 2) * (i / v)) / 1024 * C n)
      + (∑ k, -(W k * i + C k * ((∑ k, C k * W k) * (-(1 / 2) * (i / v)) / 1024) + (∑ k, C k * W k) * (-(1 / 2) * (i / v)) / 1024 * C k)) / 1024
    = i * (W n - (∑ k, W k) / 1024 - C n * i * ((∑ k, W k * (C k * i)) / 1024)) := by
  have hv : v ≠ 0 := by rintro rfl; simp at hi
  have e1 : i / v = i * i * i := by
    rw [div_eq_iff hv]
    linear_combination (-i) * hi
  have e2 : ∑ k, W k * (C k * i) = (∑ k, C k * W k) * i := by
    rw [Finset.sum_mul]
    exact Finset.sum_congr rfl fun k _ => by ring
  rw [e1, e2]
  generalize ∑ k, C k * W k = S
  have e3 : ∑ k, -(W k * i + C k * (S * (-(1 / 2) * (i * i * i)) / 1024) + S * (-(1 / 2) * (i * i * i)) / 1024 * C k)
      = -((∑ k, W k) * i) + (∑ k, C k) * (S * (i * i * i) / 1024) := by
    rw [Finset.sum_mul, Finset.sum_mul, ← Finset.sum_neg_distrib, ← Finset.sum_add_distrib]
    exact Finset.sum_congr rfl fun k _ => by ring
  rw [e3, hC]
  ring

end

/-- Where a row and the gradient of its normalised row are real, the chain rule's gradient is the closed form. -/
theorem chain_eq {r w : Row} (hr : Reals r) (hw : Reals w) (n : Fin 1024) : chain r w n = back r w n := by
  choose R hR using hr
  choose W hW using hw
  obtain rfl : r = fun k => (R k : EReal) := funext hR
  obtain rfl : w = fun k => (W k : EReal) := funext hW
  obtain ⟨v, i, hv, hi, ev, ei⟩ := rstd_coe R
  unfold chain midBack varBack back hat
  rw [ev, ei, minusHalf_coe, Ideal.div_coe hv.ne']
  simp only [centred_coe, ← EReal.coe_mul, coe_sum, div_cols, ← EReal.coe_add, ← EReal.coe_sub, ← EReal.coe_neg]
  refine congrArg Real.toEReal (Eq.trans ?_ (back_real W v i hi (cen R) (sum_cen R) n))
  rw [div_eq_mul_one_div i v]

/-- Row `t` of a matrix. -/
def row (x : Mat 2048 1024) (t : Fin 2048) : Row := fun n => x (ix2 t n)

/-- The gradient of row `t`'s normalised row, from the gradient `dy` of the layer norm. -/
def scaled (dy : Mat 2048 1024) (g : Mat 1 1024) (t : Fin 2048) : Row := fun n => dy (ix2 t n) * g (ix2 0 n)

/-- The gradient of a layer norm's input, in closed form. -/
def inGrad (r dy : Mat 2048 1024) (g : Mat 1 1024) : Mat 2048 1024 := fun y => back (row r (y 0)) (scaled dy g (y 0)) (y 1)

/-- The gradient of a layer norm's input, by the chain rule. -/
def inChain (r dy : Mat 2048 1024) (g : Mat 1 1024) : Mat 2048 1024 := fun y => chain (row r (y 0)) (scaled dy g (y 0)) (y 1)

/-- The gradient of a layer norm's scale. -/
def gammaGrad (r dy : Mat 2048 1024) : Mat 1 1024 := fun y => ∑ t : Fin 2048, dy (ix2 t (y 1)) * hat (row r t) (y 1)

/-- The gradient of a layer norm's shift. -/
def betaGrad (dy : Mat 2048 1024) : Mat 1 1024 := fun y => ∑ t : Fin 2048, dy (ix2 t (y 1))

/-- Where the arrays are real, the chain rule's gradient of a layer norm is the closed form. -/
theorem inChain_eq {r dy : Mat 2048 1024} {g : Mat 1 1024} (hr : Reals r) (hd : Reals dy) (hg : Reals g) :
    inChain r dy g = inGrad r dy g :=
  funext fun y => chain_eq (fun n => hr (ix2 (y 0) n)) (fun n => (hd (ix2 (y 0) n)).mul (hg (ix2 0 n))) (y 1)

/-- The sum of two gradients the kernel is given, the first weighted as the residual is. -/
def mixGrad (g1 g2 : Mat 2048 1024) : Mat 2048 1024 := fun y => Cert.Ffn.alpha * g1 (ix2 (y 0) (y 1)) + g2 (ix2 (y 0) (y 1))

/-- Half of the gradient of a layer norm's input: the sublayer's share. -/
def halfGrad (r dy : Mat 2048 1024) (g : Mat 1 1024) : Mat 2048 1024 := fun y => Cert.Ffn.half * inGrad r dy g y

/-- The residual's weight is a real number. -/
theorem alpha_real : Real1 Cert.Ffn.alpha := by
  unfold Cert.Ffn.alpha
  exact ⟨_, by simp [Ideal.ofBits, Ideal.ieee]; rfl⟩

/-- The sum of two real gradients is real. -/
theorem mixGrad_real {g1 g2 : Mat 2048 1024} (h1 : Reals g1) (h2 : Reals g2) : Reals (mixGrad g1 g2) :=
  fun _ => (alpha_real.mul (h1 _)).add (h2 _)

end Cert.Ln
-- ==== Proof.PleSpec.lean ====
/- The gated per-layer input, the last layer norm and the loss, with their gradients, index by index over the extended reals. -/
module

public import proofs.«01_k».proof.Proof.LnReal

@[expose] public section

noncomputable section

open Idealize.ShloMosaic Idealize.SL.Sem
open scoped BigOperators

namespace Cert.Ple

open Cert.Ffn (Mat Real1 Reals alpha half cols sig)
open Cert.Ln

/-- The residual plus the gated product. -/
def resid (s e q : Mat 2048 1024) : Mat 2048 1024 := fun y =>
  alpha * s (ix2 (y 0) (y 1)) + e (ix2 (y 0) (y 1)) * sig (q (ix2 (y 0) (y 1)))

/-- The layer norm's output less the target. -/
def diff (r : Mat 2048 1024) (g b : Mat 1 1024) (tgt : Mat 2048 1024) : Mat 2048 1024 := fun y =>
  hat (row r (y 0)) (y 1) * g (ix2 0 (y 1)) + b (ix2 0 (y 1)) - tgt (ix2 (y 0) (y 1))

/-- One part in 1024. -/
def perCol : EReal := Ideal.ofBits .f32 0x3A800000#32

/-- The gradient of the layer norm's output. -/
def outGrad (d : Mat 2048 1024) : Mat 2048 1024 := fun y => d (ix2 (y 0) (y 1)) * perCol

/-- The gradient of the product the gate multiplies. -/
def prodGrad (dr q : Mat 2048 1024) : Mat 2048 1024 := fun y => dr (ix2 (y 0) (y 1)) * sig (q (ix2 (y 0) (y 1)))

/-- The gradient of the gate's product. -/
def gateGrad (dr e q : Mat 2048 1024) : Mat 2048 1024 := fun y =>
  dr (ix2 (y 0) (y 1)) * e (ix2 (y 0) (y 1)) * (sig (q (ix2 (y 0) (y 1))) * (1 - sig (q (ix2 (y 0) (y 1)))))

/-- Row `r` of block `p` of 512 rows. -/
abbrev rowOf (p : Fin 4) (r : Fin 512) : Fin 2048 := ⟨p.val * 512 + r.val, by omega⟩

/-- The loss of a block of 512 rows. -/
def lossPart (d : Mat 2048 1024) (p : Fin 4) : EReal :=
  half * (∑ r : Fin 512, ∑ n : Fin 1024, d (ix2 (rowOf p r) n) * d (ix2 (rowOf p r) n)) * perCol

/-- The loss, in 128 equal columns. -/
def lossSum (d : Mat 2048 1024) : Mat 1 128 := fun _ => ∑ p : Fin 4, lossPart d p

/-- The loss as half the sum over the rows of the mean square. -/
def lossMean (d : Mat 2048 1024) : EReal := half * ∑ t : Fin 2048, Ideal.div (∑ n : Fin 1024, d (ix2 t n) * d (ix2 t n)) cols

/-- One half is the real number. -/
theorem half_coe : half = ((1 / 2 : ℝ) : EReal) := by
  unfold half
  simp [Ideal.ofBits, Ideal.ieee]
  norm_num
  exact (EReal.coe_mul _ _).symm.trans (congrArg Real.toEReal (by norm_num))

/-- One part in 1024 is the real number. -/
theorem perCol_coe : perCol = ((1 / 1024 : ℝ) : EReal) := by
  unfold perCol
  simp [Ideal.ofBits, Ideal.ieee]
  norm_num
  exact (EReal.coe_mul _ _).symm.trans (congrArg Real.toEReal (by norm_num))

/-- Where the differences are real, the loss by blocks is the loss by rows. -/
theorem loss_eq {d : Mat 2048 1024} (hd : Reals d) : (fun _ => lossMean d : Mat 1 128) = lossSum d := by
  choose D hD using hd
  obtain rfl : d = fun i => (D i : EReal) := funext hD
  funext _
  unfold lossMean lossSum lossPart
  rw [half_coe, perCol_coe]
  simp only [← EReal.coe_mul, coe_sum, div_cols]
  refine congrArg Real.toEReal ?_
  rw [Fin.sum_univ_tiles 4 512 rfl, Finset.mul_sum]
  refine Finset.sum_congr rfl fun p _ => ?_
  rw [← Finset.sum_div]
  ring

/-- The gradient of the loss as the chain rule writes it. -/
def outChain (d : Mat 2048 1024) (c two : EReal) : Mat 2048 1024 := fun y => c * (two * d (ix2 (y 0) (y 1)))

/-- Half a part in 1024 times twice a number is a part in 1024 of it. -/
theorem outChain_eq (d : Mat 2048 1024) (c two : EReal) (hc : c = ((1 / 2048 : ℝ) : EReal)) (h2 : two = ((2 : ℝ) : EReal)) :
    outChain d c two = outGrad d := by
  funext y
  unfold outChain outGrad
  rw [hc, h2, perCol_coe, ← mul_assoc, ← EReal.coe_mul, mul_comm]
  exact congrArg (fun w : ℝ => d (ix2 (y 0) (y 1)) * (w : EReal)) (by norm_num)

/-- The logistic function of a real number is real. -/
theorem sig_real {z : EReal} (h : Real1 z) : Real1 (sig z) := by
  obtain ⟨r, rfl⟩ := h
  exact ⟨_, Ideal.logistic_coe r⟩

/-- A normalised row of real numbers is real. -/
theorem hat_real {r : Row} (h : Reals r) (n : Fin 1024) : Real1 (hat r n) := by
  choose R hR using h
  obtain rfl : r = fun k => (R k : EReal) := funext hR
  obtain ⟨v, i, _, _, _, ei⟩ := rstd_coe R
  unfold hat
  rw [ei, centred_coe]
  exact ⟨_, (EReal.coe_mul _ _).symm⟩

/-- The difference of two real numbers is real. -/
theorem sub_real {a b : EReal} (ha : Real1 a) (hb : Real1 b) : Real1 (a - b) := by
  obtain ⟨r, rfl⟩ := ha
  obtain ⟨s, rfl⟩ := hb
  exact ⟨r - s, (EReal.coe_sub r s).symm⟩

theorem resid_real {s e q : Mat 2048 1024} (hs : Reals s) (he : Reals e) (hq : Reals q) : Reals (resid s e q) :=
  fun _ => (alpha_real.mul (hs _)).add ((he _).mul (sig_real (hq _)))

theorem diff_real {r tgt : Mat 2048 1024} {g b : Mat 1 1024} (hr : Reals r) (hg : Reals g) (hb : Reals b) (ht : Reals tgt) :
    Reals (diff r g b tgt) :=
  fun y => sub_real (((hat_real (fun n => hr (ix2 (y 0) n)) (y 1)).mul (hg _)).add (hb _)) (ht _)

theorem outGrad_real {d : Mat 2048 1024} (hd : Reals d) : Reals (outGrad d) := fun _ => (hd _).mul ⟨_, perCol_coe⟩

section

variable (s e q : Mat 2048 1024) (g b : Mat 1 1024) (tgt : Mat 2048 1024)

/-- The output less the target, from the arguments. -/
def diffOf : Mat 2048 1024 := diff (resid s e q) g b tgt

/-- The gradient of the layer norm's input, from the arguments. -/
def skipOf : Mat 2048 1024 := inGrad (resid s e q) (outGrad (diffOf s e q g b tgt)) g

/-- The gradient of the product the gate multiplies, from the arguments. -/
def prodOf : Mat 2048 1024 := prodGrad (skipOf s e q g b tgt) q

/-- The gradient of the gate's product, from the arguments. -/
def gateOf : Mat 2048 1024 := gateGrad (skipOf s e q g b tgt) e q

/-- The gradient of the layer norm's scale, from the arguments. -/
def gammaOf : Mat 1 1024 := gammaGrad (resid s e q) (outGrad (diffOf s e q g b tgt))

/-- The gradient of the layer norm's shift, from the arguments. -/
def betaOf : Mat 1 1024 := betaGrad (outGrad (diffOf s e q g b tgt))

/-- The loss from the arguments. -/
def lossOf : Mat 1 128 := lossSum (diffOf s e q g b tgt)

end

end Cert.Ple
-- ==== Proof.PleKernel.lean ====
/- What the kernel of the gated per-layer input, the last layer norm and the loss leaves in its six results, index by index. -/
module

public import proofs.«01_k».proof.Proof.Gen.Kernel5Ideal.Value
public import proofs.«01_k».proof.Proof.PleSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Ple

open Cert.Kernel5Ideal Cert.Kernel5Ideal.Gen Cert.Ln Cert.Ple
open Cert.Ffn (Mat centred cols eps alpha half)

variable (m : (ℓ : Loc nD τ sig) → Buf (Elt Ideal) ℓ)

/-- The block every window is on: the point's row block of a tall array, the whole of a short one. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0]
    ∧ win0_11.index t = ![0, 0] :=
  (by decide +kernel : ∀ t : Fin grid0.N, _)

/-- There are four grid points. -/
theorem lt4 (t : Fin cfg0.N) : t.val < 4 := lt_of_lt_of_eq t.isLt (show cfg0.N = 4 from N_0)

/-- The grid point as a number below four. -/
abbrev part (t : Fin cfg0.N) : Fin 4 := ⟨t.val, lt4 t⟩

/-- The residual branch at launch. -/
abbrev skip (c : Dev nD) : Mat 2048 1024 := m ((c : Thread nD τ).loc main_arg0)
/-- The product the gate multiplies, at launch. -/
abbrev prd (c : Dev nD) : Mat 2048 1024 := m ((c : Thread nD τ).loc main_arg1)
/-- The gate's product at launch. -/
abbrev gate (c : Dev nD) : Mat 2048 1024 := m ((c : Thread nD τ).loc main_arg2)
/-- The layer norm's scale at launch. -/
abbrev scale (c : Dev nD) : Mat 1 1024 := m ((c : Thread nD τ).loc main_arg3)
/-- The layer norm's shift at launch. -/
abbrev shift (c : Dev nD) : Mat 1 1024 := m ((c : Thread nD τ).loc main_arg4)
/-- The target at launch. -/
abbrev target (c : Dev nD) : Mat 2048 1024 := m ((c : Thread nD τ).loc main_arg5)
/-- The layer norm's input. -/
abbrev inp (c : Dev nD) : Mat 2048 1024 := resid (skip m c) (prd m c) (gate m c)
/-- The layer norm's output less the target. -/
abbrev dif (c : Dev nD) : Mat 2048 1024 := diffOf (skip m c) (prd m c) (gate m c) (scale m c) (shift m c) (target m c)
/-- The gradient of the layer norm's input. -/
abbrev grad (c : Dev nD) : Mat 2048 1024 := skipOf (skip m c) (prd m c) (gate m c) (scale m c) (shift m c) (target m c)

theorem blk0 (c : Dev nD) (t : Fin cfg0.N) (r : Fin 512) (n : Fin 1024) :
    iblk m c 0 t (ix2 r n) = skip m c (ix2 (rowOf (part t) r) n) := by
  blk_point [iblk, V, idx_val t]

theorem blk1 (c : Dev nD) (t : Fin cfg0.N) (r : Fin 512) (n : Fin 1024) :
    iblk m c 1 t (ix2 r n) = prd m c (ix2 (rowOf (part t) r) n) := by
  blk_point [iblk, V, idx_val t]

theorem blk2 (c : Dev nD) (t : Fin cfg0.N) (r : Fin 512) (n : Fin 1024) :
    iblk m c 2 t (ix2 r n) = gate m c (ix2 (rowOf (part t) r) n) := by
  blk_point [iblk, V, idx_val t]

theorem blk3 (c : Dev nD) (t : Fin cfg0.N) (n : Fin 1024) : iblk m c 3 t (ix2 0 n) = scale m c (ix2 0 n) := by
  blk_point [iblk, V, idx_val t]

theorem blk4 (c : Dev nD) (t : Fin cfg0.N) (n : Fin 1024) : iblk m c 4 t (ix2 0 n) = shift m c (ix2 0 n) := by
  blk_point [iblk, V, idx_val t]

theorem blk5 (c : Dev nD) (t : Fin cfg0.N) (r : Fin 512) (n : Fin 1024) :
    iblk m c 5 t (ix2 r n) = target m c (ix2 (rowOf (part t) r) n) := by
  blk_point [iblk, V, idx_val t]

/-- The kernel's gate. -/
theorem sig_at (c : Dev nD) (t : Fin cfg0.N) (r : Fin 512) (n : Fin 1024) :
    k0_pay5 (F := Ideal) (iblk m c 2 t) (ix2 r n) = Cert.Ffn.sig (gate m c (ix2 (rowOf (part t) r) n)) := by
  pointwise [k0_pay5, Cert.Ffn.sig, blk2 m c t]

/-- The kernel's centred row. -/
theorem centred_at (c : Dev nD) (t : Fin cfg0.N) (r : Fin 512) (n : Fin 1024) :
    k0_pay6 (F := Ideal) (iblk m c 1 t) (iblk m c 2 t) (iblk m c 0 t) (ix2 r n) = centred (row (inp m c) (rowOf (part t) r)) n := by
  pointwise [k0_pay6, centred, cols, row, resid, alpha, sig_at m c t, blk0 m c t, blk1 m c t]

/-- The kernel's reciprocal deviation. -/
theorem rstd_at (c : Dev nD) (t : Fin cfg0.N) (r : Fin 512) :
    k0_pay7 (F := Ideal) (iblk m c 1 t) (iblk m c 2 t) (iblk m c 0 t) (ix2 r 0) = rstd (row (inp m c) (rowOf (part t) r)) := by
  pointwise [k0_pay7, rstd, cols, eps, centred_at m c t]

/-- The kernel's normalised row. -/
theorem hat_at (c : Dev nD) (t : Fin cfg0.N) (r : Fin 512) (n : Fin 1024) :
    k0_pay8 (F := Ideal) (iblk m c 1 t) (iblk m c 2 t) (iblk m c 0 t) (ix2 r n) = hat (row (inp m c) (rowOf (part t) r)) n := by
  pointwise [k0_pay8, hat, centred_at m c t, rstd_at m c t]

/-- The kernel's output less the target. -/
theorem diff_at (c : Dev nD) (t : Fin cfg0.N) (r : Fin 512) (n : Fin 1024) :
    k0_pay9 (F := Ideal) (iblk m c 1 t) (iblk m c 2 t) (iblk m c 0 t) (iblk m c 3 t) (iblk m c 4 t) (iblk m c 5 t) (ix2 r n)
      = dif m c (ix2 (rowOf (part t) r) n) := by
  pointwise [k0_pay9, diffOf, diff, hat_at m c t, blk3 m c t, blk4 m c t, blk5 m c t]

/-- The kernel's gradient of the layer norm's output. -/
theorem outGrad_at (c : Dev nD) (t : Fin cfg0.N) (r : Fin 512) (n : Fin 1024) :
    k0_pay10 (F := Ideal) (iblk m c 1 t) (iblk m c 2 t) (iblk m c 0 t) (iblk m c 3 t) (iblk m c 4 t) (iblk m c 5 t) (ix2 r n)
      = outGrad (dif m c) (ix2 (rowOf (part t) r) n) := by
  pointwise [k0_pay10, outGrad, perCol, diff_at m c t]

/-- The kernel's gradient of the layer norm's input. -/
theorem back_at (c : Dev nD) (t : Fin cfg0.N) (r : Fin 512) (n : Fin 1024) :
    k0_pay13 (F := Ideal) (k0_pay7 (iblk m c 1 t) (iblk m c 2 t) (iblk m c 0 t)) (k0_pay8 (iblk m c 1 t) (iblk m c 2 t) (iblk m c 0 t))
        (iblk m c 3 t) (k0_pay10 (iblk m c 1 t) (iblk m c 2 t) (iblk m c 0 t) (iblk m c 3 t) (iblk m c 4 t) (iblk m c 5 t)) (ix2 r n)
      = grad m c (ix2 (rowOf (part t) r) n) := by
  pointwise [k0_pay13, skipOf, inGrad, back, scaled, cols, rstd_at m c t, hat_at m c t, outGrad_at m c t, blk3 m c t]

/-- The kernel's part of the loss. -/
theorem loss_at (c : Dev nD) (t : Fin cfg0.N) :
    k0_pay12 (F := Ideal) (k0_pay11 (iblk m c 1 t) (iblk m c 2 t) (iblk m c 0 t) (iblk m c 3 t) (iblk m c 4 t) (iblk m c 5 t)) (ix2 0 0)
      = lossPart (dif m c) (part t) := by
  pointwise [k0_pay12, k0_pay11, lossPart, half, perCol, diff_at m c t]

/-- What a grid point adds to the scale's gradient. -/
theorem gammaPart (c : Dev nD) (t : Fin cfg0.N) (n : Fin 1024) :
    k0_pay16 (F := Ideal) (k0_pay8 (iblk m c 1 t) (iblk m c 2 t) (iblk m c 0 t))
        (k0_pay10 (iblk m c 1 t) (iblk m c 2 t) (iblk m c 0 t) (iblk m c 3 t) (iblk m c 4 t) (iblk m c 5 t)) (ix2 0 n)
      = ∑ r : Fin 512, outGrad (dif m c) (ix2 (rowOf (part t) r) n) * hat (row (inp m c) (rowOf (part t) r)) n := by
  pointwise [k0_pay16, hat_at m c t, outGrad_at m c t]

/-- What a grid point adds to the shift's gradient. -/
theorem betaPart (c : Dev nD) (t : Fin cfg0.N) (n : Fin 1024) :
    k0_pay17 (F := Ideal) (k0_pay10 (iblk m c 1 t) (iblk m c 2 t) (iblk m c 0 t) (iblk m c 3 t) (iblk m c 4 t) (iblk m c 5 t)) (ix2 0 n)
      = ∑ r : Fin 512, outGrad (dif m c) (ix2 (rowOf (part t) r) n) := by
  pointwise [k0_pay17, outGrad_at m c t]

theorem point6 (c : Dev nD) (t : Fin cfg0.N) (r : Fin 512) (n : Fin 1024) :
    (outsAt0 m c t.val t.isLt).1 (ix2 r n) = grad m c (ix2 (rowOf (part t) r) n) := by
  by_cases h0 : t.val % 4 = 0
  on_goal 1 => rw [outsAt0_A m c t h0 (by have := lt4 t; omega)]
  on_goal 2 => rw [outsAt0_B m c t h0 (by have := lt4 t; omega)]
  all_goals
    frame_out
    exact back_at m c t r n

theorem point7 (c : Dev nD) (t : Fin cfg0.N) (r : Fin 512) (n : Fin 1024) :
    (outsAt0 m c t.val t.isLt).2.1 (ix2 r n) = prodGrad (grad m c) (gate m c) (ix2 (rowOf (part t) r) n) := by
  by_cases h0 : t.val % 4 = 0
  on_goal 1 => rw [outsAt0_A m c t h0 (by have := lt4 t; omega)]
  on_goal 2 => rw [outsAt0_B m c t h0 (by have := lt4 t; omega)]
  all_goals
    frame_out
    pointwise [k0_pay14, prodGrad, back_at m c t, sig_at m c t]

theorem point8 (c : Dev nD) (t : Fin cfg0.N) (r : Fin 512) (n : Fin 1024) :
    (outsAt0 m c t.val t.isLt).2.2.1 (ix2 r n) = gateGrad (grad m c) (prd m c) (gate m c) (ix2 (rowOf (part t) r) n) := by
  by_cases h0 : t.val % 4 = 0
  on_goal 1 => rw [outsAt0_A m c t h0 (by have := lt4 t; omega)]
  on_goal 2 => rw [outsAt0_B m c t h0 (by have := lt4 t; omega)]
  all_goals
    frame_out
    pointwise [k0_pay15, gateGrad, back_at m c t, sig_at m c t, blk1 m c t]

theorem start9 (c : Dev nD) (t : Fin cfg0.N) (h0 : t.val % 4 = 0) (y : S1x1024.Idx) :
    (outsAt0 m c t.val t.isLt).2.2.2.1 y = (0 : EReal)
      + ∑ r : Fin 512, outGrad (dif m c) (ix2 (rowOf (part t) r) (y 1)) * hat (row (inp m c) (rowOf (part t) r)) (y 1) := by
  rw [outsAt0_A m c t h0 (by have := lt4 t; omega)]
  frame_out
  idx_vars y
  obtain rfl : y0 = 0 := Subsingleton.elim _ _
  rw [zero_add]
  exact gammaPart m c t y1

theorem step9 (c : Dev nD) (t : Fin cfg0.N) (h0 : ¬t.val % 4 = 0) (y : S1x1024.Idx) :
    (outsAt0 m c t.val t.isLt).2.2.2.1 y
      = (show EReal from (outsAt0 m c (t.val - 1) (Nat.lt_of_le_of_lt (Nat.sub_le _ _) t.isLt)).2.2.2.1 y)
      + ∑ r : Fin 512, outGrad (dif m c) (ix2 (rowOf (part t) r) (y 1)) * hat (row (inp m c) (rowOf (part t) r)) (y 1) := by
  rw [outsAt0_B m c t h0 (by have := lt4 t; omega)]
  frame_out
  idx_vars y
  obtain rfl : y0 = 0 := Subsingleton.elim _ _
  pointwise [k0_pay2]
  exact Ideal.add_congr rfl (gammaPart m c t y1)

theorem start10 (c : Dev nD) (t : Fin cfg0.N) (h0 : t.val % 4 = 0) (y : S1x1024.Idx) :
    (outsAt0 m c t.val t.isLt).2.2.2.2.1 y = (0 : EReal) + ∑ r : Fin 512, outGrad (dif m c) (ix2 (rowOf (part t) r) (y 1)) := by
  rw [outsAt0_A m c t h0 (by have := lt4 t; omega)]
  frame_out
  idx_vars y
  obtain rfl : y0 = 0 := Subsingleton.elim _ _
  rw [zero_add]
  exact betaPart m c t y1

theorem step10 (c : Dev nD) (t : Fin cfg0.N) (h0 : ¬t.val % 4 = 0) (y : S1x1024.Idx) :
    (outsAt0 m c t.val t.isLt).2.2.2.2.1 y
      = (show EReal from (outsAt0 m c (t.val - 1) (Nat.lt_of_le_of_lt (Nat.sub_le _ _) t.isLt)).2.2.2.2.1 y)
      + ∑ r : Fin 512, outGrad (dif m c) (ix2 (rowOf (part t) r) (y 1)) := by
  rw [outsAt0_B m c t h0 (by have := lt4 t; omega)]
  frame_out
  idx_vars y
  obtain rfl : y0 = 0 := Subsingleton.elim _ _
  pointwise [k0_pay3]
  exact Ideal.add_congr rfl (betaPart m c t y1)

theorem start11 (c : Dev nD) (t : Fin cfg0.N) (h0 : t.val % 4 = 0) (y : S1x128.Idx) :
    (outsAt0 m c t.val t.isLt).2.2.2.2.2 y = (0 : EReal) + lossPart (dif m c) (part t) := by
  rw [outsAt0_A m c t h0 (by have := lt4 t; omega)]
  frame_out
  idx_vars y
  obtain rfl : y0 = 0 := Subsingleton.elim _ _
  rw [zero_add]
  pointwise [k0_pay1]
  exact loss_at m c t

theorem step11 (c : Dev nD) (t : Fin cfg0.N) (h0 : ¬t.val % 4 = 0) (y : S1x128.Idx) :
    (outsAt0 m c t.val t.isLt).2.2.2.2.2 y
      = (show EReal from (outsAt0 m c (t.val - 1) (Nat.lt_of_le_of_lt (Nat.sub_le _ _) t.isLt)).2.2.2.2.2 y)
      + lossPart (dif m c) (part t) := by
  rw [outsAt0_B m c t h0 (by have := lt4 t; omega)]
  frame_out
  idx_vars y
  obtain rfl : y0 = 0 := Subsingleton.elim _ _
  pointwise [k0_pay4]
  exact Ideal.add_congr rfl (loss_at m c t)

/-- The gradient of the layer norm's input. -/
theorem final6 (c : Dev nD) : (dats m 0 c).arrAt 6 cfg0.N = grad m c := by
  refine (dats m 0 c).arrAt_eq_of_covers 6 _ (by decide +kernel) fun t _ y => ?_
  blk_simp
  rw [after0_6]
  idx_vars y
  refine (point6 m c t y0 y1).trans (congrArg _ ?_)
  blk_ext [idx_val t]

/-- The gradient of the product the gate multiplies. -/
theorem final7 (c : Dev nD) : (dats m 0 c).arrAt 7 cfg0.N = prodGrad (grad m c) (gate m c) := by
  refine (dats m 0 c).arrAt_eq_of_covers 7 _ (by decide +kernel) fun t _ y => ?_
  blk_simp
  rw [after0_7]
  idx_vars y
  refine (point7 m c t y0 y1).trans (congrArg _ ?_)
  blk_ext [idx_val t]

/-- The gradient of the gate's product. -/
theorem final8 (c : Dev nD) : (dats m 0 c).arrAt 8 cfg0.N = gateGrad (grad m c) (prd m c) (gate m c) := by
  refine (dats m 0 c).arrAt_eq_of_covers 8 _ (by decide +kernel) fun t _ y => ?_
  blk_simp
  rw [after0_8]
  idx_vars y
  refine (point8 m c t y0 y1).trans (congrArg _ ?_)
  blk_ext [idx_val t]

/-- The scale's gradient is the sum over all rows. -/
theorem final9 (c : Dev nD) : (dats m 0 c).arrAt 9 cfg0.N = gammaGrad (inp m c) (outGrad (dif m c)) := by
  refine (dats m 0 c).arrAt_eq_of_after_last 9 t0_3 (by decide +kernel) _ fun j => ?_
  blk_simp
  rw [after0_9, Pipeline.eq_sum_fin_of_reset_step_apply_last (fun n h => (outsAt0 m c n h).2.2.2.1) 4 (fun _ => (0 : EReal)) _
    (start9 m c) (step9 m c) (le_of_eq N_0) t0_3 rfl j, zero_add]
  exact Fin.sum_mul_add_congr (fun p r hl => rfl) (by decide)

/-- The shift's gradient is the sum over all rows. -/
theorem final10 (c : Dev nD) : (dats m 0 c).arrAt 10 cfg0.N = betaGrad (outGrad (dif m c)) := by
  refine (dats m 0 c).arrAt_eq_of_after_last 10 t0_3 (by decide +kernel) _ fun j => ?_
  blk_simp
  rw [after0_10, Pipeline.eq_sum_fin_of_reset_step_apply_last (fun n h => (outsAt0 m c n h).2.2.2.2.1) 4 (fun _ => (0 : EReal)) _
    (start10 m c) (step10 m c) (le_of_eq N_0) t0_3 rfl j, zero_add]
  exact Fin.sum_mul_add_congr (fun p r hl => rfl) (by decide)

/-- The loss is the sum of the four blocks' parts. -/
theorem final11 (c : Dev nD) : (dats m 0 c).arrAt 11 cfg0.N = lossSum (dif m c) := by
  refine (dats m 0 c).arrAt_eq_of_after_last 11 t0_3 (by decide +kernel) _ fun j => ?_
  blk_simp
  rw [after0_11, Pipeline.eq_sum_fin_of_reset_step_apply_last (fun n h => (outsAt0 m c n h).2.2.2.2.2) 4 (fun _ => (0 : EReal)) _
    (start11 m c) (step11 m c) (le_of_eq N_0) t0_3 rfl j, zero_add]
  rfl

/-- Every run of the kernel ends with the loss and the five gradients and leaves the arguments alone. -/
theorem run (ρ : Dev nD → PrngReg) :
    θ_run defs (onTc (τ := τ) (main (F := Ideal))) ⟨m, fun _ => 0, ρ⟩ fun r => ∀ c : Dev nD,
      r.2.mem ((c : Thread nD τ).loc main_v0_5) = lossSum (dif m c)
      ∧ r.2.mem ((c : Thread nD τ).loc main_v0_0) = grad m c
      ∧ r.2.mem ((c : Thread nD τ).loc main_v0_1) = prodGrad (grad m c) (gate m c)
      ∧ r.2.mem ((c : Thread nD τ).loc main_v0_2) = gateGrad (grad m c) (prd m c) (gate m c)
      ∧ r.2.mem ((c : Thread nD τ).loc main_v0_3) = gammaGrad (inp m c) (outGrad (dif m c))
      ∧ r.2.mem ((c : Thread nD τ).loc main_v0_4) = betaGrad (outGrad (dif m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).2.2.2.2.2.1.trans (final11 m c), (h c).1.trans (final6 m c), (h c).2.1.trans (final7 m c),
    (h c).2.2.1.trans (final8 m c), (h c).2.2.2.1.trans (final9 m c), (h c).2.2.2.2.1.trans (final10 m c), (h c).2.2.2.2.2.2⟩)
    (Cert.Kernel5Ideal.Value.run_blocks m ρ)

end Cert.Kernel5Ideal.Ple
-- ==== Proof.PleRef.lean ====
/- What the plainly written gated input, layer norm and loss and their gradients compute, index by index, where the arguments are real. -/
module

public import proofs.«01_k».proof.Proof.Gen.Reference5Ideal.Run
public import proofs.«01_k».proof.Proof.PleSpec
public import Idealize.ShloMosaic.Lib.Pipeline.ValueKit

@[expose] public section

set_option maxRecDepth 16384

noncomputable section

open Idealize.ShloMosaic Idealize.ShloMosaic.TcCoe Idealize.SL.Sem
open scoped BigOperators

namespace Cert.Reference5Ideal.Ple

open Cert.Reference5Ideal Cert.Reference5Ideal.Gen Cert.Ln Cert.Ple
open Cert.Ffn (Mat Reals centred cols eps alpha half)

variable (m : (ℓ : Loc nD τ sig) → Buf (Elt Ideal) ℓ) (ρ : Dev nD → PrngReg)

/-- The residual branch at launch. -/
abbrev skip (c : Dev nD) : Mat 2048 1024 := m ((c : Thread nD τ).loc main_arg0)
/-- The product the gate multiplies, at launch. -/
abbrev prd (c : Dev nD) : Mat 2048 1024 := m ((c : Thread nD τ).loc main_arg1)
/-- The gate's product at launch. -/
abbrev gate (c : Dev nD) : Mat 2048 1024 := m ((c : Thread nD τ).loc main_arg2)
/-- The layer norm's scale at launch. -/
abbrev scale (c : Dev nD) : Mat 1 1024 := m ((c : Thread nD τ).loc main_arg3)
/-- The layer norm's shift at launch. -/
abbrev shift (c : Dev nD) : Mat 1 1024 := m ((c : Thread nD τ).loc main_arg4)
/-- The target at launch. -/
abbrev target (c : Dev nD) : Mat 2048 1024 := m ((c : Thread nD τ).loc main_arg5)
/-- The layer norm's input. -/
abbrev inp (c : Dev nD) : Mat 2048 1024 := resid (skip m c) (prd m c) (gate m c)
/-- The layer norm's output less the target. -/
abbrev dif (c : Dev nD) : Mat 2048 1024 := diffOf (skip m c) (prd m c) (gate m c) (scale m c) (shift m c) (target m c)
/-- The gradient of the layer norm's input. -/
abbrev grad (c : Dev nD) : Mat 2048 1024 := skipOf (skip m c) (prd m c) (gate m c) (scale m c) (shift m c) (target m c)

/-- Half of one part in 1024, as the chain rule writes it. -/
def perTwo : EReal := Ideal.div half cols

/-- The constant two of the square's derivative. -/
def two : EReal := Ideal.ofBits .f32 0x40000000#32

theorem perTwo_coe : perTwo = ((1 / 2048 : ℝ) : EReal) := by
  unfold perTwo
  rw [half_coe, div_cols]
  exact congrArg Real.toEReal (by norm_num)

theorem two_coe : two = ((2 : ℝ) : EReal) := by
  unfold two
  simp [Ideal.ofBits, Ideal.ieee]
  norm_num
  exact (EReal.coe_mul _ _).symm.trans (congrArg Real.toEReal (by norm_num))

/-- The gradient of the layer norm's output as the chain rule writes it. -/
abbrev outOf (c : Dev nD) : Mat 2048 1024 := outChain (dif m c) perTwo two

/-- A sum of products, with the factors exchanged. -/
theorem sum_swap {n : ℕ} (f g : Fin n → EReal) : ∑ t, f t * g t = ∑ t, g t * f t := Finset.sum_congr rfl fun _ _ => mul_comm _ _

set_option maxHeartbeats 2000000 in
/-- The loss is half the sum over the rows of the mean square. -/
theorem loss_row (c : Dev nD) : Cert.Reference5Ideal.Value.res_main_v83 (F := Ideal) m c = fun _ => lossMean (dif m c) := by
  unfold Cert.Reference5Ideal.Value.res_main_v83 dif skip prd gate scale shift target
  generalize m (c.tc.loc main_arg0) = s, m (c.tc.loc main_arg1) = e, m (c.tc.loc main_arg2) = q, m (c.tc.loc main_arg3) = g,
    m (c.tc.loc main_arg4) = b, m (c.tc.loc main_arg5) = tgt
  funext y
  idx_vars y
  pointwise [lossMean, diffOf, diff, resid, hat, rstd, row, centred, cols, eps, alpha, half, Cert.Ffn.sig]
  rfl

set_option maxHeartbeats 2000000 in
/-- The shift's gradient. -/
theorem shift_row (c : Dev nD) : Cert.Reference5Ideal.Value.res_main_v52 (F := Ideal) m c = betaGrad (outOf m c) := by
  unfold Cert.Reference5Ideal.Value.res_main_v52 outOf dif skip prd gate scale shift target
  generalize m (c.tc.loc main_arg0) = s, m (c.tc.loc main_arg1) = e, m (c.tc.loc main_arg2) = q, m (c.tc.loc main_arg3) = g,
    m (c.tc.loc main_arg4) = b, m (c.tc.loc main_arg5) = tgt
  funext y
  idx_vars y
  pointwise [betaGrad, outChain, perTwo, two, diffOf, diff, resid, hat, rstd, row, centred, cols, eps, alpha, half, Cert.Ffn.sig]
  rfl

set_option maxHeartbeats 2000000 in
/-- The scale's gradient. -/
theorem scale_row (c : Dev nD) : Cert.Reference5Ideal.Value.res_main_v55 (F := Ideal) m c = gammaGrad (inp m c) (outOf m c) := by
  unfold Cert.Reference5Ideal.Value.res_main_v55 outOf inp dif skip prd gate scale shift target
  generalize m (c.tc.loc main_arg0) = s, m (c.tc.loc main_arg1) = e, m (c.tc.loc main_arg2) = q, m (c.tc.loc main_arg3) = g,
    m (c.tc.loc main_arg4) = b, m (c.tc.loc main_arg5) = tgt
  funext y
  idx_vars y
  pointwise [gammaGrad, outChain, perTwo, two, diffOf, diff, resid, hat, rstd, row, centred, cols, eps, alpha, half, Cert.Ffn.sig]
  exact sum_swap _ _

set_option maxHeartbeats 4000000 in
/-- The gradient of the layer norm's input is the chain rule's. -/
theorem skip_row (c : Dev nD) : Cert.Reference5Ideal.Value.res_main_v79 (F := Ideal) m c = inChain (inp m c) (outOf m c) (scale m c) := by
  unfold Cert.Reference5Ideal.Value.res_main_v79 outOf inp dif skip prd gate scale shift target
  generalize m (c.tc.loc main_arg0) = s, m (c.tc.loc main_arg1) = e, m (c.tc.loc main_arg2) = q, m (c.tc.loc main_arg3) = g,
    m (c.tc.loc main_arg4) = b, m (c.tc.loc main_arg5) = tgt
  funext y
  idx_vars y
  pointwise [inChain, chain, midBack, varBack, minusHalf, scaled, outChain, perTwo, two, diffOf, diff, resid, hat, rstd, row, centred,
    cols, eps, alpha, half, Cert.Ffn.sig]
  simp only [Finset.univ_unique, Finset.sum_singleton]
  rfl

/-- The gradient of the product the gate multiplies, from that of the layer norm's input. -/
theorem prod_row (c : Dev nD) : Cert.Reference5Ideal.Value.res_main_v84 (F := Ideal) m c
    = prodGrad (Cert.Reference5Ideal.Value.res_main_v79 (F := Ideal) m c) (gate m c) := by
  change (truncf .bf16 (mulf (Cert.Reference5Ideal.Value.res_main_v79 (F := Ideal) m c) _) _ : FVec Ideal S2048x1024 .bf16) = _
  generalize Cert.Reference5Ideal.Value.res_main_v79 (F := Ideal) m c = d
  unfold gate
  generalize m (c.tc.loc main_arg2) = q
  funext y
  idx_vars y
  pointwise [prodGrad, Cert.Ffn.sig]
  rfl

/-- The gradient of the gate's product, from that of the layer norm's input. -/
theorem gate_row (c : Dev nD) : Cert.Reference5Ideal.Value.res_main_v85 (F := Ideal) m c
    = gateGrad (Cert.Reference5Ideal.Value.res_main_v79 (F := Ideal) m c) (prd m c) (gate m c) := by
  change (truncf .bf16 (mulf (mulf _ (Cert.Reference5Ideal.Value.res_main_v79 (F := Ideal) m c)) _) _ : FVec Ideal S2048x1024 .bf16) = _
  generalize Cert.Reference5Ideal.Value.res_main_v79 (F := Ideal) m c = d
  unfold gate prd
  generalize m (c.tc.loc main_arg1) = e, m (c.tc.loc main_arg2) = q
  funext y
  idx_vars y
  pointwise [gateGrad, Cert.Ffn.sig]
  exact congrArg (fun w : EReal => w * _) (mul_comm _ _)

/-- Where the arguments are real, the reference ends with the loss and the closed form's five gradients. -/
theorem run (hr : ∀ c, Reals (inp m c)) (hd : ∀ c, Reals (dif m c)) (hg : ∀ c, Reals (scale m c)) :
    θ_run defs (onTc (τ := τ) (main (F := Ideal))) ⟨m, fun _ => 0, ρ⟩ fun r => ∀ c : Dev nD,
      r.2.mem ((c.tc : Thread nD τ).loc main_v83) = lossSum (dif m c)
      ∧ r.2.mem ((c.tc : Thread nD τ).loc main_v79) = grad m c
      ∧ r.2.mem ((c.tc : Thread nD τ).loc main_v84) = prodGrad (grad m c) (gate m c)
      ∧ r.2.mem ((c.tc : Thread nD τ).loc main_v85) = gateGrad (grad m c) (prd m c) (gate m c)
      ∧ r.2.mem ((c.tc : Thread nD τ).loc main_v55) = gammaGrad (inp m c) (outGrad (dif m c))
      ∧ r.2.mem ((c.tc : Thread nD τ).loc main_v52) = betaGrad (outGrad (dif m c))
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3)
      ∧ r.2.mem ((c.tc : Thread nD τ).loc main_arg4) = m (c.tc.loc main_arg4)
      ∧ r.2.mem ((c.tc : Thread nD τ).loc main_arg5) = m (c.tc.loc main_arg5) := by
  refine (θ_run defs _ _).mono (fun r h c => ?_) (Cert.Reference5Ideal.Value.run m ρ)
  have o : outOf m c = outGrad (dif m c) := outChain_eq _ _ _ perTwo_coe two_coe
  have k : Cert.Reference5Ideal.Value.res_main_v79 (F := Ideal) m c = grad m c := by
    rw [skip_row, o]
    exact inChain_eq (hr c) (outGrad_real (hd c)) (hg c)
  exact ⟨(h c).1.trans ((loss_row m c).trans (loss_eq (hd c))), (h c).2.1.trans k, (h c).2.2.1.trans ((prod_row m c).trans (by rw [k])),
    (h c).2.2.2.1.trans ((gate_row m c).trans (by rw [k])), (h c).2.2.2.2.1.trans ((scale_row m c).trans (by rw [o])),
    (h c).2.2.2.2.2.1.trans ((shift_row m c).trans (by rw [o])), (h c).2.2.2.2.2.2⟩

end Cert.Reference5Ideal.Ple
-- ==== Proof.PlePre.lean ====
/- What the precondition of the gated input and the loss says: all six arguments hold real numbers. -/
module

public import proofs.«01_k».proof.Defs
public import proofs.«01_k».proof.Proof.FfnPre

@[expose] public section

set_option maxRecDepth 16384

noncomputable section

open Idealize.ShloMosaic Idealize.ShloMosaic.TcCoe Idealize.SL.Sem

namespace Cert.Pre_ple_finite

open Cert.Pre_ffn_finite (real_of_abs_lt)

/-- The shape relations of the precondition's program. -/
theorem facts : Cert.Pre_ple_finite.Facts where
  bcast_S_S2048x1024 := by decide
  reducesTo_S2048x1024_S_d0_1 := by decide
  h_S_ := by decide
  bcast_S_S1x1024 := by decide
  reducesTo_S1x1024_S_d0_1 := by decide

/-- Where the precondition holds, the arguments are real. -/
theorem reals [Facts] (s e q : FVec Ideal S2048x1024 .f32) (g b : FVec Ideal S1x1024 .f32) (t : FVec Ideal S2048x1024 .f32)
    (h : fn s e q g b t = fun _ => 1#1) :
    Cert.Ffn.Reals s ∧ Cert.Ffn.Reals e ∧ Cert.Ffn.Reals q ∧ Cert.Ffn.Reals g ∧ Cert.Ffn.Reals b ∧ Cert.Ffn.Reals t := by
  have h0 := congrFun h ix0
  unfold fn fn_part1 at h0
  obtain ⟨h1, ht⟩ := IntOp.andi_eq_one.1 h0
  obtain ⟨h2, hb⟩ := IntOp.andi_eq_one.1 h1
  obtain ⟨h3, hg⟩ := IntOp.andi_eq_one.1 h2
  obtain ⟨h4, hq⟩ := IntOp.andi_eq_one.1 h3
  obtain ⟨hs, he⟩ := IntOp.andi_eq_one.1 h4
  exact ⟨fun i => real_of_abs_lt (Host.reduce_andi_all _ _ _ _ _ hs i), fun i => real_of_abs_lt (Host.reduce_andi_all _ _ _ _ _ he i),
    fun i => real_of_abs_lt (Host.reduce_andi_all _ _ _ _ _ hq i), fun i => real_of_abs_lt (Host.reduce_andi_all _ _ _ _ _ hg i),
    fun i => real_of_abs_lt (Host.reduce_andi_all _ _ _ _ _ hb i), fun i => real_of_abs_lt (Host.reduce_andi_all _ _ _ _ _ ht i)⟩

end Cert.Pre_ple_finite
-- ==== Proof.LnKernel.lean ====
/- What the layer norm's gradient kernel leaves in its four results, index by index. -/
module

public import proofs.«01_k».proof.Proof.Gen.Kernel6Ideal.Value
public import proofs.«01_k».proof.Proof.LnReal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Ln

open Cert.Kernel6Ideal Cert.Kernel6Ideal.Gen Cert.Ln
open Cert.Ffn (Mat centred cols eps alpha half)

variable (m : (ℓ : Loc nD τ sig) → Buf (Elt Ideal) ℓ)

/-- The block every window is on: the point's row block, the scale, the shift and their gradients whole. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- There are four grid points. -/
theorem lt4 (t : Fin cfg0.N) : t.val < 4 := lt_of_lt_of_eq t.isLt (show cfg0.N = 4 from N_0)

/-- Row `r` of the point's row block. -/
abbrev rowAt (t : Fin cfg0.N) (r : Fin 512) : Fin 2048 := ⟨t.val * 512 + r.val, by have := lt4 t; omega⟩

/-- The input at launch. -/
abbrev inp (c : Dev nD) : Mat 2048 1024 := m ((c : Thread nD τ).loc main_arg0)
/-- The scale at launch. -/
abbrev scale (c : Dev nD) : Mat 1 1024 := m ((c : Thread nD τ).loc main_arg1)
/-- The gradient of the output, from the two gradients at launch. -/
abbrev grad (c : Dev nD) : Mat 2048 1024 := mixGrad (m ((c : Thread nD τ).loc main_arg3)) (m ((c : Thread nD τ).loc main_arg4))

theorem blk0 (c : Dev nD) (t : Fin cfg0.N) (r : Fin 512) (n : Fin 1024) :
    iblk m c 0 t (ix2 r n) = row (inp m c) (rowAt t r) n := by
  blk_point [iblk, V, idx_val t]

theorem blk1 (c : Dev nD) (t : Fin cfg0.N) (n : Fin 1024) : iblk m c 1 t (ix2 0 n) = scale m c (ix2 0 n) := by
  blk_point [iblk, V, idx_val t]

theorem blk3 (c : Dev nD) (t : Fin cfg0.N) (r : Fin 512) (n : Fin 1024) :
    iblk m c 3 t (ix2 r n) = m ((c : Thread nD τ).loc main_arg3) (ix2 (rowAt t r) n) := by
  blk_point [iblk, V, idx_val t]

theorem blk4 (c : Dev nD) (t : Fin cfg0.N) (r : Fin 512) (n : Fin 1024) :
    iblk m c 4 t (ix2 r n) = m ((c : Thread nD τ).loc main_arg4) (ix2 (rowAt t r) n) := by
  blk_point [iblk, V, idx_val t]

/-- The kernel's centred row. -/
theorem centred_at (c : Dev nD) (t : Fin cfg0.N) (r : Fin 512) (n : Fin 1024) :
    k0_pay7 (F := Ideal) (iblk m c 0 t) (ix2 r n) = centred (row (inp m c) (rowAt t r)) n := by
  pointwise [k0_pay7, centred, cols, blk0 m c t]

/-- The kernel's reciprocal deviation. -/
theorem rstd_at (c : Dev nD) (t : Fin cfg0.N) (r : Fin 512) :
    k0_pay8 (F := Ideal) (iblk m c 0 t) (ix2 r 0) = rstd (row (inp m c) (rowAt t r)) := by
  pointwise [k0_pay8, rstd, cols, eps, centred_at m c t]

/-- The kernel's normalised row. -/
theorem hat_at (c : Dev nD) (t : Fin cfg0.N) (r : Fin 512) (n : Fin 1024) :
    k0_pay9 (F := Ideal) (iblk m c 0 t) (ix2 r n) = hat (row (inp m c) (rowAt t r)) n := by
  pointwise [k0_pay9, hat, centred_at m c t, rstd_at m c t]

/-- The kernel's gradient of the layer norm's output. -/
theorem grad_at (c : Dev nD) (t : Fin cfg0.N) (r : Fin 512) (n : Fin 1024) :
    k0_pay10 (F := Ideal) (iblk m c 3 t) (iblk m c 4 t) (ix2 r n) = grad m c (ix2 (rowAt t r) n) := by
  pointwise [k0_pay10, mixGrad, alpha, blk3 m c t, blk4 m c t]

/-- The kernel's gradient of the normalised row. -/
theorem scaled_at (c : Dev nD) (t : Fin cfg0.N) (r : Fin 512) (n : Fin 1024) :
    k0_pay11 (F := Ideal) (iblk m c 1 t) (iblk m c 3 t) (iblk m c 4 t) (ix2 r n) = scaled (grad m c) (scale m c) (rowAt t r) n := by
  pointwise [k0_pay11, scaled, grad_at m c t, blk1 m c t]

/-- The kernel's gradient of the layer norm's input. -/
theorem back_at (c : Dev nD) (t : Fin cfg0.N) (r : Fin 512) (n : Fin 1024) :
    k0_pay1 (F := Ideal) (k0_pay8 (iblk m c 0 t)) (k0_pay12 (iblk m c 1 t) (iblk m c 3 t) (iblk m c 4 t))
        (k0_pay13 (iblk m c 0 t) (iblk m c 1 t) (iblk m c 3 t) (iblk m c 4 t)) (ix2 r n)
      = inGrad (inp m c) (grad m c) (scale m c) (ix2 (rowAt t r) n) := by
  pointwise [k0_pay1, k0_pay12, k0_pay13, inGrad, back, cols, rstd_at m c t, hat_at m c t, scaled_at m c t]

theorem point5 (c : Dev nD) (t : Fin cfg0.N) (r : Fin 512) (n : Fin 1024) :
    (outsAt0 m c t.val t.isLt).1 (ix2 r n) = inGrad (inp m c) (grad m c) (scale m c) (ix2 (rowAt t r) n) := by
  by_cases h0 : t.val % 4 = 0
  on_goal 1 => rw [outsAt0_A m c t h0 (by have := lt4 t; omega)]
  on_goal 2 => rw [outsAt0_B m c t h0 (by have := lt4 t; omega)]
  all_goals
    frame_out
    exact back_at m c t r n

theorem point6 (c : Dev nD) (t : Fin cfg0.N) (r : Fin 512) (n : Fin 1024) :
    (outsAt0 m c t.val t.isLt).2.1 (ix2 r n) = halfGrad (inp m c) (grad m c) (scale m c) (ix2 (rowAt t r) n) := by
  by_cases h0 : t.val % 4 = 0
  on_goal 1 => rw [outsAt0_A m c t h0 (by have := lt4 t; omega)]
  on_goal 2 => rw [outsAt0_B m c t h0 (by have := lt4 t; omega)]
  all_goals
    frame_out
    pointwise [k0_pay2, halfGrad, half, back_at m c t]

/-- What a grid point adds to the scale's gradient. -/
theorem gammaPart (c : Dev nD) (t : Fin cfg0.N) (n : Fin 1024) :
    k0_pay3 (F := Ideal) (k0_pay9 (iblk m c 0 t)) (k0_pay10 (iblk m c 3 t) (iblk m c 4 t)) (ix2 0 n)
      = ∑ r : Fin 512, grad m c (ix2 (rowAt t r) n) * hat (row (inp m c) (rowAt t r)) n := by
  pointwise [k0_pay3, hat_at m c t, grad_at m c t]

/-- What a grid point adds to the shift's gradient. -/
theorem betaPart (c : Dev nD) (t : Fin cfg0.N) (n : Fin 1024) :
    k0_pay4 (F := Ideal) (k0_pay10 (iblk m c 3 t) (iblk m c 4 t)) (ix2 0 n) = ∑ r : Fin 512, grad m c (ix2 (rowAt t r) n) := by
  pointwise [k0_pay4, grad_at m c t]

theorem start7 (c : Dev nD) (t : Fin cfg0.N) (h0 : t.val % 4 = 0) (y : S1x1024.Idx) :
    (outsAt0 m c t.val t.isLt).2.2.1 y = (0 : EReal)
      + ∑ r : Fin 512, grad m c (ix2 (rowAt t r) (y 1)) * hat (row (inp m c) (rowAt t r)) (y 1) := by
  rw [outsAt0_A m c t h0 (by have := lt4 t; omega)]
  frame_out
  idx_vars y
  obtain rfl : y0 = 0 := Subsingleton.elim _ _
  rw [zero_add]
  exact gammaPart m c t y1

theorem step7 (c : Dev nD) (t : Fin cfg0.N) (h0 : ¬t.val % 4 = 0) (y : S1x1024.Idx) :
    (outsAt0 m c t.val t.isLt).2.2.1 y = (show EReal from (outsAt0 m c (t.val - 1) (Nat.lt_of_le_of_lt (Nat.sub_le _ _) t.isLt)).2.2.1 y)
      + ∑ r : Fin 512, grad m c (ix2 (rowAt t r) (y 1)) * hat (row (inp m c) (rowAt t r)) (y 1) := by
  rw [outsAt0_B m c t h0 (by have := lt4 t; omega)]
  frame_out
  idx_vars y
  obtain rfl : y0 = 0 := Subsingleton.elim _ _
  pointwise [k0_pay5]
  exact Ideal.add_congr rfl (gammaPart m c t y1)

theorem start8 (c : Dev nD) (t : Fin cfg0.N) (h0 : t.val % 4 = 0) (y : S1x1024.Idx) :
    (outsAt0 m c t.val t.isLt).2.2.2 y = (0 : EReal) + ∑ r : Fin 512, grad m c (ix2 (rowAt t r) (y 1)) := by
  rw [outsAt0_A m c t h0 (by have := lt4 t; omega)]
  frame_out
  idx_vars y
  obtain rfl : y0 = 0 := Subsingleton.elim _ _
  rw [zero_add]
  exact betaPart m c t y1

theorem step8 (c : Dev nD) (t : Fin cfg0.N) (h0 : ¬t.val % 4 = 0) (y : S1x1024.Idx) :
    (outsAt0 m c t.val t.isLt).2.2.2 y = (show EReal from (outsAt0 m c (t.val - 1) (Nat.lt_of_le_of_lt (Nat.sub_le _ _) t.isLt)).2.2.2 y)
      + ∑ r : Fin 512, grad m c (ix2 (rowAt t r) (y 1)) := by
  rw [outsAt0_B m c t h0 (by have := lt4 t; omega)]
  frame_out
  idx_vars y
  obtain rfl : y0 = 0 := Subsingleton.elim _ _
  pointwise [k0_pay6]
  exact Ideal.add_congr rfl (betaPart m c t y1)

/-- The gradient of the layer norm's input. -/
theorem final5 (c : Dev nD) : (dats m 0 c).arrAt 5 cfg0.N = inGrad (inp m c) (grad m c) (scale m c) := by
  refine (dats m 0 c).arrAt_eq_of_covers 5 _ (by decide +kernel) fun t _ y => ?_
  blk_simp
  rw [after0_5]
  idx_vars y
  refine (point5 m c t y0 y1).trans (congrArg _ ?_)
  blk_ext [idx_val t]

/-- The sublayer's share of that gradient. -/
theorem final6 (c : Dev nD) : (dats m 0 c).arrAt 6 cfg0.N = halfGrad (inp m c) (grad m c) (scale m c) := by
  refine (dats m 0 c).arrAt_eq_of_covers 6 _ (by decide +kernel) fun t _ y => ?_
  blk_simp
  rw [after0_6]
  idx_vars y
  refine (point6 m c t y0 y1).trans (congrArg _ ?_)
  blk_ext [idx_val t]

/-- The scale's gradient is the sum over all rows. -/
theorem final7 (c : Dev nD) : (dats m 0 c).arrAt 7 cfg0.N = gammaGrad (inp m c) (grad m c) := by
  refine (dats m 0 c).arrAt_eq_of_after_last 7 t0_3 (by decide +kernel) _ fun j => ?_
  blk_simp
  rw [after0_7, Pipeline.eq_sum_fin_of_reset_step_apply_last (fun n h => (outsAt0 m c n h).2.2.1) 4 (fun _ => (0 : EReal)) _
    (start7 m c) (step7 m c) (le_of_eq N_0) t0_3 rfl j, zero_add]
  exact Fin.sum_mul_add_congr (fun p r hl => rfl) (by decide)

/-- The shift's gradient is the sum over all rows. -/
theorem final8 (c : Dev nD) : (dats m 0 c).arrAt 8 cfg0.N = betaGrad (grad m c) := by
  refine (dats m 0 c).arrAt_eq_of_after_last 8 t0_3 (by decide +kernel) _ fun j => ?_
  blk_simp
  rw [after0_8, Pipeline.eq_sum_fin_of_reset_step_apply_last (fun n h => (outsAt0 m c n h).2.2.2) 4 (fun _ => (0 : EReal)) _
    (start8 m c) (step8 m c) (le_of_eq N_0) t0_3 rfl j, zero_add]
  exact Fin.sum_mul_add_congr (fun p r hl => rfl) (by decide)

/-- Every run of the kernel ends with the four gradients and leaves the arguments alone. -/
theorem run (ρ : Dev nD → PrngReg) :
    θ_run defs (onTc (τ := τ) (main (F := Ideal))) ⟨m, fun _ => 0, ρ⟩ fun r => ∀ c : Dev nD,
      r.2.mem ((c : Thread nD τ).loc main_v0_0) = inGrad (inp m c) (grad m c) (scale m c)
      ∧ r.2.mem ((c : Thread nD τ).loc main_v0_1) = halfGrad (inp m c) (grad m c) (scale m c)
      ∧ r.2.mem ((c : Thread nD τ).loc main_v0_2) = gammaGrad (inp m c) (grad m c)
      ∧ r.2.mem ((c : Thread nD τ).loc main_v0_3) = betaGrad (grad m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Cert.Kernel6Ideal.Value.run_blocks m ρ)

end Cert.Kernel6Ideal.Ln
-- ==== Proof.LnRef.lean ====
/- What the plainly written layer norm's gradient computes, index by index, where the arrays hold real numbers. -/
module

public import proofs.«01_k».proof.Proof.Gen.Reference6Ideal.Run
public import proofs.«01_k».proof.Proof.LnReal
public import Idealize.ShloMosaic.Lib.Pipeline.ValueKit

@[expose] public section

set_option maxRecDepth 16384

noncomputable section

open Idealize.ShloMosaic Idealize.ShloMosaic.TcCoe Idealize.SL.Sem
open scoped BigOperators

namespace Cert.Reference6Ideal.Ln

open Cert.Reference6Ideal Cert.Reference6Ideal.Gen Cert.Ln
open Cert.Ffn (Mat Reals centred cols eps alpha half)

variable (m : (ℓ : Loc nD τ sig) → Buf (Elt Ideal) ℓ) (ρ : Dev nD → PrngReg)

/-- The input at launch. -/
abbrev inp (c : Dev nD) : Mat 2048 1024 := m ((c : Thread nD τ).loc main_arg0)
/-- The scale at launch. -/
abbrev scale (c : Dev nD) : Mat 1 1024 := m ((c : Thread nD τ).loc main_arg1)
/-- The gradient of the output, from the two gradients at launch. -/
abbrev grad (c : Dev nD) : Mat 2048 1024 := mixGrad (m ((c : Thread nD τ).loc main_arg3)) (m ((c : Thread nD τ).loc main_arg4))

set_option maxHeartbeats 2000000 in
/-- The gradient of the input is the chain rule's. -/
theorem back_eq (c : Dev nD) : Cert.Reference6Ideal.Value.res_main_v54 (F := Ideal) m c = inChain (inp m c) (grad m c) (scale m c) := by
  unfold Cert.Reference6Ideal.Value.res_main_v54 inp grad scale
  generalize m (c.tc.loc main_arg0) = x, m (c.tc.loc main_arg1) = g, m (c.tc.loc main_arg3) = p, m (c.tc.loc main_arg4) = q
  funext y
  idx_vars y
  pointwise [inChain, chain, midBack, varBack, minusHalf, rstd, row, scaled, mixGrad, centred, cols, eps, alpha]
  simp only [Finset.univ_unique, Finset.sum_singleton]

set_option maxHeartbeats 2000000 in
/-- The sublayer's share of it is half the chain rule's. -/
theorem half_eq (c : Dev nD) : Cert.Reference6Ideal.Value.res_main_v57 (F := Ideal) m c
    = fun y => half * inChain (inp m c) (grad m c) (scale m c) y := by
  unfold Cert.Reference6Ideal.Value.res_main_v57 inp grad scale
  generalize m (c.tc.loc main_arg0) = x, m (c.tc.loc main_arg1) = g, m (c.tc.loc main_arg3) = p, m (c.tc.loc main_arg4) = q
  funext y
  idx_vars y
  pointwise [inChain, chain, midBack, varBack, minusHalf, rstd, row, scaled, mixGrad, centred, cols, eps, alpha, half]
  simp only [Finset.univ_unique, Finset.sum_singleton]

set_option maxHeartbeats 2000000 in
/-- Where the input, the scale and the two gradients are real, the reference ends with the closed form's four gradients. -/
theorem run (hx : ∀ c, Reals (inp m c)) (hg : ∀ c, Reals (scale m c)) (hd : ∀ c, Reals (grad m c)) :
    θ_run defs (onTc (τ := τ) (main (F := Ideal))) ⟨m, fun _ => 0, ρ⟩ fun r => ∀ c : Dev nD,
      r.2.mem ((c.tc : Thread nD τ).loc main_v54) = inGrad (inp m c) (grad m c) (scale m c)
      ∧ r.2.mem ((c.tc : Thread nD τ).loc main_v57) = halfGrad (inp m c) (grad m c) (scale m c)
      ∧ r.2.mem ((c.tc : Thread nD τ).loc main_v30) = gammaGrad (inp m c) (grad m c)
      ∧ r.2.mem ((c.tc : Thread nD τ).loc main_v27) = betaGrad (grad m c)
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3)
      ∧ r.2.mem ((c.tc : Thread nD τ).loc main_arg4) = m (c.tc.loc main_arg4) := by
  refine (θ_run defs _ _).mono (fun r h c => ?_) (Cert.Reference6Ideal.Value.run m ρ)
  have e := inChain_eq (hx c) (hd c) (hg c)
  refine ⟨(h c).1.trans ((back_eq m c).trans e), (h c).2.1.trans ((half_eq m c).trans ?_), (h c).2.2.1.trans ?_, (h c).2.2.2.1.trans ?_,
    (h c).2.2.2.2⟩
  · rw [e]
    rfl
  all_goals
    clear h e
    unfold grad
    try unfold inp
    generalize m (c.tc.loc main_arg0) = x, m (c.tc.loc main_arg3) = p, m (c.tc.loc main_arg4) = q
    funext y
    idx_vars y
    pointwise [gammaGrad, betaGrad, hat, rstd, row, mixGrad, centred, cols, eps, alpha]
    try exact Finset.sum_congr rfl fun t _ => mul_comm _ _

end Cert.Reference6Ideal.Ln
-- ==== Proof.LnPre.lean ====
/- What the layer norm's precondition says: the input, the scale and the two gradients hold real numbers. -/
module

public import proofs.«01_k».proof.Defs
public import proofs.«01_k».proof.Proof.FfnPre
public import proofs.«01_k».proof.Proof.LnReal

@[expose] public section

set_option maxRecDepth 16384

noncomputable section

open Idealize.ShloMosaic Idealize.ShloMosaic.TcCoe Idealize.SL.Sem

namespace Cert.Pre_ln_finite

open Cert.Pre_ffn_finite (real_of_abs_lt)

/-- The shape relations of the precondition's program. -/
theorem facts : Cert.Pre_ln_finite.Facts where
  bcast_S_S2048x1024 := by decide
  reducesTo_S2048x1024_S_d0_1 := by decide
  h_S_ := by decide
  bcast_S_S1x1024 := by decide
  reducesTo_S1x1024_S_d0_1 := by decide

/-- Where the precondition holds, the four arrays it names are real. -/
theorem reals [Facts] (r : FVec Ideal S2048x1024 .f32) (g b : FVec Ideal S1x1024 .f32) (p q : FVec Ideal S2048x1024 .f32)
    (h : fn r g b p q = fun _ => 1#1) :
    Cert.Ffn.Reals r ∧ Cert.Ffn.Reals g ∧ Cert.Ffn.Reals p ∧ Cert.Ffn.Reals q := by
  have h0 := congrFun h ix0
  unfold fn fn_part1 at h0
  obtain ⟨h1, hq⟩ := IntOp.andi_eq_one.1 h0
  obtain ⟨h2, hp⟩ := IntOp.andi_eq_one.1 h1
  obtain ⟨hr, hg⟩ := IntOp.andi_eq_one.1 h2
  exact ⟨fun i => real_of_abs_lt (Host.reduce_andi_all _ _ _ _ _ hr i), fun i => real_of_abs_lt (Host.reduce_andi_all _ _ _ _ _ hg i),
    fun i => real_of_abs_lt (Host.reduce_andi_all _ _ _ _ _ hp i), fun i => real_of_abs_lt (Host.reduce_andi_all _ _ _ _ _ hq i)⟩

end Cert.Pre_ln_finite
-- ==== Proof.PleProdR.lean ====
/- What the five products around the gated per-layer input leave, from any contents at their entry. -/
module

public import proofs.«01_k».proof.Proof.Gen.Kernel7Ideal.Frame
public import proofs.«01_k».proof.Proof.Prods
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.PleProd

open Cert.Kernel7Ideal Cert.Kernel7Ideal.Gen Cert.Prods
open Cert.Ffn (Mat Cube)

variable (V : (c : Dev nD) → (b : Ref sig .tc) → Buf (Elt Ideal) ((c : Thread nD τ).loc b))

/-- The block every window of the per-layer input's product is on: the point's row block, the weight whole. -/
theorem idx0 : ∀ t : Fin cfg0.N, win0_0.index t = ![t.val, 0]
    ∧ win0_1.index t = ![0, 0]
    ∧ win0_2.index t = ![t.val, 0] :=
  (by decide +kernel : ∀ t : Fin grid0.N, _)

/-- Row `r` of the point's row block. -/
abbrev row0 (t : Fin cfg0.N) (r : Fin 512) : Fin 2048 :=
  ⟨t.val * 512 + r.val, by have := lt_of_lt_of_eq t.isLt (show cfg0.N = 4 from N_0); omega⟩

theorem blk0_0 (c : Dev nD) (t : Fin cfg0.N) (r : Fin 512) (k : Fin 256) :
    iblk0 V c 0 t (ix2 r k) = V c main_v1 (ix2 (row0 t r) k) := by
  blk_point [iblk0, idx0 t]

theorem blk0_1 (c : Dev nD) (t : Fin cfg0.N) (k : Fin 256) (l : Fin 1024) :
    iblk0 V c 1 t (ix2 k l) = V c main_v2 (ix2 k l) := by
  blk_point [iblk0, idx0 t]

theorem point0_2 (c : Dev nD) (t : Fin cfg0.N) (r : Fin 512) (l : Fin 1024) :
    out0_2 (F := Ideal) (iblk0 V c 0 t) (iblk0 V c 1 t) (ix2 r l)
      = prod (V c main_v1 : Mat 2048 256) (V c main_v2 : Mat 256 1024) (ix2 (row0 t r) l) := by
  unfold out0_2
  frame_out
  pointwise [k0_pay1, prod, blk0_0 V c t, blk0_1 V c t]

/-- The per-layer input's product. -/
theorem final0_2 (c : Dev nD) : (dat0 V c).arrAt 2 cfg0.N = prod (V c main_v1 : Mat 2048 256) (V c main_v2 : Mat 256 1024) := by
  refine (dat0 V c).arrAt_eq_of_covers 2 _ (by decide +kernel) fun t _ y => ?_
  blk_simp
  rw [after0_2]
  idx_vars y
  refine (point0_2 V c t y0 y1).trans (congrArg _ ?_)
  blk_ext [idx0 t]

/-- The block every window of the gate's product is on: the point's row block, the weight whole. -/
theorem idx1 : ∀ t : Fin cfg1.N, win1_0.index t = ![t.val, 0]
    ∧ win1_1.index t = ![0, 0]
    ∧ win1_2.index t = ![t.val, 0] :=
  (by decide +kernel : ∀ t : Fin grid1.N, _)

/-- Row `r` of the point's row block. -/
abbrev row1 (t : Fin cfg1.N) (r : Fin 512) : Fin 2048 :=
  ⟨t.val * 512 + r.val, by have := lt_of_lt_of_eq t.isLt (show cfg1.N = 4 from N_1); omega⟩

theorem blk1_0 (c : Dev nD) (t : Fin cfg1.N) (r : Fin 512) (k : Fin 1024) :
    iblk1 V c 0 t (ix2 r k) = V c main_v0 (ix2 (row1 t r) k) := by
  blk_point [iblk1, idx1 t]

theorem blk1_1 (c : Dev nD) (t : Fin cfg1.N) (k : Fin 1024) (l : Fin 1024) :
    iblk1 V c 1 t (ix2 k l) = V c main_v3 (ix2 k l) := by
  blk_point [iblk1, idx1 t]

theorem point1_2 (c : Dev nD) (t : Fin cfg1.N) (r : Fin 512) (l : Fin 1024) :
    out1_2 (F := Ideal) (iblk1 V c 0 t) (iblk1 V c 1 t) (ix2 r l)
      = prod (V c main_v0 : Mat 2048 1024) (V c main_v3 : Mat 1024 1024) (ix2 (row1 t r) l) := by
  unfold out1_2
  frame_out
  pointwise [k1_pay1, prod, blk1_0 V c t, blk1_1 V c t]

/-- The gate's product. -/
theorem final1_2 (c : Dev nD) : (dat1 V c).arrAt 2 cfg1.N = prod (V c main_v0 : Mat 2048 1024) (V c main_v3 : Mat 1024 1024) := by
  refine (dat1 V c).arrAt_eq_of_covers 2 _ (by decide +kernel) fun t _ y => ?_
  blk_simp
  rw [after1_2]
  idx_vars y
  refine (point1_2 V c t y0 y1).trans (congrArg _ ?_)
  blk_ext [idx1 t]

/-- The block every window of the per-layer weight's gradient is on: the point's column block. -/
theorem idx2 : ∀ t : Fin cfg2.N, win2_0.index t = ![0, 0]
    ∧ win2_1.index t = ![0, t.val]
    ∧ win2_2.index t = ![t.val, 0, 0] :=
  (by decide +kernel : ∀ t : Fin grid2.N, _)

/-- The point's column block. -/
abbrev mat2 (t : Fin cfg2.N) : Fin 8 := ⟨t.val, lt_of_lt_of_eq t.isLt (show cfg2.N = 8 from N_2)⟩

theorem blk2_0 (c : Dev nD) (t : Fin cfg2.N) (r : Fin 2048) (k : Fin 256) :
    iblk2 V c 0 t (ix2 r k) = V c main_v1 (ix2 r k) := by
  blk_point [iblk2, idx2 t]

theorem blk2_1 (c : Dev nD) (t : Fin cfg2.N) (r : Fin 2048) (l : Fin 128) :
    iblk2 V c 1 t (ix2 r l) = V c main_arg4 (ix2 r ⟨(mat2 t).val * 128 + l.val, by have := (mat2 t).isLt; omega⟩) := by
  blk_point [iblk2, idx2 t]

theorem point2_2 (c : Dev nD) (t : Fin cfg2.N) (z : Fin 1) (k : Fin 256) (l : Fin 128) :
    out2_2 (F := Ideal) (iblk2 V c 0 t) (iblk2 V c 1 t) (ix3 z k l)
      = pack 128 rfl (gram (V c main_v1 : Mat 2048 256) (V c main_arg4 : Mat 2048 1024)) (ix3 (mat2 t) k l) := by
  obtain rfl : z = 0 := Subsingleton.elim _ _
  unfold out2_2
  frame_out
  pointwise [k2_pay1, pack, gram, blk2_0 V c t, blk2_1 V c t]

/-- The per-layer weight's gradient, in eight column blocks. -/
theorem final2_2 (c : Dev nD) : (dat2 V c).arrAt 2 cfg2.N
    = pack 128 rfl (gram (V c main_v1 : Mat 2048 256) (V c main_arg4 : Mat 2048 1024)) := by
  refine (dat2 V c).arrAt_eq_of_covers 2 _ (by decide +kernel) fun t _ y => ?_
  blk_simp
  rw [after2_2]
  idx_vars y
  refine (point2_2 V c t y0 y1 y2).trans (congrArg _ ?_)
  blk_ext [idx2 t]

/-- The gate weight's gradient is one block. -/
theorem idx3 : ∀ t : Fin cfg3.N, win3_0.index t = ![0, 0]
    ∧ win3_1.index t = ![0, 0]
    ∧ win3_2.index t = ![0, 0] :=
  (by decide +kernel : ∀ t : Fin grid3.N, _)

theorem blk3_0 (c : Dev nD) (t : Fin cfg3.N) (r : Fin 2048) (k : Fin 1024) :
    iblk3 V c 0 t (ix2 r k) = V c main_v0 (ix2 r k) := by
  blk_point [iblk3, idx3 t]

theorem blk3_1 (c : Dev nD) (t : Fin cfg3.N) (r : Fin 2048) (l : Fin 1024) :
    iblk3 V c 1 t (ix2 r l) = V c main_arg5 (ix2 r l) := by
  blk_point [iblk3, idx3 t]

theorem point3_2 (c : Dev nD) (t : Fin cfg3.N) (k l : Fin 1024) :
    out3_2 (F := Ideal) (iblk3 V c 0 t) (iblk3 V c 1 t) (ix2 k l)
      = gram (V c main_v0 : Mat 2048 1024) (V c main_arg5 : Mat 2048 1024) (ix2 k l) := by
  unfold out3_2
  frame_out
  pointwise [k3_pay1, gram, blk3_0 V c t, blk3_1 V c t]

/-- The gate weight's gradient. -/
theorem final3_2 (c : Dev nD) : (dat3 V c).arrAt 2 cfg3.N = gram (V c main_v0 : Mat 2048 1024) (V c main_arg5 : Mat 2048 1024) := by
  refine (dat3 V c).arrAt_eq_of_covers 2 _ (by decide +kernel) fun t _ y => ?_
  blk_simp
  rw [after3_2]
  idx_vars y
  refine (point3_2 V c t y0 y1).trans (congrArg _ ?_)
  blk_ext [idx3 t]

/-- The block every window of the input's gradient is on: the point's row block, the weight whole. -/
theorem idx4 : ∀ t : Fin cfg4.N, win4_0.index t = ![t.val, 0]
    ∧ win4_1.index t = ![0, 0]
    ∧ win4_2.index t = ![t.val, 0] :=
  (by decide +kernel : ∀ t : Fin grid4.N, _)

/-- Row `r` of the point's row block. -/
abbrev row4 (t : Fin cfg4.N) (r : Fin 512) : Fin 2048 :=
  ⟨t.val * 512 + r.val, by have := lt_of_lt_of_eq t.isLt (show cfg4.N = 4 from N_4); omega⟩

theorem blk4_0 (c : Dev nD) (t : Fin cfg4.N) (r : Fin 512) (k : Fin 1024) :
    iblk4 V c 0 t (ix2 r k) = V c main_arg5 (ix2 (row4 t r) k) := by
  blk_point [iblk4, idx4 t]

theorem blk4_1 (c : Dev nD) (t : Fin cfg4.N) (k : Fin 1024) (l : Fin 1024) :
    iblk4 V c 1 t (ix2 k l) = V c main_v3 (ix2 k l) := by
  blk_point [iblk4, idx4 t]

theorem point4_2 (c : Dev nD) (t : Fin cfg4.N) (r : Fin 512) (l : Fin 1024) :
    out4_2 (F := Ideal) (iblk4 V c 0 t) (iblk4 V c 1 t) (ix2 r l)
      = prodT (V c main_arg5 : Mat 2048 1024) (V c main_v3 : Mat 1024 1024) (ix2 (row4 t r) l) := by
  unfold out4_2
  frame_out
  pointwise [k4_pay1, prodT, blk4_0 V c t, blk4_1 V c t]

/-- The input's gradient. -/
theorem final4_2 (c : Dev nD) : (dat4 V c).arrAt 2 cfg4.N = prodT (V c main_arg5 : Mat 2048 1024) (V c main_v3 : Mat 1024 1024) := by
  refine (dat4 V c).arrAt_eq_of_covers 2 _ (by decide +kernel) fun t _ y => ?_
  blk_simp
  rw [after4_2]
  idx_vars y
  refine (point4_2 V c t y0 y1).trans (congrArg _ ?_)
  blk_ext [idx4 t]

end Cert.Kernel7Ideal.PleProd
-- ==== Proof.PleProdRun.lean ====
/- The run of the five products around the gated per-layer input, with what it leaves in the five results. -/
module

public import proofs.«01_k».proof.Proof.PleProdR

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel7Ideal.PleProd

open Cert.Kernel7Ideal Cert.Kernel7Ideal.Gen Cert.Prods
open Cert.Ffn (Mat Cube)

local notation "𝕄" => MT nD τ sig Unit (Elt Ideal) ℕ (UR sig nD τ) ℕ

variable (m : (ℓ : Loc nD τ sig) → Buf (Elt Ideal) ℓ) (ρ : Dev nD → PrngReg)

/-- An argument's contents at launch. -/
abbrev arg (c : Dev nD) (b : Ref sig .tc) : Buf (Elt Ideal) ((c : Thread nD τ).loc b) := m ((c : Thread nD τ).loc b)

/-- What the host operations before the calls leave of the input. -/
theorem before_x (W : Valuation τ sig (Elt Ideal)) : StableHlo.after hostOps0 W (Proc.devRef .tc main_v0)
    = truncf (F := Ideal) (φ := .f32) .bf16 (W (Proc.devRef .tc main_arg0)) bitsLt_bf16_f32 := by
  after_results
  try rfl

/-- The input at the calls' entry. -/
theorem entry_x (c : Dev nD) : V1 m ρ c main_v0 = arg m c main_arg0 := before_x (W0 m ρ c)

/-- What the host operations before the calls leave of the per-layer input. -/
theorem before_p (W : Valuation τ sig (Elt Ideal)) : StableHlo.after hostOps0 W (Proc.devRef .tc main_v1)
    = truncf (F := Ideal) (φ := .f32) .bf16 (W (Proc.devRef .tc main_arg1)) bitsLt_bf16_f32 := by
  after_results
  try rfl

/-- The per-layer input at the calls' entry. -/
theorem entry_p (c : Dev nD) : V1 m ρ c main_v1 = arg m c main_arg1 := before_p (W0 m ρ c)

/-- What the host operations before the calls leave of the first weight. -/
theorem before_wi (W : Valuation τ sig (Elt Ideal)) : StableHlo.after hostOps0 W (Proc.devRef .tc main_v2)
    = truncf (F := Ideal) (φ := .f32) .bf16 (W (Proc.devRef .tc main_arg2)) bitsLt_bf16_f32 := by
  after_results
  try rfl

/-- The first weight at the calls' entry. -/
theorem entry_wi (c : Dev nD) : V1 m ρ c main_v2 = arg m c main_arg2 := before_wi (W0 m ρ c)

/-- What the host operations before the calls leave of the gate's weight. -/
theorem before_wg (W : Valuation τ sig (Elt Ideal)) : StableHlo.after hostOps0 W (Proc.devRef .tc main_v3)
    = truncf (F := Ideal) (φ := .f32) .bf16 (W (Proc.devRef .tc main_arg3)) bitsLt_bf16_f32 := by
  after_results
  try rfl

/-- The gate's weight at the calls' entry. -/
theorem entry_wg (c : Dev nD) : V1 m ρ c main_v3 = arg m c main_arg3 := before_wg (W0 m ρ c)

/-- The per-layer input's product at the end. -/
theorem end_in (c : Dev nD) : V6 m ρ c main_v4 = prod (arg m c main_arg1 : Mat 2048 256) (arg m c main_arg2 : Mat 256 1024) := by
  refine (W6_of m ρ c main_v4 (by decide)).trans ((W5_of m ρ c main_v4 (by decide)).trans ((W4_of m ρ c main_v4 (by decide)).trans
    ((W3_of m ρ c main_v4 (by decide)).trans ((hF0 m ρ c 2).symm.trans ((final0_2 (V1 m ρ) c).trans ?_)))))
  rw [entry_p, entry_wi]

/-- The gate's product at the end. -/
theorem end_gate (c : Dev nD) : V6 m ρ c main_v5 = prod (arg m c main_arg0 : Mat 2048 1024) (arg m c main_arg3 : Mat 1024 1024) := by
  refine (W6_of m ρ c main_v5 (by decide)).trans ((W5_of m ρ c main_v5 (by decide)).trans ((W4_of m ρ c main_v5 (by decide)).trans
    ((hF1 m ρ c 2).symm.trans ((final1_2 (V2 m ρ) c).trans ?_))))
  rw [show V2 m ρ c main_v0 = V1 m ρ c main_v0 from W2_of m ρ c main_v0 (by decide), entry_x,
    show V2 m ρ c main_v3 = V1 m ρ c main_v3 from W2_of m ρ c main_v3 (by decide), entry_wg]

/-- The per-layer weight's gradient at the end. -/
theorem end_inWeight (c : Dev nD) : V6 m ρ c main_v6
    = pack 128 rfl (gram (arg m c main_arg1 : Mat 2048 256) (arg m c main_arg4 : Mat 2048 1024)) := by
  refine (W6_of m ρ c main_v6 (by decide)).trans ((W5_of m ρ c main_v6 (by decide)).trans
    ((hF2 m ρ c 2).symm.trans ((final2_2 (V3 m ρ) c).trans ?_)))
  rw [show V3 m ρ c main_v1 = V1 m ρ c main_v1 from (W3_of m ρ c main_v1 (by decide)).trans (W2_of m ρ c main_v1 (by decide)), entry_p,
    show V3 m ρ c main_arg4 = arg m c main_arg4 from W3_args m ρ c main_arg4 (by decide)]

/-- The gate weight's gradient at the end. -/
theorem end_gateWeight (c : Dev nD) : V6 m ρ c main_v7 = gram (arg m c main_arg0 : Mat 2048 1024) (arg m c main_arg5 : Mat 2048 1024) := by
  refine (W6_of m ρ c main_v7 (by decide)).trans ((hF3 m ρ c 2).symm.trans ((final3_2 (V4 m ρ) c).trans ?_))
  rw [show V4 m ρ c main_v0 = V1 m ρ c main_v0 from (W4_of m ρ c main_v0 (by decide)).trans
      ((W3_of m ρ c main_v0 (by decide)).trans (W2_of m ρ c main_v0 (by decide))), entry_x,
    show V4 m ρ c main_arg5 = arg m c main_arg5 from W4_args m ρ c main_arg5 (by decide)]

/-- The input's gradient at the end. -/
theorem end_input (c : Dev nD) : V6 m ρ c main_v8 = prodT (arg m c main_arg5 : Mat 2048 1024) (arg m c main_arg3 : Mat 1024 1024) := by
  refine (hF4 m ρ c 2).symm.trans ((final4_2 (V5 m ρ) c).trans ?_)
  rw [show V5 m ρ c main_v3 = V1 m ρ c main_v3 from (W5_of m ρ c main_v3 (by decide)).trans ((W4_of m ρ c main_v3 (by decide)).trans
      ((W3_of m ρ c main_v3 (by decide)).trans (W2_of m ρ c main_v3 (by decide)))), entry_wg,
    show V5 m ρ c main_arg5 = arg m c main_arg5 from W5_args m ρ c main_arg5 (by decide)]

set_option backward.isDefEq.respectTransparency.types false in
/-- Every execution ends with each unscoped buffer at the contents the six stretches of the program compute. -/
theorem ends : θ_run defs (onTc (τ := τ) (main (F := Ideal))) ⟨m, fun _ => 0, ρ⟩ (fun r => ∀ c : Dev nD,
      ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- Every execution ends with the two products and their three gradients from the arguments, the arguments as launched. -/
theorem run : θ_run defs (onTc (τ := τ) (main (F := Ideal))) ⟨m, fun _ => 0, ρ⟩ (fun r => ∀ c : Dev nD,
      r.2.mem ((c.tc : Thread nD τ).loc main_v4) = prod (arg m c main_arg1 : Mat 2048 256) (arg m c main_arg2 : Mat 256 1024)
      ∧ r.2.mem ((c.tc : Thread nD τ).loc main_v5) = prod (arg m c main_arg0 : Mat 2048 1024) (arg m c main_arg3 : Mat 1024 1024)
      ∧ r.2.mem ((c.tc : Thread nD τ).loc main_v8) = prodT (arg m c main_arg5 : Mat 2048 1024) (arg m c main_arg3 : Mat 1024 1024)
      ∧ r.2.mem ((c.tc : Thread nD τ).loc main_v6) = pack 128 rfl (gram (arg m c main_arg1 : Mat 2048 256) (arg m c main_arg4 : Mat 2048 1024))
      ∧ r.2.mem ((c.tc : Thread nD τ).loc main_v7) = gram (arg m c main_arg0 : Mat 2048 1024) (arg m c main_arg5 : Mat 2048 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_v4 (by decide))).trans (end_in m ρ c),
     (h c _ (mem_uc main_v5 (by decide))).trans (end_gate m ρ c),
     (h c _ (mem_uc main_v8 (by decide))).trans (end_input m ρ c),
     (h c _ (mem_uc main_v6 (by decide))).trans (end_inWeight m ρ c),
     (h c _ (mem_uc main_v7 (by decide))).trans (end_gateWeight m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (ends m ρ)

end Cert.Kernel7Ideal.PleProd
-- ==== Proof.PleProdRef.lean ====
/- What the plainly written products around the gated per-layer input and their gradients compute, index by index. -/
module

public import proofs.«01_k».proof.Proof.Gen.Reference7Ideal.Run
public import proofs.«01_k».proof.Proof.Prods
public import Idealize.ShloMosaic.Lib.Pipeline.ValueKit

@[expose] public section

set_option maxRecDepth 16384

noncomputable section

open Idealize.ShloMosaic Idealize.ShloMosaic.TcCoe Idealize.SL.Sem
open scoped BigOperators

namespace Cert.Reference7Ideal.PleProd

open Cert.Reference7Ideal Cert.Reference7Ideal.Gen Cert.Prods
open Cert.Ffn (Mat Cube)

variable (m : (ℓ : Loc nD τ sig) → Buf (Elt Ideal) ℓ) (ρ : Dev nD → PrngReg)

/-- An argument's contents at launch. -/
abbrev arg (c : Dev nD) (b : Ref sig .tc) : Buf (Elt Ideal) ((c : Thread nD τ).loc b) := m ((c : Thread nD τ).loc b)

/-- The reference ends with the two products and their three gradients, the arguments as launched. -/
theorem run : θ_run defs (onTc (τ := τ) (main (F := Ideal))) ⟨m, fun _ => 0, ρ⟩ fun r => ∀ c : Dev nD,
      r.2.mem ((c.tc : Thread nD τ).loc main_v0) = prod (arg m c main_arg1 : Mat 2048 256) (arg m c main_arg2 : Mat 256 1024)
      ∧ r.2.mem ((c.tc : Thread nD τ).loc main_v1) = prod (arg m c main_arg0 : Mat 2048 1024) (arg m c main_arg3 : Mat 1024 1024)
      ∧ r.2.mem ((c.tc : Thread nD τ).loc main_v6) = prodT (arg m c main_arg5 : Mat 2048 1024) (arg m c main_arg3 : Mat 1024 1024)
      ∧ r.2.mem ((c.tc : Thread nD τ).loc main_v10) = pack 128 rfl (gram (arg m c main_arg1 : Mat 2048 256) (arg m c main_arg4 : Mat 2048 1024))
      ∧ r.2.mem ((c.tc : Thread nD τ).loc main_v5) = gram (arg m c main_arg0 : Mat 2048 1024) (arg m c main_arg5 : Mat 2048 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Reference7Ideal.Value.run m ρ)
  refine ⟨(h c).1.trans ?_, (h c).2.1.trans ?_, (h c).2.2.1.trans ?_, (h c).2.2.2.1.trans ?_, (h c).2.2.2.2.1.trans ?_,
      (h c).2.2.2.2.2⟩ <;> clear h <;> unfold arg <;>
    generalize m (c.tc.loc main_arg0) = x, m (c.tc.loc main_arg1) = p, m (c.tc.loc main_arg2) = wi, m (c.tc.loc main_arg3) = wg,
      m (c.tc.loc main_arg4) = de, m (c.tc.loc main_arg5) = dq <;> funext y <;> idx_vars y
  · pointwise [prod]
  · pointwise [prod]
  · pointwise [prodT]
  · pointwise [pack, gram]
    exact Finset.sum_congr rfl fun t _ => mul_comm _ _
  · pointwise [gram]
    exact Finset.sum_congr rfl fun t _ => mul_comm _ _

end Cert.Reference7Ideal.PleProd
-- ==== Proof.SsmSpec.lean ====
/- The products in four column blocks around the state space scan, and the activation after it, index by index over the extended reals. -/
module

public import proofs.«01_k».proof.Proof.FfnSpec

@[expose] public section

noncomputable section

open Idealize.ShloMosaic Idealize.SL.Sem
open scoped BigOperators

namespace Cert.Ssm

open Cert.Ffn (Mat Cube)

/-- The column block of a column of a 512-column matrix cut into four. -/
abbrev blockOf (j : Fin 512) : Fin 4 := ⟨j.val / 128, by omega⟩

/-- A column's place within its block. -/
abbrev within (j : Fin 512) : Fin 128 := ⟨j.val % 128, by omega⟩

/-- A state's column among all, from its block and its place there. -/
abbrev stateCol (b : Fin 4) (k : Fin 1024) : Fin 4096 := ⟨b.val * 1024 + k.val, by omega⟩

/-- A channel's column among all, from its block and its place there. -/
abbrev chanCol (b : Fin 4) (w : Fin 128) : Fin 512 := ⟨b.val * 128 + w.val, by omega⟩

/-- The states times the transpose of the weight of their block, block by block. -/
def fromStates (s : Mat 2048 4096) (w : Cube 4 128 1024) : Mat 2048 512 := fun y =>
  ∑ k : Fin 1024, s (ix2 (y 0) (stateCol (blockOf (y 1)) k)) * w (ix3 (blockOf (y 1)) (within (y 1)) k)

/-- `fromStates` at a column given by its block and its place there. -/
theorem fromStates_at (s : Mat 2048 4096) (w : Cube 4 128 1024) (i : Fin 2048) (b : Fin 4) (l : Fin 128) :
    fromStates s w (ix2 i (chanCol b l)) = ∑ k : Fin 1024, s (ix2 i (stateCol b k)) * w (ix3 b l k) := by
  have hb : blockOf (chanCol b l) = b := Fin.ext (show (b.val * 128 + l.val) / 128 = b.val by omega)
  have hl : within (chanCol b l) = l := Fin.ext (show (b.val * 128 + l.val) % 128 = l.val by omega)
  show ∑ k : Fin 1024, s (ix2 i (stateCol (blockOf (chanCol b l)) k)) * w (ix3 (blockOf (chanCol b l)) (within (chanCol b l)) k) = _
  rw [hb, hl]

/-- The gradient of a block weight: the transpose of the block's channels times the block's states. -/
def weightGram (u : Mat 2048 512) (h : Mat 2048 4096) : Cube 4 128 1024 := fun y =>
  ∑ t : Fin 2048, u (ix2 t (chanCol (y 0) (y 1))) * h (ix2 t (stateCol (y 0) (y 2)))

/-- The scan's own columns of the projection. -/
def inputs (p : Mat 2048 4096) : Mat 2048 512 := fun y => p (ix2 (y 0) ⟨1536 + (y 1).val, by have : (y 1).val < 512 := (y 1).isLt; omega⟩)

/-- A matrix with a direct term added: a row of weights, times another matrix. -/
def direct (a : Mat 2048 512) (d : Mat 1 512) (u : Mat 2048 512) : Mat 2048 512 := fun y => a y + d (ix2 0 (y 1)) * u y

/-- The output read from the states, with the direct term. -/
def output (p : Mat 2048 4096) (s : Mat 2048 4096) (c : Cube 4 128 1024) (d : Mat 1 512) : Mat 2048 512 :=
  direct (fromStates s c) d (inputs p)

/-- The activation, by its approximation with the hyperbolic tangent. -/
def gelu (v : EReal) : EReal :=
  Ideal.ofBits .f32 0x3F000000#32 * v * (Ideal.ofBits .f32 0x3F800000#32
    + Ideal.tanh (Ideal.ofBits .f32 0x3F4C422A#32 * (v + Ideal.ofBits .f32 0x3D372713#32 * v * v * v)))

/-- The activation of every element of a matrix. -/
def active (a : Mat 2048 512) : Mat 2048 512 := fun y => gelu (a y)

/-- The input's gradient: through what it writes to the states and through the direct term. -/
def inputGrad (h : Mat 2048 4096) (b : Cube 4 128 1024) (d : Mat 1 512) (dy : Mat 2048 512) : Mat 2048 512 :=
  direct (fromStates h b) d dy

end Cert.Ssm
-- ==== Proof.SsmR.lean ====
/- What the calls around the state space scan leave, from any contents at their entry. -/
module

public import proofs.«01_k».proof.Proof.Gen.Kernel8Ideal.Frame
public import proofs.«01_k».proof.Proof.SsmSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Ssm

open Cert.Kernel8Ideal Cert.Kernel8Ideal.Gen Cert.Ssm
open Cert.Ffn (Mat Cube)

variable (V : (c : Dev nD) → (b : Ref sig .tc) → Buf (Elt Ideal) ((c : Thread nD τ).loc b))

/-- The block every window of the read product is on: a column block, and within it a row block. -/
theorem idx0 : ∀ t : Fin cfg0.N, win0_0.index t = ![t.val % 4, t.val / 4]
    ∧ win0_1.index t = ![t.val / 4, 0, 0]
    ∧ win0_2.index t = ![t.val % 4, t.val / 4] :=
  (by decide +kernel : ∀ t : Fin grid0.N, _)

/-- Row `r` of the point's row block. -/
abbrev row0 (t : Fin cfg0.N) (r : Fin 512) : Fin 2048 := ⟨t.val % 4 * 512 + r.val, by omega⟩

/-- The point's column block. -/
abbrev mat0 (t : Fin cfg0.N) : Fin 4 := ⟨t.val / 4, by have := lt_of_lt_of_eq t.isLt (show cfg0.N = 16 from N_0); omega⟩

theorem blk0_0 (c : Dev nD) (t : Fin cfg0.N) (r : Fin 512) (k : Fin 1024) :
    iblk0 V c 0 t (ix2 r k) = V c main_arg1 (ix2 (row0 t r) (stateCol (mat0 t) k)) := by
  blk_point [iblk0, idx0 t]

theorem blk0_1 (c : Dev nD) (t : Fin cfg0.N) (z : Fin 1) (l : Fin 128) (k : Fin 1024) :
    iblk0 V c 1 t (ix3 z l k) = V c main_arg2 (ix3 (mat0 t) l k) := by
  obtain rfl : z = 0 := Subsingleton.elim _ _
  blk_point [iblk0, idx0 t]

theorem point0_2 (c : Dev nD) (t : Fin cfg0.N) (r : Fin 512) (l : Fin 128) :
    out0_2 (F := Ideal) (iblk0 V c 0 t) (iblk0 V c 1 t) (ix2 r l)
      = fromStates (V c main_arg1 : Mat 2048 4096) (V c main_arg2 : Cube 4 128 1024) (ix2 (row0 t r) (chanCol (mat0 t) l)) := by
  rw [fromStates_at]
  unfold out0_2
  frame_out
  pointwise [k0_pay1, blk0_0 V c t, blk0_1 V c t]

/-- The output read from the states. -/
theorem final0_2 (c : Dev nD) : (dat0 V c).arrAt 2 cfg0.N = fromStates (V c main_arg1 : Mat 2048 4096) (V c main_arg2 : Cube 4 128 1024) := by
  refine (dat0 V c).arrAt_eq_of_covers 2 _ (by decide +kernel) fun t _ y => ?_
  blk_simp
  rw [after0_2]
  idx_vars y
  refine (point0_2 V c t y0 y1).trans (congrArg _ ?_)
  blk_ext [idx0 t]

/-- The block every window of the direct term's call is on: the point's row block. -/
theorem idx1 : ∀ t : Fin cfg1.N, win1_0.index t = ![t.val, 0]
    ∧ win1_1.index t = ![t.val, 3]
    ∧ win1_2.index t = ![0, 0]
    ∧ win1_3.index t = ![t.val, 0]
    ∧ win1_4.index t = ![t.val, 0]
    ∧ win1_5.index t = ![t.val, 0] :=
  (by decide +kernel : ∀ t : Fin grid1.N, _)

/-- Row `r` of the point's row block. -/
abbrev row1 (t : Fin cfg1.N) (r : Fin 512) : Fin 2048 :=
  ⟨t.val * 512 + r.val, by have := lt_of_lt_of_eq t.isLt (show cfg1.N = 4 from N_1); omega⟩

theorem blk1_0 (c : Dev nD) (t : Fin cfg1.N) (r l : Fin 512) :
    iblk1 V c 0 t (ix2 r l) = V c main_v1 (ix2 (row1 t r) l) := by
  blk_point [iblk1, idx1 t]

theorem blk1_1 (c : Dev nD) (t : Fin cfg1.N) (r l : Fin 512) :
    iblk1 V c 1 t (ix2 r l) = V c main_arg0 (ix2 (row1 t r) ⟨1536 + l.val, by omega⟩) := by
  blk_point [iblk1, idx1 t]

theorem blk1_2 (c : Dev nD) (t : Fin cfg1.N) (z : Fin 1) (l : Fin 512) :
    iblk1 V c 2 t (ix2 z l) = V c main_arg4 (ix2 0 l) := by
  obtain rfl : z = 0 := Subsingleton.elim _ _
  blk_point [iblk1, idx1 t]

/-- The value stored for the output at an index. -/
theorem pay1 (c : Dev nD) (t : Fin cfg1.N) (r l : Fin 512) :
    k1_pay1 (F := Ideal) (iblk1 V c 1 t) (iblk1 V c 0 t) (iblk1 V c 2 t) (ix2 r l)
      = direct (V c main_v1 : Mat 2048 512) (V c main_arg4 : Mat 1 512) (inputs (V c main_arg0 : Mat 2048 4096)) (ix2 (row1 t r) l) := by
  pointwise [k1_pay1, direct, inputs, blk1_0 V c t, blk1_1 V c t, blk1_2 V c t]

theorem point1_3 (c : Dev nD) (t : Fin cfg1.N) (r l : Fin 512) :
    out1_3 (F := Ideal) (iblk1 V c 0 t) (iblk1 V c 1 t) (iblk1 V c 2 t) (ix2 r l)
      = direct (V c main_v1 : Mat 2048 512) (V c main_arg4 : Mat 1 512) (inputs (V c main_arg0 : Mat 2048 4096)) (ix2 (row1 t r) l) := by
  unfold out1_3
  frame_out
  exact pay1 V c t r l

theorem point1_4 (c : Dev nD) (t : Fin cfg1.N) (r l : Fin 512) :
    out1_4 (F := Ideal) (iblk1 V c 0 t) (iblk1 V c 1 t) (iblk1 V c 2 t) (ix2 r l)
      = active (direct (V c main_v1 : Mat 2048 512) (V c main_arg4 : Mat 1 512) (inputs (V c main_arg0 : Mat 2048 4096))) (ix2 (row1 t r) l) := by
  unfold out1_4
  frame_out
  unfold active
  rw [← pay1 V c t r l]
  pointwise [k1_pay2, gelu]

theorem point1_5 (c : Dev nD) (t : Fin cfg1.N) (r l : Fin 512) :
    out1_5 (F := Ideal) (iblk1 V c 0 t) (iblk1 V c 1 t) (iblk1 V c 2 t) (ix2 r l)
      = inputs (V c main_arg0 : Mat 2048 4096) (ix2 (row1 t r) l) := by
  unfold out1_5
  frame_out
  pointwise [k1_pay3, inputs, blk1_1 V c t]

/-- The output, with the direct term. -/
theorem final1_3 (c : Dev nD) : (dat1 V c).arrAt 3 cfg1.N
    = direct (V c main_v1 : Mat 2048 512) (V c main_arg4 : Mat 1 512) (inputs (V c main_arg0 : Mat 2048 4096)) := by
  refine (dat1 V c).arrAt_eq_of_covers 3 _ (by decide +kernel) fun t _ y => ?_
  blk_simp
  rw [after1_3]
  idx_vars y
  refine (point1_3 V c t y0 y1).trans (congrArg _ ?_)
  blk_ext [idx1 t]

/-- The output's activation. -/
theorem final1_4 (c : Dev nD) : (dat1 V c).arrAt 4 cfg1.N
    = active (direct (V c main_v1 : Mat 2048 512) (V c main_arg4 : Mat 1 512) (inputs (V c main_arg0 : Mat 2048 4096))) := by
  refine (dat1 V c).arrAt_eq_of_covers 4 _ (by decide +kernel) fun t _ y => ?_
  blk_simp
  rw [after1_4]
  idx_vars y
  refine (point1_4 V c t y0 y1).trans (congrArg _ ?_)
  blk_ext [idx1 t]

/-- The scan's own columns of the projection. -/
theorem final1_5 (c : Dev nD) : (dat1 V c).arrAt 5 cfg1.N = inputs (V c main_arg0 : Mat 2048 4096) := by
  refine (dat1 V c).arrAt_eq_of_covers 5 _ (by decide +kernel) fun t _ y => ?_
  blk_simp
  rw [after1_5]
  idx_vars y
  refine (point1_5 V c t y0 y1).trans (congrArg _ ?_)
  blk_ext [idx1 t]

/-- The block every window of the written states' product is on: a column block, and within it a row block. -/
theorem idx2 : ∀ t : Fin cfg2.N, win2_0.index t = ![t.val % 4, t.val / 4]
    ∧ win2_1.index t = ![t.val / 4, 0, 0]
    ∧ win2_2.index t = ![t.val % 4, t.val / 4] :=
  (by decide +kernel : ∀ t : Fin grid2.N, _)

/-- Row `r` of the point's row block. -/
abbrev row2 (t : Fin cfg2.N) (r : Fin 512) : Fin 2048 := ⟨t.val % 4 * 512 + r.val, by omega⟩

/-- The point's column block. -/
abbrev mat2 (t : Fin cfg2.N) : Fin 4 := ⟨t.val / 4, by have := lt_of_lt_of_eq t.isLt (show cfg2.N = 16 from N_2); omega⟩

theorem blk2_0 (c : Dev nD) (t : Fin cfg2.N) (r : Fin 512) (k : Fin 1024) :
    iblk2 V c 0 t (ix2 r k) = V c main_arg6 (ix2 (row2 t r) (stateCol (mat2 t) k)) := by
  blk_point [iblk2, idx2 t]

theorem blk2_1 (c : Dev nD) (t : Fin cfg2.N) (z : Fin 1) (l : Fin 128) (k : Fin 1024) :
    iblk2 V c 1 t (ix3 z l k) = V c main_arg3 (ix3 (mat2 t) l k) := by
  obtain rfl : z = 0 := Subsingleton.elim _ _
  blk_point [iblk2, idx2 t]

theorem point2_2 (c : Dev nD) (t : Fin cfg2.N) (r : Fin 512) (l : Fin 128) :
    out2_2 (F := Ideal) (iblk2 V c 0 t) (iblk2 V c 1 t) (ix2 r l)
      = fromStates (V c main_arg6 : Mat 2048 4096) (V c main_arg3 : Cube 4 128 1024) (ix2 (row2 t r) (chanCol (mat2 t) l)) := by
  rw [fromStates_at]
  unfold out2_2
  frame_out
  pointwise [k2_pay1, blk2_0 V c t, blk2_1 V c t]

/-- The gradient through what the input writes to the states. -/
theorem final2_2 (c : Dev nD) : (dat2 V c).arrAt 2 cfg2.N = fromStates (V c main_arg6 : Mat 2048 4096) (V c main_arg3 : Cube 4 128 1024) := by
  refine (dat2 V c).arrAt_eq_of_covers 2 _ (by decide +kernel) fun t _ y => ?_
  blk_simp
  rw [after2_2]
  idx_vars y
  refine (point2_2 V c t y0 y1).trans (congrArg _ ?_)
  blk_ext [idx2 t]

/-- The block every window of the input gradient's call is on: the point's row block. -/
theorem idx3 : ∀ t : Fin cfg3.N, win3_0.index t = ![t.val, 0]
    ∧ win3_1.index t = ![t.val, 0]
    ∧ win3_2.index t = ![0, 0]
    ∧ win3_3.index t = ![t.val, 0] :=
  (by decide +kernel : ∀ t : Fin grid3.N, _)

/-- Row `r` of the point's row block. -/
abbrev row3 (t : Fin cfg3.N) (r : Fin 512) : Fin 2048 :=
  ⟨t.val * 512 + r.val, by have := lt_of_lt_of_eq t.isLt (show cfg3.N = 4 from N_3); omega⟩

theorem blk3_0 (c : Dev nD) (t : Fin cfg3.N) (r l : Fin 512) :
    iblk3 V c 0 t (ix2 r l) = V c main_v3 (ix2 (row3 t r) l) := by
  blk_point [iblk3, idx3 t]

theorem blk3_1 (c : Dev nD) (t : Fin cfg3.N) (r l : Fin 512) :
    iblk3 V c 1 t (ix2 r l) = V c main_arg5 (ix2 (row3 t r) l) := by
  blk_point [iblk3, idx3 t]

theorem blk3_2 (c : Dev nD) (t : Fin cfg3.N) (z : Fin 1) (l : Fin 512) :
    iblk3 V c 2 t (ix2 z l) = V c main_arg4 (ix2 0 l) := by
  obtain rfl : z = 0 := Subsingleton.elim _ _
  blk_point [iblk3, idx3 t]

theorem point3_3 (c : Dev nD) (t : Fin cfg3.N) (r l : Fin 512) :
    out3_3 (F := Ideal) (iblk3 V c 0 t) (iblk3 V c 1 t) (iblk3 V c 2 t) (ix2 r l)
      = direct (V c main_v3 : Mat 2048 512) (V c main_arg4 : Mat 1 512) (V c main_arg5 : Mat 2048 512) (ix2 (row3 t r) l) := by
  unfold out3_3
  frame_out
  pointwise [k3_pay1, direct, blk3_0 V c t, blk3_1 V c t, blk3_2 V c t]

/-- The input's gradient. -/
theorem final3_3 (c : Dev nD) : (dat3 V c).arrAt 3 cfg3.N
    = direct (V c main_v3 : Mat 2048 512) (V c main_arg4 : Mat 1 512) (V c main_arg5 : Mat 2048 512) := by
  refine (dat3 V c).arrAt_eq_of_covers 3 _ (by decide +kernel) fun t _ y => ?_
  blk_simp
  rw [after3_3]
  idx_vars y
  refine (point3_3 V c t y0 y1).trans (congrArg _ ?_)
  blk_ext [idx3 t]

/-- The block every window of the first weight's gradient is on: the point's column block. -/
theorem idx4 : ∀ t : Fin cfg4.N, win4_0.index t = ![0, t.val]
    ∧ win4_1.index t = ![0, t.val]
    ∧ win4_2.index t = ![t.val, 0, 0] :=
  (by decide +kernel : ∀ t : Fin grid4.N, _)

/-- The point's column block. -/
abbrev mat4 (t : Fin cfg4.N) : Fin 4 := ⟨t.val, lt_of_lt_of_eq t.isLt (show cfg4.N = 4 from N_4)⟩

theorem blk4_0 (c : Dev nD) (t : Fin cfg4.N) (r : Fin 2048) (l : Fin 128) :
    iblk4 V c 0 t (ix2 r l) = V c main_v2_2 (ix2 r (chanCol (mat4 t) l)) := by
  blk_point [iblk4, idx4 t]

theorem blk4_1 (c : Dev nD) (t : Fin cfg4.N) (r : Fin 2048) (k : Fin 1024) :
    iblk4 V c 1 t (ix2 r k) = V c main_arg6 (ix2 r (stateCol (mat4 t) k)) := by
  blk_point [iblk4, idx4 t]

theorem point4_2 (c : Dev nD) (t : Fin cfg4.N) (z : Fin 1) (l : Fin 128) (k : Fin 1024) :
    out4_2 (F := Ideal) (iblk4 V c 0 t) (iblk4 V c 1 t) (ix3 z l k)
      = weightGram (V c main_v2_2 : Mat 2048 512) (V c main_arg6 : Mat 2048 4096) (ix3 (mat4 t) l k) := by
  obtain rfl : z = 0 := Subsingleton.elim _ _
  unfold out4_2
  frame_out
  pointwise [k4_pay1, weightGram, blk4_0 V c t, blk4_1 V c t]

/-- The gradient of the weight that writes to the states. -/
theorem final4_2 (c : Dev nD) : (dat4 V c).arrAt 2 cfg4.N = weightGram (V c main_v2_2 : Mat 2048 512) (V c main_arg6 : Mat 2048 4096) := by
  refine (dat4 V c).arrAt_eq_of_covers 2 _ (by decide +kernel) fun t _ y => ?_
  blk_simp
  rw [after4_2]
  idx_vars y
  refine (point4_2 V c t y0 y1 y2).trans (congrArg _ ?_)
  blk_ext [idx4 t]

/-- The block every window of the second weight's gradient is on: the point's column block. -/
theorem idx5 : ∀ t : Fin cfg5.N, win5_0.index t = ![0, t.val]
    ∧ win5_1.index t = ![0, t.val]
    ∧ win5_2.index t = ![t.val, 0, 0] :=
  (by decide +kernel : ∀ t : Fin grid5.N, _)

/-- The point's column block. -/
abbrev mat5 (t : Fin cfg5.N) : Fin 4 := ⟨t.val, lt_of_lt_of_eq t.isLt (show cfg5.N = 4 from N_5)⟩

theorem blk5_0 (c : Dev nD) (t : Fin cfg5.N) (r : Fin 2048) (l : Fin 128) :
    iblk5 V c 0 t (ix2 r l) = V c main_v0 (ix2 r (chanCol (mat5 t) l)) := by
  blk_point [iblk5, idx5 t]

theorem blk5_1 (c : Dev nD) (t : Fin cfg5.N) (r : Fin 2048) (k : Fin 1024) :
    iblk5 V c 1 t (ix2 r k) = V c main_arg1 (ix2 r (stateCol (mat5 t) k)) := by
  blk_point [iblk5, idx5 t]

theorem point5_2 (c : Dev nD) (t : Fin cfg5.N) (z : Fin 1) (l : Fin 128) (k : Fin 1024) :
    out5_2 (F := Ideal) (iblk5 V c 0 t) (iblk5 V c 1 t) (ix3 z l k)
      = weightGram (V c main_v0 : Mat 2048 512) (V c main_arg1 : Mat 2048 4096) (ix3 (mat5 t) l k) := by
  obtain rfl : z = 0 := Subsingleton.elim _ _
  unfold out5_2
  frame_out
  pointwise [k5_pay1, weightGram, blk5_0 V c t, blk5_1 V c t]

/-- The gradient of the weight that reads from the states. -/
theorem final5_2 (c : Dev nD) : (dat5 V c).arrAt 2 cfg5.N = weightGram (V c main_v0 : Mat 2048 512) (V c main_arg1 : Mat 2048 4096) := by
  refine (dat5 V c).arrAt_eq_of_covers 2 _ (by decide +kernel) fun t _ y => ?_
  blk_simp
  rw [after5_2]
  idx_vars y
  refine (point5_2 V c t y0 y1 y2).trans (congrArg _ ?_)
  blk_ext [idx5 t]

end Cert.Kernel8Ideal.Ssm
-- ==== Proof.SsmRun.lean ====
/- The run of the calls around the state space scan, with what it leaves in its five results. -/
module

public import proofs.«01_k».proof.Proof.SsmR

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel8Ideal.Ssm

open Cert.Kernel8Ideal Cert.Kernel8Ideal.Gen Cert.Ssm
open Cert.Ffn (Mat Cube)

local notation "𝕄" => MT nD τ sig Unit (Elt Ideal) ℕ (UR sig nD τ) ℕ

variable (m : (ℓ : Loc nD τ sig) → Buf (Elt Ideal) ℓ) (ρ : Dev nD → PrngReg)

/-- An argument's contents at launch. -/
abbrev arg (c : Dev nD) (b : Ref sig .tc) : Buf (Elt Ideal) ((c : Thread nD τ).loc b) := m ((c : Thread nD τ).loc b)

/-- What the host operation before the calls leaves: the output's gradient. -/
theorem before_dy (W : Valuation τ sig (Elt Ideal)) : StableHlo.after hostOps0 W (Proc.devRef .tc main_v0)
    = truncf (F := Ideal) (φ := .f32) .bf16 (W (Proc.devRef .tc main_arg5)) bitsLt_bf16_f32 := by
  after_results
  try rfl

/-- The output's gradient at the calls' entry. -/
theorem entry_dy (c : Dev nD) : V1 m ρ c main_v0 = arg m c main_arg5 := before_dy (W0 m ρ c)

/-- What the first call reads from the states. -/
theorem mid_read (c : Dev nD) : V2 m ρ c main_v1 = fromStates (arg m c main_arg1 : Mat 2048 4096) (arg m c main_arg2 : Cube 4 128 1024) := by
  refine (hF0 m ρ c 2).symm.trans ((final0_2 (V1 m ρ) c).trans ?_)
  rw [show V1 m ρ c main_arg1 = arg m c main_arg1 from W1_args m ρ c main_arg1 (by decide),
    show V1 m ρ c main_arg2 = arg m c main_arg2 from W1_args m ρ c main_arg2 (by decide)]

/-- The output at the end. -/
theorem end_out (c : Dev nD) : V7 m ρ c main_v2_0 = output (arg m c main_arg0 : Mat 2048 4096) (arg m c main_arg1 : Mat 2048 4096)
    (arg m c main_arg2 : Cube 4 128 1024) (arg m c main_arg4 : Mat 1 512) := by
  refine (W7_of m ρ c main_v2_0 (by decide)).trans ((W6_of m ρ c main_v2_0 (by decide)).trans ((W5_of m ρ c main_v2_0 (by decide)).trans
    ((W4_of m ρ c main_v2_0 (by decide)).trans ((hF1 m ρ c 3).symm.trans ((final1_3 (V2 m ρ) c).trans ?_)))))
  rw [mid_read, show V2 m ρ c main_arg4 = arg m c main_arg4 from W2_args m ρ c main_arg4 (by decide),
    show V2 m ρ c main_arg0 = arg m c main_arg0 from W2_args m ρ c main_arg0 (by decide)]
  rfl

/-- The output's activation at the end. -/
theorem end_active (c : Dev nD) : V7 m ρ c main_v2_1 = active (output (arg m c main_arg0 : Mat 2048 4096) (arg m c main_arg1 : Mat 2048 4096)
    (arg m c main_arg2 : Cube 4 128 1024) (arg m c main_arg4 : Mat 1 512)) := by
  refine (W7_of m ρ c main_v2_1 (by decide)).trans ((W6_of m ρ c main_v2_1 (by decide)).trans ((W5_of m ρ c main_v2_1 (by decide)).trans
    ((W4_of m ρ c main_v2_1 (by decide)).trans ((hF1 m ρ c 4).symm.trans ((final1_4 (V2 m ρ) c).trans ?_)))))
  rw [mid_read, show V2 m ρ c main_arg4 = arg m c main_arg4 from W2_args m ρ c main_arg4 (by decide),
    show V2 m ρ c main_arg0 = arg m c main_arg0 from W2_args m ρ c main_arg0 (by decide)]
  rfl

/-- The scan's own columns of the projection, as the second call copies them. -/
theorem mid_inputs (c : Dev nD) : V5 m ρ c main_v2_2 = inputs (arg m c main_arg0 : Mat 2048 4096) := by
  refine (W5_of m ρ c main_v2_2 (by decide)).trans ((W4_of m ρ c main_v2_2 (by decide)).trans
    ((hF1 m ρ c 5).symm.trans ((final1_5 (V2 m ρ) c).trans ?_)))
  rw [show V2 m ρ c main_arg0 = arg m c main_arg0 from W2_args m ρ c main_arg0 (by decide)]

/-- The gradient through what the input writes to the states. -/
theorem mid_write (c : Dev nD) : V4 m ρ c main_v3 = fromStates (arg m c main_arg6 : Mat 2048 4096) (arg m c main_arg3 : Cube 4 128 1024) := by
  refine (hF2 m ρ c 2).symm.trans ((final2_2 (V3 m ρ) c).trans ?_)
  rw [show V3 m ρ c main_arg6 = arg m c main_arg6 from W3_args m ρ c main_arg6 (by decide),
    show V3 m ρ c main_arg3 = arg m c main_arg3 from W3_args m ρ c main_arg3 (by decide)]

/-- The input's gradient at the end. -/
theorem end_input (c : Dev nD) : V7 m ρ c main_v4 = inputGrad (arg m c main_arg6 : Mat 2048 4096) (arg m c main_arg3 : Cube 4 128 1024)
    (arg m c main_arg4 : Mat 1 512) (arg m c main_arg5 : Mat 2048 512) := by
  refine (W7_of m ρ c main_v4 (by decide)).trans ((W6_of m ρ c main_v4 (by decide)).trans
    ((hF3 m ρ c 3).symm.trans ((final3_3 (V4 m ρ) c).trans ?_)))
  rw [mid_write, show V4 m ρ c main_arg4 = arg m c main_arg4 from W4_args m ρ c main_arg4 (by decide),
    show V4 m ρ c main_arg5 = arg m c main_arg5 from W4_args m ρ c main_arg5 (by decide)]
  rfl

/-- The gradient of the weight that writes to the states, at the end. -/
theorem end_writeWeight (c : Dev nD) : V7 m ρ c main_v5
    = weightGram (inputs (arg m c main_arg0 : Mat 2048 4096)) (arg m c main_arg6 : Mat 2048 4096) := by
  refine (W7_of m ρ c main_v5 (by decide)).trans ((hF4 m ρ c 2).symm.trans ((final4_2 (V5 m ρ) c).trans ?_))
  rw [mid_inputs, show V5 m ρ c main_arg6 = arg m c main_arg6 from W5_args m ρ c main_arg6 (by decide)]

/-- The gradient of the weight that reads from the states, at the end. -/
theorem end_readWeight (c : Dev nD) : V7 m ρ c main_v6
    = weightGram (arg m c main_arg5 : Mat 2048 512) (arg m c main_arg1 : Mat 2048 4096) := by
  refine (hF5 m ρ c 2).symm.trans ((final5_2 (V6 m ρ) c).trans ?_)
  rw [show V6 m ρ c main_v0 = V1 m ρ c main_v0 from (W6_of m ρ c main_v0 (by decide)).trans ((W5_of m ρ c main_v0 (by decide)).trans
      ((W4_of m ρ c main_v0 (by decide)).trans ((W3_of m ρ c main_v0 (by decide)).trans (W2_of m ρ c main_v0 (by decide))))), entry_dy,
    show V6 m ρ c main_arg1 = arg m c main_arg1 from W6_args m ρ c main_arg1 (by decide)]

set_option backward.isDefEq.respectTransparency.types false in
/-- Every execution ends with each unscoped buffer at the contents the seven stretches of the program compute. -/
theorem ends : θ_run defs (onTc (τ := τ) (main (F := Ideal))) ⟨m, fun _ => 0, ρ⟩ (fun r => ∀ c : Dev nD,
      ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

/-- Every execution ends with the output, its activation and the three gradients from the arguments, the arguments as launched. -/
theorem run : θ_run defs (onTc (τ := τ) (main (F := Ideal))) ⟨m, fun _ => 0, ρ⟩ (fun r => ∀ c : Dev nD,
      r.2.mem ((c.tc : Thread nD τ).loc main_v2_0) = output (arg m c main_arg0 : Mat 2048 4096) (arg m c main_arg1 : Mat 2048 4096)
          (arg m c main_arg2 : Cube 4 128 1024) (arg m c main_arg4 : Mat 1 512)
      ∧ r.2.mem ((c.tc : Thread nD τ).loc main_v2_1) = active (output (arg m c main_arg0 : Mat 2048 4096) (arg m c main_arg1 : Mat 2048 4096)
          (arg m c main_arg2 : Cube 4 128 1024) (arg m c main_arg4 : Mat 1 512))
      ∧ r.2.mem ((c.tc : Thread nD τ).loc main_v4) = inputGrad (arg m c main_arg6 : Mat 2048 4096) (arg m c main_arg3 : Cube 4 128 1024)
          (arg m c main_arg4 : Mat 1 512) (arg m c main_arg5 : Mat 2048 512)
      ∧ r.2.mem ((c.tc : Thread nD τ).loc main_v5) = weightGram (inputs (arg m c main_arg0 : Mat 2048 4096)) (arg m c main_arg6 : Mat 2048 4096)
      ∧ r.2.mem ((c.tc : Thread nD τ).loc main_v6) = weightGram (arg m c main_arg5 : Mat 2048 512) (arg m c main_arg1 : Mat 2048 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c =>
    ⟨(h c _ (mem_uc main_v2_0 (by decide))).trans (end_out m ρ c),
     (h c _ (mem_uc main_v2_1 (by decide))).trans (end_active m ρ c),
     (h c _ (mem_uc main_v4 (by decide))).trans (end_input m ρ c),
     (h c _ (mem_uc main_v5 (by decide))).trans (end_writeWeight m ρ c),
     (h c _ (mem_uc main_v6 (by decide))).trans (end_readWeight m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (ends m ρ)

end Cert.Kernel8Ideal.Ssm
-- ==== Proof.SsmRef.lean ====
/- What the plainly written mathematics around the state space scan computes, index by index. -/
module

public import proofs.«01_k».proof.Proof.Gen.Reference8Ideal.Run
public import proofs.«01_k».proof.Proof.SsmSpec
public import Idealize.ShloMosaic.Lib.Pipeline.ValueKit

@[expose] public section

set_option maxRecDepth 16384

noncomputable section

open Idealize.ShloMosaic Idealize.ShloMosaic.TcCoe Idealize.SL.Sem
open scoped BigOperators

namespace Cert.Reference8Ideal.Ssm

open Cert.Reference8Ideal Cert.Reference8Ideal.Gen Cert.Ssm
open Cert.Ffn (Mat Cube)

variable (m : (ℓ : Loc nD τ sig) → Buf (Elt Ideal) ℓ) (ρ : Dev nD → PrngReg)

/-- An argument's contents at launch. -/
abbrev arg (c : Dev nD) (b : Ref sig .tc) : Buf (Elt Ideal) ((c : Thread nD τ).loc b) := m ((c : Thread nD τ).loc b)

/-- The factors of a sum of products, swapped. -/
theorem sum_swap {n : ℕ} (f g : Fin n → EReal) : ∑ k, f k * g k = ∑ k, g k * f k := Finset.sum_congr rfl fun k _ => mul_comm (f k) (g k)

/-- The activation with its factors in another order. -/
theorem gelu_eq (v : EReal) : v * (Ideal.ofBits .f32 0x3F000000#32 * (1 + Ideal.tanh (Ideal.ofBits .f32 0x3F4C422A#32 * (v + Ideal.ofBits .f32 0x3D372713#32 * (v * v * v)))))
    = Ideal.ofBits .f32 0x3F000000#32 * v * (1 + Ideal.tanh (Ideal.ofBits .f32 0x3F4C422A#32 * (v + Ideal.ofBits .f32 0x3D372713#32 * v * v * v))) := by
  have e : Ideal.ofBits .f32 0x3D372713#32 * (v * v * v) = Ideal.ofBits .f32 0x3D372713#32 * v * v * v := by ac_rfl
  rw [e]
  exact (mul_left_comm _ _ _).trans (mul_assoc _ _ _).symm

/-- The states of a block, read from the states cut into four blocks. -/
theorem cut_states (h : FVec Ideal S2048x4096 .bf16) (t : Fin 2048) (b : Fin 4) (k : Fin 1024) :
    shapeCast S2048x4x1024 (extf (F := Ideal) .f32 h bitsLt_bf16_f32) shapeCasts_S2048x4096_S2048x4x1024 (ix3 t b k) = h (ix2 t (stateCol b k)) := by
  pointwise

/-- The channels of a block, read from the channels cut into four blocks. -/
theorem cut_channels (u : FVec Ideal S2048x512 .f32) (t : Fin 2048) (b : Fin 4) (w : Fin 128) :
    shapeCast S2048x4x128 u shapeCasts_S2048x512_S2048x4x128 (ix3 t b w) = u (ix2 t (chanCol b w)) := by
  pointwise

/-- The products over the rows, block by block, of the states with the channels. -/
theorem dot_states (x : FVec Ideal S2048x4x1024 .f32) (y : FVec Ideal S2048x4x128 .f32) (b : Fin 4) (k : Fin 1024) (w : Fin 128) :
    Host.dotGeneral dot_S4x1024x2048_S2048x4x128_S4x1024x128_2_0_1_2_0_1 none
      (transpose S4x1024x2048 [1, 2, 0] x transposes_S2048x4x1024_S4x1024x2048_1_2_0) y (ix3 b k w)
      = ∑ t : Fin 2048, x (ix3 t b k) * y (ix3 t b w) := by
  pointwise

/-- The products over the rows, block by block, of the channels with the states. -/
theorem dot_channels (x : FVec Ideal S2048x4x1024 .f32) (y : FVec Ideal S2048x4x128 .f32) (b : Fin 4) (w : Fin 128) (k : Fin 1024) :
    Host.dotGeneral dot_S4x128x2048_S2048x4x1024_S4x128x1024_2_0_1_2_0_1 none
      (transpose S4x128x2048 [1, 2, 0] y transposes_S2048x4x128_S4x128x2048_1_2_0) x (ix3 b w k)
      = ∑ t : Fin 2048, y (ix3 t b w) * x (ix3 t b k) := by
  pointwise

/-- The last two axes, exchanged. -/
theorem swapped (x : FVec Ideal S4x1024x128 .f32) (b : Fin 4) (w : Fin 128) (k : Fin 1024) :
    transpose S4x128x1024 [0, 2, 1] x transposes_S4x1024x128_S4x128x1024_0_2_1 (ix3 b w k) = x (ix3 b k w) := by
  pointwise

/-- The gradient of the weight that writes to the states. -/
theorem write_grad (p : FVec Ideal S2048x4096 .f32) (h : FVec Ideal S2048x4096 .bf16) (b : Fin 4) (w : Fin 128) (k : Fin 1024) :
    ∑ t : Fin 2048, shapeCast S2048x4x1024 (extf (F := Ideal) .f32 h bitsLt_bf16_f32) shapeCasts_S2048x4096_S2048x4x1024 (ix3 t b k)
        * shapeCast S2048x4x128 (extractStridedSlice S2048x512 ![0, 1536] p slices_S2048x4096_S2048x512_0_1536) shapeCasts_S2048x512_S2048x4x128 (ix3 t b w)
      = weightGram (inputs p) h (ix3 b w k) := by
  refine Finset.sum_congr rfl fun t _ => ?_
  rw [cut_states, cut_channels, mul_comm]
  refine congrArg (· * h (ix2 t (stateCol b k))) ?_
  pointwise [inputs]

/-- The gradient of the weight that reads from the states. -/
theorem read_grad (dy : FVec Ideal S2048x512 .f32) (s : FVec Ideal S2048x4096 .bf16) (b : Fin 4) (w : Fin 128) (k : Fin 1024) :
    ∑ t : Fin 2048, shapeCast S2048x4x128 (shapeCast S2048x512 dy shapeCasts_S2048x512_S2048x512) shapeCasts_S2048x512_S2048x4x128 (ix3 t b w)
        * shapeCast S2048x4x1024 (extf (F := Ideal) .f32 s bitsLt_bf16_f32) shapeCasts_S2048x4096_S2048x4x1024 (ix3 t b k)
      = weightGram dy s (ix3 b w k) := by
  refine Finset.sum_congr rfl fun t _ => ?_
  rw [cut_states, cut_channels, shapeCast_self]
  rfl

/-- The reference ends with the output, its activation and the three gradients, the arguments as launched. -/
theorem run : θ_run defs (onTc (τ := τ) (main (F := Ideal))) ⟨m, fun _ => 0, ρ⟩ fun r => ∀ c : Dev nD,
      r.2.mem ((c.tc : Thread nD τ).loc main_v15) = output (arg m c main_arg0 : Mat 2048 4096) (arg m c main_arg1 : Mat 2048 4096)
          (arg m c main_arg2 : Cube 4 128 1024) (arg m c main_arg4 : Mat 1 512)
      ∧ r.2.mem ((c.tc : Thread nD τ).loc main_v43) = active (output (arg m c main_arg0 : Mat 2048 4096) (arg m c main_arg1 : Mat 2048 4096)
          (arg m c main_arg2 : Cube 4 128 1024) (arg m c main_arg4 : Mat 1 512))
      ∧ r.2.mem ((c.tc : Thread nD τ).loc main_v44) = inputGrad (arg m c main_arg6 : Mat 2048 4096) (arg m c main_arg3 : Cube 4 128 1024)
          (arg m c main_arg4 : Mat 1 512) (arg m c main_arg5 : Mat 2048 512)
      ∧ r.2.mem ((c.tc : Thread nD τ).loc main_v27) = weightGram (inputs (arg m c main_arg0 : Mat 2048 4096)) (arg m c main_arg6 : Mat 2048 4096)
      ∧ r.2.mem ((c.tc : Thread nD τ).loc main_v22) = weightGram (arg m c main_arg5 : Mat 2048 512) (arg m c main_arg1 : Mat 2048 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference8Ideal.Value.run m ρ)
  refine ⟨(h c).1.trans ?_, (h c).2.1.trans ?_, (h c).2.2.1.trans ?_, (h c).2.2.2.1.trans ?_, (h c).2.2.2.2.1.trans ?_,
      (h c).2.2.2.2.2⟩ <;> clear h <;> unfold arg <;>
    generalize m (c.tc.loc main_arg0) = p, m (c.tc.loc main_arg1) = s, m (c.tc.loc main_arg2) = cm, m (c.tc.loc main_arg3) = bm,
      m (c.tc.loc main_arg4) = d, m (c.tc.loc main_arg5) = dy, m (c.tc.loc main_arg6) = h <;> funext y <;> idx_vars y
  · pointwise [output, direct, fromStates, inputs]
    exact congrArg (· + _) (sum_swap _ _)
  · pointwise [active, gelu, output, direct, fromStates, inputs]
    exact (congrArg (fun v => (v + _) * (_ * (1 + Ideal.tanh (_ * (v + _ + _ * ((v + _) * (v + _) * (v + _))))))) (sum_swap _ _)).trans (gelu_eq _)
  · pointwise [inputGrad, direct, fromStates]
    exact add_comm _ _
  · exact (swapped _ y0 y1 y2).trans ((dot_states _ _ y0 y2 y1).trans (write_grad p h y0 y1 y2))
  · exact (dot_channels _ _ y0 y1 y2).trans (read_grad dy s y0 y1 y2)

end Cert.Reference8Ideal.Ssm
-- ==== Proof.ConvFwdSpec.lean ====
/- The gated convolution, index by index over the extended reals. -/
module

public import proofs.«01_k».proof.Proof.ConvSpec

@[expose] public section

noncomputable section

open Idealize.ShloMosaic Idealize.SL.Sem

namespace Cert.Conv

/-- The gate times the convolution of the taps with their bias. -/
def gated (p : Mat 2048 4096) (w : Mat 3 512) (b : Mat 1 512) : Mat 2048 512 := fun y =>
  p (ix2 (y 0) ⟨(y 1).val, by have : (y 1).val < 512 := (y 1).isLt; omega⟩) * (w (ix2 2 (y 1)) * taps p (y 0) (y 1)
    + w (ix2 1 (y 1)) * tapsBefore 1 p (y 0) (y 1) + w (ix2 0 (y 1)) * tapsBefore 2 p (y 0) (y 1) + b (ix2 0 (y 1)))

end Cert.Conv
-- ==== Proof.ConvFwdKernel.lean ====
/- What the forward call of the gated convolution leaves in its result, index by index. -/
module

public import proofs.«01_k».proof.Proof.Gen.Kernel9Ideal.Value
public import proofs.«01_k».proof.Proof.ConvKernel
public import proofs.«01_k».proof.Proof.ConvFwdSpec

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.ConvFwd

open Cert.Kernel9Ideal Cert.Kernel9Ideal.Gen Cert.Conv

variable (m : (ℓ : Loc nD τ sig) → Buf (Elt Ideal) ℓ)

/-- The block every window reads or writes at a grid point. -/
theorem idx_val : ∀ t : Fin cfg0.N, win0_0.index t = ![t.val, 0]
    ∧ win0_1.index t = ![t.val, 1]
    ∧ win0_2.index t = ![t.val, 2]
    ∧ win0_3.index t = ![t.val * 64 - 1, 1]
    ∧ win0_4.index t = ![t.val * 64 - 1, 2]
    ∧ win0_5.index t = ![0, 0]
    ∧ win0_6.index t = ![0, 0]
    ∧ win0_7.index t = ![t.val, 0] :=
  (by decide +kernel : ∀ t : Fin grid0.N, _)

/-- There are four grid points. -/
theorem lt4 (t : Fin cfg0.N) : t.val < 4 := lt_of_lt_of_eq t.isLt (show cfg0.N = 4 from N_0)

/-- The kernel's test for a block that is not the first. -/
theorem notFirst : ∀ t : Fin cfg0.N, Scalar.cmpi CmpIPredicate.sgt (BitVec.ofNat 32 (grid0.coords t 0).val) 0#32
    = if 1 ≤ t.val then 1#1 else 0#1 :=
  (by decide +kernel : ∀ t : Fin grid0.N, _)

/-- Row `r` of block `t` of a 2048-row array. -/
abbrev row (t : Fin cfg0.N) (r : Fin 512) : Fin 2048 := ⟨t.val * 512 + r.val, by have := lt4 t; omega⟩

theorem blk0 (c : Dev nD) (t : Fin cfg0.N) (r l : Fin 512) :
    iblk m c 0 t (ix2 r l) = m ((c : Thread nD τ).loc main_arg0) (ix2 (row t r) ⟨l.val, by omega⟩) := by
  blk_point [iblk, V, idx_val t]

theorem blk1 (c : Dev nD) (t : Fin cfg0.N) (r l : Fin 512) :
    iblk m c 1 t (ix2 r l) = m ((c : Thread nD τ).loc main_arg0) (ix2 (row t r) ⟨512 + l.val, by omega⟩) := by
  blk_point [iblk, V, idx_val t]

theorem blk2 (c : Dev nD) (t : Fin cfg0.N) (r l : Fin 512) :
    iblk m c 2 t (ix2 r l) = m ((c : Thread nD τ).loc main_arg0) (ix2 (row t r) ⟨1024 + l.val, by omega⟩) := by
  blk_point [iblk, V, idx_val t]

/-- The table the kernel is given holds the taps in its first three rows. -/
theorem blk5 (c : Dev nD) (t : Fin cfg0.N) (r : Fin 3) (l : Fin 512) :
    iblk m c 5 t (ix2 ⟨r.val, by omega⟩ l) = m ((c : Thread nD τ).loc main_arg1) (ix2 r l) := by
  blk_simp [iblk, idx_val t]
  entry_read
  have e : ((View.whole main_v2).slice (win0_5.rect t)).emb (ix2 ⟨r.val, by omega⟩ l) = ix2 ⟨r.val, by omega⟩ l := by
    blk_ext [idx_val t]
  rw [e]
  exact Cert.KernelIdeal.Conv.scatter_taps _ _ (fun _ => rfl) _ r l

theorem blk6 (c : Dev nD) (t : Fin cfg0.N) (l : Fin 512) :
    iblk m c 6 t (ix2 0 l) = m ((c : Thread nD τ).loc main_arg2) (ix2 0 l) := by
  blk_point [iblk, V, idx_val t]

/-- The rows just above block `t`. -/
theorem blk34 (c : Dev nD) (t : Fin cfg0.N) (ht : 1 ≤ t.val) (r : Fin 8) (l : Fin 512) :
    mulf (F := Ideal) (φ := .f32) (iblk m c 3 t) (iblk m c 4 t) (ix2 r l)
      = taps (m ((c : Thread nD τ).loc main_arg0)) ⟨t.val * 512 + r.val - 8, by have := lt4 t; omega⟩ l := by
  pointwise [taps]
  refine Ideal.mul_congr ?_ ?_
  · blk_point [iblk, V, idx_val t]
  · blk_point [iblk, V, idx_val t]

/-- The rows read from the buffer of the convolution's input, `k` rows above the block's own. -/
theorem above (c : Dev nD) (t : Fin cfg0.N) (k : ℕ) (hk : k ≤ 8) (r l : Fin 512) (q : Fin 520) (hq : q.val + k = 8 + r.val) :
    View.canon (Val := Elt Ideal) (s := S520x512) (e := .f32)
      [⟨Rect.unit ![8, 0] ![512, 512] inb_S520x512_S512x512_8_0, k0_pay4 (F := Ideal) (iblk m c 1 t) (iblk m c 2 t)⟩,
       ⟨Rect.unit ![0, 0] ![8, 512] inb_S520x512_S8x512_0_0, k0_pay3 (F := Ideal) (grid0.coords t) (iblk m c 3 t) (iblk m c 4 t)⟩] (ix2 q l)
      = tapsBefore k (m ((c : Thread nD τ).loc main_arg0)) (row t r) l := by
  refine (Cert.KernelIdeal.Conv.canon_low _ _ q l).trans ?_
  by_cases h : q.val < 8
  · rw [dif_pos h]
    unfold k0_pay3
    dsimp only
    rw [shapeCast_self]
    by_cases ht : 1 ≤ t.val
    · rw [notFirst t, if_pos ht]
      refine (blk34 m c t ht ⟨q.val, h⟩ l).trans ?_
      unfold tapsBefore
      rw [if_pos (by show k ≤ t.val * 512 + r.val; omega)]
      congr 1
      exact Fin.ext (by show t.val * 512 + q.val - 8 = t.val * 512 + r.val - k; omega)
    · rw [notFirst t, if_neg ht]
      unfold tapsBefore
      rw [if_neg (by show ¬ k ≤ t.val * 512 + r.val; omega)]
      exact Ideal.ofBits_zero .f32
  · rw [dif_neg h]
    pointwise [k0_pay4, k0_pay2, blk1 m c t, blk2 m c t]
    unfold tapsBefore
    rw [if_pos (by show k ≤ t.val * 512 + r.val; omega)]
    have e : row t ⟨q.val - 8, by omega⟩ = ⟨(row t r).val - k, by omega⟩ :=
      Fin.ext (by show t.val * 512 + (q.val - 8) = t.val * 512 + r.val - k; omega)
    unfold taps
    rw [e]

/-- What a grid point leaves of the gated convolution. -/
theorem point7 (c : Dev nD) (t : Fin cfg0.N) (r l : Fin 512) :
    outsAt0 m c t (ix2 r l) = gated (m ((c : Thread nD τ).loc main_arg0))
      (m ((c : Thread nD τ).loc main_arg1)) (m ((c : Thread nD τ).loc main_arg2)) (ix2 (row t r) l) := by
  unfold outsAt0
  frame_out
  pointwise [k0_pay1, k0_pay2, k0_pay5, View.readCov_eq_canon', gated, taps, blk0 m c t, blk1 m c t, blk2 m c t]
  exact Ideal.mul_congr rfl (Ideal.add_congr (Ideal.add_congr (Ideal.add_congr (Ideal.mul_congr (blk5 m c t 2 l) rfl)
    (Ideal.mul_congr (blk5 m c t 1 l) (above m c t 1 (by omega) r l _ (by show 7 + r.val + 1 = _; omega))))
    (Ideal.mul_congr (blk5 m c t 0 l) (above m c t 2 (by omega) r l _ (by show 6 + r.val + 2 = _; omega)))) (blk6 m c t l))

theorem final7 (c : Dev nD) : (dats m 0 c).arrAt 7 cfg0.N = gated (m ((c : Thread nD τ).loc main_arg0))
      (m ((c : Thread nD τ).loc main_arg1)) (m ((c : Thread nD τ).loc main_arg2)) := by
  refine (dats m 0 c).arrAt_eq_of_covers 7 _ (by decide +kernel) fun t _ y => ?_
  blk_simp
  rw [after0_7]
  idx_vars y
  refine (point7 m c t y0 y1).trans (congrArg _ ?_)
  blk_ext [idx_val t]

/-- Every run of the kernel ends with the gated convolution and leaves the arguments alone. -/
theorem run (ρ : Dev nD → PrngReg) :
    θ_run defs (onTc (τ := τ) (main (F := Ideal))) ⟨m, fun _ => 0, ρ⟩ fun r => ∀ c : Dev nD,
      r.2.mem ((c : Thread nD τ).loc main_v3) = gated (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final7 m c), (h c).2⟩) (Cert.Kernel9Ideal.Value.run_blocks m ρ)

end Cert.Kernel9Ideal.ConvFwd
-- ==== Proof.ConvFwdRef.lean ====
/- The plainly written gated convolution is the index-by-index one. -/
module

public import proofs.«01_k».proof.Proof.Gen.Reference9Ideal.Run
public import proofs.«01_k».proof.Proof.ConvFwdSpec
public import Idealize.ShloMosaic.Lib.Pipeline.ValueKit

@[expose] public section

set_option maxRecDepth 16384

noncomputable section

open Idealize.ShloMosaic Idealize.ShloMosaic.TcCoe Idealize.SL.Sem

namespace Cert.Reference9Ideal.ConvFwd

open Cert.Reference9Ideal Cert.Conv

variable (m : (ℓ : Loc nD τ sig) → Buf (Elt Ideal) ℓ)

/-- Three terms added in the opposite order. -/
theorem swap3 {a b c a' b' : EReal} (ha : a = a') (hb : b = b') : a + b + c = c + b' + a' := by
  subst ha hb
  ac_rfl

/-- Every run of the reference ends with the gated convolution and leaves the arguments alone. -/
theorem run (ρ : Dev nD → PrngReg) :
    θ_run defs (onTc (τ := τ) (main (F := Ideal))) ⟨m, fun _ => 0, ρ⟩ fun r => ∀ c : Dev nD,
      r.2.mem ((c : Thread nD τ).loc main_v31) = gated (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Cert.Reference9Ideal.Value.run m ρ)
  refine ⟨(h c).1.trans ?_, (h c).2⟩
  clear h
  generalize m (c.tc.loc main_arg0) = p, m (c.tc.loc main_arg1) = w, m (c.tc.loc main_arg2) = b
  funext y
  idx_vars y
  pointwise [gated, taps, tapsBefore]
  refine Ideal.mul_congr rfl (Ideal.add_congr ?_ rfl)
  refine swap3 (Ideal.mul_congr rfl ?_) (Ideal.mul_congr rfl ?_)
  · by_cases h : 2 ≤ (y0 : ℕ)
    · rw [dif_neg (by omega), if_pos h]
    · rw [dif_pos (by omega), if_neg h]
  · by_cases h : 1 ≤ (y0 : ℕ)
    · rw [dif_neg (by omega), if_pos h]
      simp only [show 1 + (y0 : ℕ) - 2 = (y0 : ℕ) - 1 by omega]
    · rw [dif_pos (by omega), if_neg h]

end Cert.Reference9Ideal.ConvFwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel5Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel9Ideal.Value
public import proofs.«01_k».proof.Proof.ConvKernel
public import proofs.«01_k».proof.Proof.ConvRef
public import proofs.«01_k».proof.Proof.FfnRun
public import proofs.«01_k».proof.Proof.FfnRef
public import proofs.«01_k».proof.Proof.FfnPre
public import proofs.«01_k».proof.Proof.MixRun
public import proofs.«01_k».proof.Proof.MixRef
public import proofs.«01_k».proof.Proof.MergeRun
public import proofs.«01_k».proof.Proof.MergeRef
public import proofs.«01_k».proof.Proof.PleKernel
public import proofs.«01_k».proof.Proof.PleRef
public import proofs.«01_k».proof.Proof.PlePre
public import proofs.«01_k».proof.Proof.LnKernel
public import proofs.«01_k».proof.Proof.LnRef
public import proofs.«01_k».proof.Proof.LnPre
public import proofs.«01_k».proof.Proof.PleProdRun
public import proofs.«01_k».proof.Proof.PleProdRef
public import proofs.«01_k».proof.Proof.SsmRun
public import proofs.«01_k».proof.Proof.SsmRef
public import proofs.«01_k».proof.Proof.ConvFwdKernel
public import proofs.«01_k».proof.Proof.ConvFwdRef
public import Idealize.ShloMosaic.Adequacy
public import Idealize.ShloMosaic.Init

@[expose] public section

noncomputable section

namespace Cert.Proof

open Idealize.ShloMosaic Idealize.SL.Sem Cert.Kernel

/-- The reference's run leaves its arguments unchanged, and it declares no semaphore. -/
theorem conv_reference_frame : Cert.quiescent_ReferenceIdeal (hReferenceIdeal := Cert.ReferenceIdeal.Gen.facts) := by
  intro m g _
  refine (θ_run _ _ _).mono (fun r h => ⟨fun c => (h c).2.2.2.2, Idealize.ShloMosaic.sem_eq_zero_of_no_sems (by decide) r.2⟩)
    (Cert.ReferenceIdeal.Conv.run m g)

/-- The gradient kernel of the gated convolution and `jax.vjp` of the convolution end with the same four results. -/
theorem conv_algebraic : Cert.algebraic_KernelIdeal_ReferenceIdeal (hKernelIdeal := Cert.KernelIdeal.Gen.facts)
    (hReferenceIdeal := Cert.ReferenceIdeal.Gen.facts) := by
  pair_intro
  · run_from Cert.KernelIdeal.Conv.run m g
  · refine (θ_run _ _ _).mono (fun r h c => ?_) (Cert.ReferenceIdeal.Conv.run m' g')
    obtain ⟨a0, a1, a2, a3⟩ := hagree c
    rw [← a0, ← a1, ← a2, ← a3]
    exact h c

/-- The plainly written sublayer's run leaves its arguments unchanged, and it declares no semaphore. -/
theorem ffn_reference_frame : Cert.quiescent_Reference2Ideal (hReference2Ideal := Cert.Reference2Ideal.Gen.facts) := by
  intro m g _
  refine (θ_run _ _ _).mono (fun r h => ⟨fun c => (h c).2.2.2.2.2, Idealize.ShloMosaic.sem_eq_zero_of_no_sems (by decide) r.2⟩)
    (Cert.Reference2Ideal.Value.run m g)

/-- The sublayer's step and the plainly written sublayer with its `jax.vjp` end with the same five results. -/
theorem ffn_algebraic : Cert.algebraic_Kernel2Ideal_Reference2Ideal_pre_ffn_finite (hKernel2Ideal := Cert.Kernel2Ideal.Gen.facts)
    (hReference2Ideal := Cert.Reference2Ideal.Gen.facts) (hPre_ffn_finite := Cert.Pre_ffn_finite.facts) := by
  pair_intro
  · run_from Cert.Kernel2Ideal.Ffn.run m g
  · have fin := fun c => @Cert.Pre_ffn_finite.reals Cert.Pre_ffn_finite.facts _ _ _ _ _ _ _ (hpre c)
    refine (θ_run _ _ _).mono (fun r h c => ?_) (Cert.Reference2Ideal.Ffn.run m' g' (fun c => by rw [(hagree c).1]; exact (fin c).1)
      (fun c => by rw [(hagree c).2.1]; exact (fin c).2.1) (fun c => by rw [(hagree c).2.2.1]; exact (fin c).2.2.1)
      (fun c => by rw [(hagree c).2.2.2.2.2.1]; exact (fin c).2.2.2))
    obtain ⟨a0, a1, a2, a3, a4, a5, a6⟩ := hagree c
    unfold Cert.Kernel2Ideal.Ffn.arg
    rw [← a0, ← a1, ← a2, ← a3, ← a4, ← a5, ← a6]
    exact h c

/-- The plainly written projection's run leaves its arguments unchanged, and it declares no semaphore. -/
theorem mix_reference_frame : Cert.quiescent_Reference3Ideal (hReference3Ideal := Cert.Reference3Ideal.Gen.facts) := by
  intro m g _
  refine (θ_run _ _ _).mono (fun r h => ⟨fun c => (h c).2.2.2, Idealize.ShloMosaic.sem_eq_zero_of_no_sems (by decide) r.2⟩)
    (Cert.Reference3Ideal.Value.run m g)

/-- The mixing projection's three calls and the plainly written product with its `jax.vjp` end with the same three results. -/
theorem mix_algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Mix.run m g
  · refine (θ_run _ _ _).mono (fun r h c => ?_) (Cert.Reference3Ideal.Mix.run m' g')
    obtain ⟨a0, a1, a2⟩ := hagree c
    unfold Cert.Kernel3Ideal.Mix.arg
    rw [← a0, ← a1, ← a2]
    exact h c

/-- The plainly written merge's run leaves its arguments unchanged, and it declares no semaphore. -/
theorem merge_reference_frame : Cert.quiescent_Reference4Ideal (hReference4Ideal := Cert.Reference4Ideal.Gen.facts) := by
  intro m g _
  refine (θ_run _ _ _).mono (fun r h => ⟨fun c => (h c).2.2.2.2.2.2.2, Idealize.ShloMosaic.sem_eq_zero_of_no_sems (by decide) r.2⟩)
    (Cert.Reference4Ideal.Value.run m g)

/-- The merge's eleven calls and the plainly written merge with its `jax.vjp` end with the same seven results. -/
theorem merge_algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Merge.run m g
  · refine (θ_run _ _ _).mono (fun r h c => ?_) (Cert.Reference4Ideal.Merge.run m' g')
    obtain ⟨a0, a1, a2, a3, a4, a5, a6, a7, a8, a9⟩ := hagree c
    unfold Cert.Kernel4Ideal.Merge.arg
    rw [← a0, ← a1, ← a2, ← a3, ← a4, ← a5, ← a6, ← a7, ← a8, ← a9]
    exact h c

/-- The plainly written gated input, layer norm and loss leave their arguments unchanged, and declare no semaphore. -/
theorem ple_reference_frame : Cert.quiescent_Reference5Ideal (hReference5Ideal := Cert.Reference5Ideal.Gen.facts) := by
  intro m g _
  refine (θ_run _ _ _).mono (fun r h => ⟨fun c => (h c).2.2.2.2.2.2, Idealize.ShloMosaic.sem_eq_zero_of_no_sems (by decide) r.2⟩)
    (Cert.Reference5Ideal.Value.run m g)

/-- The kernel of the gated input, layer norm and loss and the plainly written loss with its `jax.vjp` end with the same six results. -/
theorem ple_algebraic : Cert.algebraic_Kernel5Ideal_Reference5Ideal_pre_ple_finite (hKernel5Ideal := Cert.Kernel5Ideal.Gen.facts)
    (hReference5Ideal := Cert.Reference5Ideal.Gen.facts) (hPre_ple_finite := Cert.Pre_ple_finite.facts) := by
  pair_intro
  · run_from Cert.Kernel5Ideal.Ple.run m g
  · have fin := fun c => @Cert.Pre_ple_finite.reals Cert.Pre_ple_finite.facts _ _ _ _ _ _ (hpre c)
    have hr : ∀ c, Cert.Ffn.Reals (Cert.Reference5Ideal.Ple.inp m' c) := fun c => by
      unfold Cert.Reference5Ideal.Ple.inp Cert.Reference5Ideal.Ple.skip Cert.Reference5Ideal.Ple.prd Cert.Reference5Ideal.Ple.gate
      rw [(hagree c).1, (hagree c).2.1, (hagree c).2.2.1]
      exact Cert.Ple.resid_real (fin c).1 (fin c).2.1 (fin c).2.2.1
    have hg : ∀ c, Cert.Ffn.Reals (Cert.Reference5Ideal.Ple.scale m' c) := fun c => by
      unfold Cert.Reference5Ideal.Ple.scale
      rw [(hagree c).2.2.2.1]
      exact (fin c).2.2.2.1
    have hb : ∀ c, Cert.Ffn.Reals (Cert.Reference5Ideal.Ple.shift m' c) := fun c => by
      unfold Cert.Reference5Ideal.Ple.shift
      rw [(hagree c).2.2.2.2.1]
      exact (fin c).2.2.2.2.1
    have ht : ∀ c, Cert.Ffn.Reals (Cert.Reference5Ideal.Ple.target m' c) := fun c => by
      unfold Cert.Reference5Ideal.Ple.target
      rw [(hagree c).2.2.2.2.2]
      exact (fin c).2.2.2.2.2
    refine (θ_run _ _ _).mono (fun r h c => ?_)
      (Cert.Reference5Ideal.Ple.run m' g' hr (fun c => Cert.Ple.diff_real (hr c) (hg c) (hb c) (ht c)) hg)
    obtain ⟨a0, a1, a2, a3, a4, a5⟩ := hagree c
    unfold Cert.Kernel5Ideal.Ple.dif Cert.Kernel5Ideal.Ple.grad Cert.Kernel5Ideal.Ple.inp Cert.Kernel5Ideal.Ple.skip
      Cert.Kernel5Ideal.Ple.prd Cert.Kernel5Ideal.Ple.gate Cert.Kernel5Ideal.Ple.scale Cert.Kernel5Ideal.Ple.shift
      Cert.Kernel5Ideal.Ple.target
    rw [← a0, ← a1, ← a2, ← a3, ← a4, ← a5]
    exact h c

/-- The plainly written layer norm's gradient leaves its arguments unchanged, and declares no semaphore. -/
theorem ln_reference_frame : Cert.quiescent_Reference6Ideal (hReference6Ideal := Cert.Reference6Ideal.Gen.facts) := by
  intro m g _
  refine (θ_run _ _ _).mono (fun r h => ⟨fun c => (h c).2.2.2.2, Idealize.ShloMosaic.sem_eq_zero_of_no_sems (by decide) r.2⟩)
    (Cert.Reference6Ideal.Value.run m g)

/-- The layer norm's gradient kernel and `jax.vjp` of the layer norm end with the same four results. -/
theorem ln_algebraic : Cert.algebraic_Kernel6Ideal_Reference6Ideal_pre_ln_finite (hKernel6Ideal := Cert.Kernel6Ideal.Gen.facts)
    (hReference6Ideal := Cert.Reference6Ideal.Gen.facts) (hPre_ln_finite := Cert.Pre_ln_finite.facts) := by
  pair_intro
  · run_from Cert.Kernel6Ideal.Ln.run m g
  · have fin := fun c => @Cert.Pre_ln_finite.reals Cert.Pre_ln_finite.facts _ _ _ _ _ (hpre c)
    refine (θ_run _ _ _).mono (fun r h c => ?_) (Cert.Reference6Ideal.Ln.run m' g'
      (fun c => by unfold Cert.Reference6Ideal.Ln.inp; rw [(hagree c).1]; exact (fin c).1)
      (fun c => by unfold Cert.Reference6Ideal.Ln.scale; rw [(hagree c).2.1]; exact (fin c).2.1)
      (fun c => by
        unfold Cert.Reference6Ideal.Ln.grad
        rw [(hagree c).2.2.2.1, (hagree c).2.2.2.2]
        exact Cert.Ln.mixGrad_real (fin c).2.2.1 (fin c).2.2.2))
    obtain ⟨a0, a1, a2, a3, a4⟩ := hagree c
    unfold Cert.Kernel6Ideal.Ln.inp Cert.Kernel6Ideal.Ln.grad Cert.Kernel6Ideal.Ln.scale
    rw [← a0, ← a1, ← a3, ← a4]
    exact h c

/-- The plainly written products leave their arguments unchanged, and declare no semaphore. -/
theorem products_reference_frame : Cert.quiescent_Reference7Ideal (hReference7Ideal := Cert.Reference7Ideal.Gen.facts) := by
  intro m g _
  refine (θ_run _ _ _).mono (fun r h => ⟨fun c => (h c).2.2.2.2.2, Idealize.ShloMosaic.sem_eq_zero_of_no_sems (by decide) r.2⟩)
    (Cert.Reference7Ideal.Value.run m g)

/-- The five calls around the gated per-layer input and the plainly written products with their `jax.vjp` end with the same results. -/
theorem products_algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.PleProd.run m g
  · refine (θ_run _ _ _).mono (fun r h c => ?_) (Cert.Reference7Ideal.PleProd.run m' g')
    obtain ⟨a0, a1, a2, a3, a4, a5⟩ := hagree c
    unfold Cert.Kernel7Ideal.PleProd.arg
    rw [← a0, ← a1, ← a2, ← a3, ← a4, ← a5]
    exact h c

/-- The scan's plainly written surroundings leave their arguments unchanged, and declare no semaphore. -/
theorem ssm_reference_frame : Cert.quiescent_Reference8Ideal (hReference8Ideal := Cert.Reference8Ideal.Gen.facts) := by
  intro m g _
  refine (θ_run _ _ _).mono (fun r h => ⟨fun c => (h c).2.2.2.2.2, Idealize.ShloMosaic.sem_eq_zero_of_no_sems (by decide) r.2⟩)
    (Cert.Reference8Ideal.Value.run m g)

/-- The six calls around the scan and the plainly written state space branch with its `jax.vjp` end with the same five results. -/
theorem ssm_algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Ssm.run m g
  · refine (θ_run _ _ _).mono (fun r h c => ?_) (Cert.Reference8Ideal.Ssm.run m' g')
    obtain ⟨a0, a1, a2, a3, a4, a5, a6⟩ := hagree c
    unfold Cert.Kernel8Ideal.Ssm.arg
    rw [← a0, ← a1, ← a2, ← a3, ← a4, ← a5, ← a6]
    exact h c

/-- The plainly written convolution leaves its arguments unchanged, and declares no semaphore. -/
theorem forward_reference_frame : Cert.quiescent_Reference9Ideal (hReference9Ideal := Cert.Reference9Ideal.Gen.facts) := by
  intro m g _
  refine (θ_run _ _ _).mono (fun r h => ⟨fun c => (h c).2, Idealize.ShloMosaic.sem_eq_zero_of_no_sems (by decide) r.2⟩)
    (Cert.Reference9Ideal.Value.run m g)

/-- The forward kernel of the gated convolution and the plainly written convolution end with the same result. -/
theorem forward_algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.ConvFwd.run m g
  · refine (θ_run _ _ _).mono (fun r h c => ?_) (Cert.Reference9Ideal.ConvFwd.run m' g')
    obtain ⟨a0, a1, a2⟩ := hagree c
    rw [← a0, ← a1, ← a2]
    exact h c

/-- All the claims: the gated convolution's, the SwiGLU sublayer's, the mixing projection's, the merge's, the loss's, the layer norm's,
those of the products around the per-layer input, those of the scan's surroundings and the forward convolution's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_ffn_finite.facts, Cert.Pre_ple_finite.facts, Cert.Pre_ln_finite.facts,
  fun m ρ _ => Cert.Kernel.Gen.frame m ρ, fun m ρ _ => Cert.KernelIdeal.Gen.frame m ρ, conv_reference_frame,
  fun m ρ _ => Cert.Kernel2.Gen.frame m ρ, fun m ρ _ => Cert.Kernel2Ideal.Gen.frame m ρ,
  fun m ρ _ => Cert.Kernel2Ideal.Gen.frame m ρ, ffn_reference_frame, fun m ρ _ => ffn_reference_frame m ρ trivial,
  fun m ρ _ => Cert.Kernel3.Gen.frame m ρ, fun m ρ _ => Cert.Kernel3Ideal.Gen.frame m ρ, mix_reference_frame,
  fun m ρ _ => Cert.Kernel4.Gen.frame m ρ, fun m ρ _ => Cert.Kernel4Ideal.Gen.frame m ρ, merge_reference_frame,
  fun m ρ _ => Cert.Kernel5.Gen.frame m ρ, fun m ρ _ => Cert.Kernel5Ideal.Gen.frame m ρ,
  fun m ρ _ => Cert.Kernel5Ideal.Gen.frame m ρ, ple_reference_frame, fun m ρ _ => ple_reference_frame m ρ trivial,
  fun m ρ _ => Cert.Kernel6.Gen.frame m ρ, fun m ρ _ => Cert.Kernel6Ideal.Gen.frame m ρ,
  fun m ρ _ => Cert.Kernel6Ideal.Gen.frame m ρ, ln_reference_frame, fun m ρ _ => ln_reference_frame m ρ trivial,
  fun m ρ _ => Cert.Kernel7.Gen.frame m ρ, fun m ρ _ => Cert.Kernel7Ideal.Gen.frame m ρ, products_reference_frame,
  fun m ρ _ => Cert.Kernel8.Gen.frame m ρ, fun m ρ _ => Cert.Kernel8Ideal.Gen.frame m ρ, ssm_reference_frame,
  fun m ρ _ => Cert.Kernel9.Gen.frame m ρ, fun m ρ _ => Cert.Kernel9Ideal.Gen.frame m ρ, forward_reference_frame,
  trivial, conv_algebraic, trivial, ffn_algebraic, trivial, mix_algebraic, trivial, merge_algebraic,
  trivial, ple_algebraic, trivial, ln_algebraic, trivial, products_algebraic,
  trivial, ssm_algebraic, trivial, forward_algebraic⟩

end Cert.Proof

end
